-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11)
      ∧ r.2.mem ((c.tc : Thread Cert.ReferenceTailIdeal.nD Cert.ReferenceTailIdeal.τ).loc Cert.ReferenceTailIdeal.main_arg12) = m ((c.tc : Thread Cert.ReferenceTailIdeal.nD Cert.ReferenceTailIdeal.τ).loc Cert.ReferenceTailIdeal.main_arg12)
      ∧ r.2.mem ((c.tc : Thread Cert.ReferenceTailIdeal.nD Cert.ReferenceTailIdeal.τ).loc Cert.ReferenceTailIdeal.main_arg13) = m ((c.tc : Thread Cert.ReferenceTailIdeal.nD Cert.ReferenceTailIdeal.τ).loc Cert.ReferenceTailIdeal.main_arg13)
      ∧ r.2.mem ((c.tc : Thread Cert.ReferenceTailIdeal.nD Cert.ReferenceTailIdeal.τ).loc Cert.ReferenceTailIdeal.main_arg14) = m ((c.tc : Thread Cert.ReferenceTailIdeal.nD Cert.ReferenceTailIdeal.τ).loc Cert.ReferenceTailIdeal.main_arg14)
      ∧ r.2.mem ((c.tc : Thread Cert.ReferenceTailIdeal.nD Cert.ReferenceTailIdeal.τ).loc Cert.ReferenceTailIdeal.main_arg15) = m ((c.tc : Thread Cert.ReferenceTailIdeal.nD Cert.ReferenceTailIdeal.τ).loc Cert.ReferenceTailIdeal.main_arg15))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Tail_TailIdeal : Prop :=
  True

def algebraic_TailIdeal_ReferenceTailIdeal [hTailIdeal : Cert.TailIdeal.Facts] [hReferenceTailIdeal : Cert.ReferenceTailIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_TailIdeal m →
    (∀ c : Dev Cert.TailIdeal.nD,
      m' ((c.tc : Thread Cert.ReferenceTailIdeal.nD Cert.ReferenceTailIdeal.τ).loc Cert.ReferenceTailIdeal.main_arg0) = m ((c.tc : Thread Cert.TailIdeal.nD Cert.TailIdeal.τ).loc Cert.TailIdeal.main_arg0)
      ∧ m' ((c.tc : Thread Cert.ReferenceTailIdeal.nD Cert.ReferenceTailIdeal.τ).loc Cert.ReferenceTailIdeal.main_arg1) = m ((c.tc : Thread Cert.TailIdeal.nD Cert.TailIdeal.τ).loc Cert.TailIdeal.main_arg1)
      ∧ m' ((c.tc : Thread Cert.ReferenceTailIdeal.nD Cert.ReferenceTailIdeal.τ).loc Cert.ReferenceTailIdeal.main_arg2) = m ((c.tc : Thread Cert.TailIdeal.nD Cert.TailIdeal.τ).loc Cert.TailIdeal.main_arg2)
      ∧ m' ((c.tc : Thread Cert.ReferenceTailIdeal.nD Cert.ReferenceTailIdeal.τ).loc Cert.ReferenceTailIdeal.main_arg3) = m ((c.tc : Thread Cert.TailIdeal.nD Cert.TailIdeal.τ).loc Cert.TailIdeal.main_arg3)
      ∧ m' ((c.tc : Thread Cert.ReferenceTailIdeal.nD Cert.ReferenceTailIdeal.τ).loc Cert.ReferenceTailIdeal.main_arg4) = m ((c.tc : Thread Cert.TailIdeal.nD Cert.TailIdeal.τ).loc Cert.TailIdeal.main_arg4)
      ∧ m' ((c.tc : Thread Cert.ReferenceTailIdeal.nD Cert.ReferenceTailIdeal.τ).loc Cert.ReferenceTailIdeal.main_arg5) = m ((c.tc : Thread Cert.TailIdeal.nD Cert.TailIdeal.τ).loc Cert.TailIdeal.main_arg5)
      ∧ m' ((c.tc : Thread Cert.ReferenceTailIdeal.nD Cert.ReferenceTailIdeal.τ).loc Cert.ReferenceTailIdeal.main_arg6) = m ((c.tc : Thread Cert.TailIdeal.nD Cert.TailIdeal.τ).loc Cert.TailIdeal.main_arg6)
      ∧ m' ((c.tc : Thread Cert.ReferenceTailIdeal.nD Cert.ReferenceTailIdeal.τ).loc Cert.ReferenceTailIdeal.main_arg7) = m ((c.tc : Thread Cert.TailIdeal.nD Cert.TailIdeal.τ).loc Cert.TailIdeal.main_arg7)
      ∧ m' ((c.tc : Thread Cert.ReferenceTailIdeal.nD Cert.ReferenceTailIdeal.τ).loc Cert.ReferenceTailIdeal.main_arg8) = m ((c.tc : Thread Cert.TailIdeal.nD Cert.TailIdeal.τ).loc Cert.TailIdeal.main_arg8)
      ∧ m' ((c.tc : Thread Cert.ReferenceTailIdeal.nD Cert.ReferenceTailIdeal.τ).loc Cert.ReferenceTailIdeal.main_arg9) = m ((c.tc : Thread Cert.TailIdeal.nD Cert.TailIdeal.τ).loc Cert.TailIdeal.main_arg9)
      ∧ m' ((c.tc : Thread Cert.ReferenceTailIdeal.nD Cert.ReferenceTailIdeal.τ).loc Cert.ReferenceTailIdeal.main_arg10) = m ((c.tc : Thread Cert.TailIdeal.nD Cert.TailIdeal.τ).loc Cert.TailIdeal.main_arg10)
      ∧ m' ((c.tc : Thread Cert.ReferenceTailIdeal.nD Cert.ReferenceTailIdeal.τ).loc Cert.ReferenceTailIdeal.main_arg11) = m ((c.tc : Thread Cert.TailIdeal.nD Cert.TailIdeal.τ).loc Cert.TailIdeal.main_arg11)
      ∧ m' ((c.tc : Thread Cert.ReferenceTailIdeal.nD Cert.ReferenceTailIdeal.τ).loc Cert.ReferenceTailIdeal.main_arg12) = m ((c.tc : Thread Cert.TailIdeal.nD Cert.TailIdeal.τ).loc Cert.TailIdeal.main_arg12)
      ∧ m' ((c.tc : Thread Cert.ReferenceTailIdeal.nD Cert.ReferenceTailIdeal.τ).loc Cert.ReferenceTailIdeal.main_arg13) = m ((c.tc : Thread Cert.TailIdeal.nD Cert.TailIdeal.τ).loc Cert.TailIdeal.main_arg13)
      ∧ m' ((c.tc : Thread Cert.ReferenceTailIdeal.nD Cert.ReferenceTailIdeal.τ).loc Cert.ReferenceTailIdeal.main_arg14) = m ((c.tc : Thread Cert.TailIdeal.nD Cert.TailIdeal.τ).loc Cert.TailIdeal.main_arg14)
      ∧ m' ((c.tc : Thread Cert.ReferenceTailIdeal.nD Cert.ReferenceTailIdeal.τ).loc Cert.ReferenceTailIdeal.main_arg15) = m ((c.tc : Thread Cert.TailIdeal.nD Cert.TailIdeal.τ).loc Cert.TailIdeal.main_arg15)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v95) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9)
          ∧ r.2.mem ((c.tc : Thread Cert.ReferenceTailIdeal.nD Cert.ReferenceTailIdeal.τ).loc Cert.ReferenceTailIdeal.main_arg10) = m' ((c.tc : Thread Cert.ReferenceTailIdeal.nD Cert.ReferenceTailIdeal.τ).loc Cert.ReferenceTailIdeal.main_arg10)
          ∧ r.2.mem ((c.tc : Thread Cert.ReferenceTailIdeal.nD Cert.ReferenceTailIdeal.τ).loc Cert.ReferenceTailIdeal.main_arg11) = m' ((c.tc : Thread Cert.ReferenceTailIdeal.nD Cert.ReferenceTailIdeal.τ).loc Cert.ReferenceTailIdeal.main_arg11)
          ∧ r.2.mem ((c.tc : Thread Cert.ReferenceTailIdeal.nD Cert.ReferenceTailIdeal.τ).loc Cert.ReferenceTailIdeal.main_arg12) = m' ((c.tc : Thread Cert.ReferenceTailIdeal.nD Cert.ReferenceTailIdeal.τ).loc Cert.ReferenceTailIdeal.main_arg12)
          ∧ r.2.mem ((c.tc : Thread Cert.ReferenceTailIdeal.nD Cert.ReferenceTailIdeal.τ).loc Cert.ReferenceTailIdeal.main_arg13) = m' ((c.tc : Thread Cert.ReferenceTailIdeal.nD Cert.ReferenceTailIdeal.τ).loc Cert.ReferenceTailIdeal.main_arg13)
          ∧ r.2.mem ((c.tc : Thread Cert.ReferenceTailIdeal.nD Cert.ReferenceTailIdeal.τ).loc Cert.ReferenceTailIdeal.main_arg14) = m' ((c.tc : Thread Cert.ReferenceTailIdeal.nD Cert.ReferenceTailIdeal.τ).loc Cert.ReferenceTailIdeal.main_arg14)
          ∧ r.2.mem ((c.tc : Thread Cert.ReferenceTailIdeal.nD Cert.ReferenceTailIdeal.τ).loc Cert.ReferenceTailIdeal.main_arg15) = m' ((c.tc : Thread Cert.ReferenceTailIdeal.nD Cert.ReferenceTailIdeal.τ).loc Cert.ReferenceTailIdeal.main_arg15))

def preserves_InProj_InProjIdeal : Prop :=
  True

def algebraic_InProjIdeal_ReferenceInIdeal_pre_finite_in [hInProjIdeal : Cert.InProjIdeal.Facts] [hReferenceInIdeal : Cert.ReferenceInIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_InProjIdeal_finite_in m →
    (∀ c : Dev Cert.InProjIdeal.nD,
      m' ((c.tc : Thread Cert.ReferenceInIdeal.nD Cert.ReferenceInIdeal.τ).loc Cert.ReferenceInIdeal.main_arg0) = m ((c.tc : Thread Cert.InProjIdeal.nD Cert.InProjIdeal.τ).loc Cert.InProjIdeal.main_arg0)
      ∧ m' ((c.tc : Thread Cert.ReferenceInIdeal.nD Cert.ReferenceInIdeal.τ).loc Cert.ReferenceInIdeal.main_arg1) = m ((c.tc : Thread Cert.InProjIdeal.nD Cert.InProjIdeal.τ).loc Cert.InProjIdeal.main_arg1)
      ∧ m' ((c.tc : Thread Cert.ReferenceInIdeal.nD Cert.ReferenceInIdeal.τ).loc Cert.ReferenceInIdeal.main_arg2) = m ((c.tc : Thread Cert.InProjIdeal.nD Cert.InProjIdeal.τ).loc Cert.InProjIdeal.main_arg2)
      ∧ m' ((c.tc : Thread Cert.ReferenceInIdeal.nD Cert.ReferenceInIdeal.τ).loc Cert.ReferenceInIdeal.main_arg3) = m ((c.tc : Thread Cert.InProjIdeal.nD Cert.InProjIdeal.τ).loc Cert.InProjIdeal.main_arg3)
      ∧ m' ((c.tc : Thread Cert.ReferenceInIdeal.nD Cert.ReferenceInIdeal.τ).loc Cert.ReferenceInIdeal.main_arg4) = m ((c.tc : Thread Cert.InProjIdeal.nD Cert.InProjIdeal.τ).loc Cert.InProjIdeal.main_arg4)
      ∧ m' ((c.tc : Thread Cert.ReferenceInIdeal.nD Cert.ReferenceInIdeal.τ).loc Cert.ReferenceInIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)) (v6 : (c : Dev Cert.InProjIdeal.nD) → Buf (Elt Ideal) ((c.tc : Thread Cert.InProjIdeal.nD Cert.InProjIdeal.τ).loc Cert.InProjIdeal.main_v0_6)) (v7 : (c : Dev Cert.InProjIdeal.nD) → Buf (Elt Ideal) ((c.tc : Thread Cert.InProjIdeal.nD Cert.InProjIdeal.τ).loc Cert.InProjIdeal.main_v0_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_v0_6) = v6 c
          ∧ r.2.mem ((c.tc : Thread Cert.InProjIdeal.nD Cert.InProjIdeal.τ).loc Cert.InProjIdeal.main_v0_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v99) = v0 c
          ∧ r.2.mem ((c.tc : Thread Cert.ReferenceInIdeal.nD Cert.ReferenceInIdeal.τ).loc Cert.ReferenceInIdeal.main_v100) = v1 c
          ∧ r.2.mem ((c.tc : Thread Cert.ReferenceInIdeal.nD Cert.ReferenceInIdeal.τ).loc Cert.ReferenceInIdeal.main_v101) = v2 c
          ∧ r.2.mem ((c.tc : Thread Cert.ReferenceInIdeal.nD Cert.ReferenceInIdeal.τ).loc Cert.ReferenceInIdeal.main_v102) = v3 c
          ∧ r.2.mem ((c.tc : Thread Cert.ReferenceInIdeal.nD Cert.ReferenceInIdeal.τ).loc Cert.ReferenceInIdeal.main_v107) = v4 c
          ∧ r.2.mem ((c.tc : Thread Cert.ReferenceInIdeal.nD Cert.ReferenceInIdeal.τ).loc Cert.ReferenceInIdeal.main_v103) = v5 c
          ∧ r.2.mem ((c.tc : Thread Cert.ReferenceInIdeal.nD Cert.ReferenceInIdeal.τ).loc Cert.ReferenceInIdeal.main_v104) = v6 c
          ∧ r.2.mem ((c.tc : Thread Cert.ReferenceInIdeal.nD Cert.ReferenceInIdeal.τ).loc Cert.ReferenceInIdeal.main_v105) = v7 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hReferenceTailIdeal : Cert.ReferenceTailIdeal.Facts) (hInProj : Cert.InProj.Facts) (hInProjIdeal : Cert.InProjIdeal.Facts) (hReferenceInIdeal : Cert.ReferenceInIdeal.Facts) (hPre_finite : Cert.Pre_finite.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_ReferenceTailIdeal (hReferenceTailIdeal := hReferenceTailIdeal)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_ReferenceTailIdeal (hTailIdeal := hTailIdeal) (hReferenceTailIdeal := hReferenceTailIdeal)
    ∧ preserves_InProj_InProjIdeal
    ∧ algebraic_InProjIdeal_ReferenceInIdeal_pre_finite_in (hInProjIdeal := hInProjIdeal) (hReferenceInIdeal := hReferenceInIdeal) (hPre_finite_in := hPre_finite_in)
-- ==== Pre_finite.lean ====
abbrev S2x16384x1024 : Shape := ⟨3, ![2, 16384, 1024]⟩
abbrev S2x64x4x256x256 : Shape := ⟨5, ![2, 64, 4, 256, 256]⟩
abbrev S2x128x128x1024 : Shape := ⟨4, ![2, 128, 128, 1024]⟩
abbrev S128x256 : Shape := ⟨2, ![128, 256]⟩
abbrev S4 : Shape := ⟨1, ![4]⟩
abbrev S_ : Shape := ⟨0, ![]⟩

class Facts : Prop where
  bitsLt_bf16_f32 : FTy.bits .bf16 < FTy.bits .f32
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S2x64x4x256x256 : S_.BroadcastsInDim S2x64x4x256x256 (![] : Fin 0 → Fin S2x64x4x256x256.rank)
  reducesTo_S2x64x4x256x256_S_d0_1_2_3_4 : S2x64x4x256x256.ReducesTo [0, 1, 2, 3, 4] S_

variable [Facts]

def fn_part1 {F : FTy → Type} [FloatOps F] (main_v16 : IVec S_ 1) (main_v17 : FVec F S2x64x4x256x256 .f32) : IVec S_ 1 :=
  let main_v18 : FVec F S2x64x4x256x256 .f32 := Host.absf main_v17
  let main_cst_4 : FVec F S_ .f32 := constant S_ .f32 0x7F800000#32
  let main_v19 : FVec F S2x64x4x256x256 .f32 := broadcastInDim S2x64x4x256x256 ![] bcast_S_S2x64x4x256x256 main_cst_4
  let main_v20 : IVec S2x64x4x256x256 1 := cmpf .olt main_v18 main_v19
  let main_c_5 : IVec S_ 1 := constantI S_ 1 1#1
  let main_v21 : IVec S_ 1 := (fun x v => Host.reduce IntOp.andi x v reducesTo_S2x64x4x256x256_S_d0_1_2_3_4 h_S_) main_v20 main_c_5
  let main_v22 : IVec S_ 1 := andi main_v16 main_v21
  main_v22

def fn {F : FTy → Type} [FloatOps F] (main_arg0 : FVec F S2x16384x1024 .bf16) (main_arg1 : FVec F S2x16384x1024 .bf16) (main_arg2 : FVec F S2x16384x1024 .bf16) (main_arg3 : FVec F S2x64x4x256x256 .bf16) (main_arg4 : IVec S2x128x128x1024 32) (main_arg5 : FVec F S128x256 .bf16) (main_arg6 : FVec F S4 .f32) (main_arg7 : FVec F S4 .f32) : IVec S_ 1 :=
  let main_v0 : FVec F S2x16384x1024 .f32 := (extf .f32 · bitsLt_bf16_f32) main_arg0
  let main_v1 : FVec F S2x16384x1024 .f32 := Host.absf main_v0
  let main_cst : FVec F S_ .f32 := constant S_ .f32 0x7F800000#32
  let main_v2 : FVec F S2x16384x1024 .f32 := broadcastInDim S2x16384x1024 ![] bcast_S_S2x16384x1024 main_cst
  let main_v3 : IVec S2x16384x1024 1 := cmpf .olt main_v1 main_v2
  let main_c : IVec S_ 1 := constantI S_ 1 1#1
  let main_v4 : IVec S_ 1 := (fun x v => Host.reduce IntOp.andi x v reducesTo_S2x16384x1024_S_d0_1_2 h_S_) main_v3 main_c
  let main_v5 : FVec F S2x16384x1024 .f32 := (extf .f32 · bitsLt_bf16_f32) main_arg1
  let main_v6 : FVec F S2x16384x1024 .f32 := Host.absf main_v5
  let main_cst_0 : FVec F S_ .f32 := constant S_ .f32 0x7F800000#32
  let main_v7 : FVec F S2x16384x1024 .f32 := broadcastInDim S2x16384x1024 ![] bcast_S_S2x16384x1024 main_cst_0
  let main_v8 : IVec S2x16384x1024 1 := cmpf .olt main_v6 main_v7
  let main_c_1 : IVec S_ 1 := constantI S_ 1 1#1
  let main_v9 : IVec S_ 1 := (fun x v => Host.reduce IntOp.andi x v reducesTo_S2x16384x1024_S_d0_1_2 h_S_) main_v8 main_c_1
  let main_v10 : IVec S_ 1 := andi main_v4 main_v9
  let main_v11 : FVec F S2x16384x1024 .f32 := (extf .f32 · bitsLt_bf16_f32) main_arg2
  let main_v12 : FVec F S2x16384x1024 .f32 := Host.absf main_v11
  let main_cst_2 : FVec F S_ .f32 := constant S_ .f32 0x7F800000#32
  let main_v13 : FVec F S2x16384x1024 .f32 := broadcastInDim S2x16384x1024 ![] bcast_S_S2x16384x1024 main_cst_2
  let main_v14 : IVec S2x16384x1024 1 := cmpf .olt main_v12 main_v13
  let main_c_3 : IVec S_ 1 := constantI S_ 1 1#1
  let main_v15 : IVec S_ 1 := (fun x v => Host.reduce IntOp.andi x v reducesTo_S2x16384x1024_S_d0_1_2 h_S_) main_v14 main_c_3
  let main_v16 : IVec S_ 1 := andi main_v10 main_v15
  let main_v17 : FVec F S2x64x4x256x256 .f32 := (extf .f32 · bitsLt_bf16_f32) main_arg3
  fn_part1 (F := F) main_v16 main_v17
-- ==== Pre_finite_in.lean ====
abbrev S2x16384x1024 : Shape := ⟨3, ![2, 16384, 1024]⟩
abbrev S1x1024 : Shape := ⟨2, ![1, 1024]⟩
abbrev S1024x7168 : Shape := ⟨2, ![1024, 7168]⟩
abbrev S16384x128 : Shape := ⟨2, ![16384, 128]⟩
abbrev S4 : Shape := ⟨1, ![4]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x7168 : S_.BroadcastsInDim S1024x7168 (![] : Fin 0 → Fin S1024x7168.rank)
  reducesTo_S1024x7168_S_d0_1 : S1024x7168.ReducesTo [0, 1] S_
  bcast_S_S16384x128 : S_.BroadcastsInDim S16384x128 (![] : Fin 0 → Fin S16384x128.rank)
  reducesTo_S16384x128_S_d0_1 : S16384x128.ReducesTo [0, 1] S_

variable [Facts]

def fn_part1 {F : FTy → Type} [FloatOps F] (main_arg4 : FVec F S16384x128 .f32) (main_v14 : IVec S_ 1) (main_v15 : FVec F S16384x128 .f32) (main_v16 : FVec F S16384x128 .f32) : IVec S_ 1 :=
  let main_v17 : IVec S16384x128 1 := cmpf .olt main_v15 main_v16
  let main_c_5 : IVec S_ 1 := constantI S_ 1 1#1
  let main_v18 : IVec S_ 1 := (fun x v => Host.reduce IntOp.andi x v reducesTo_S16384x128_S_d0_1 h_S_) main_v17 main_c_5
  let main_v19 : IVec S_ 1 := andi main_v14 main_v18
  let main_v20 : FVec F S16384x128 .f32 := Host.absf main_arg4
  let main_cst_6 : FVec F S_ .f32 := constant S_ .f32 0x7F800000#32
  let main_v21 : FVec F S16384x128 .f32 := broadcastInDim S16384x128 ![] bcast_S_S16384x128 main_cst_6
  let main_v22 : IVec S16384x128 1 := cmpf .olt main_v20 main_v21
  let main_c_7 : IVec S_ 1 := constantI S_ 1 1#1
  let main_v23 : IVec S_ 1 := (fun x v => Host.reduce IntOp.andi x v reducesTo_S16384x128_S_d0_1 h_S_) main_v22 main_c_7
  let main_v24 : IVec S_ 1 := andi main_v19 main_v23
  main_v24

def fn {F : FTy → Type} [FloatOps F] (main_arg0 : FVec F S2x16384x1024 .f32) (main_arg1 : FVec F S1x1024 .f32) (main_arg2 : FVec F S1024x7168 .bf16) (main_arg3 : FVec F S16384x128 .f32) (main_arg4 : FVec F S16384x128 .f32) (main_arg5 : FVec F S4 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x7168 .f32 := (extf .f32 · bitsLt_bf16_f32) main_arg2
  let main_v10 : FVec F S1024x7168 .f32 := Host.absf main_v9
  let main_cst_2 : FVec F S_ .f32 := constant S_ .f32 0x7F800000#32
  let main_v11 : FVec F S1024x7168 .f32 := broadcastInDim S1024x7168 ![] bcast_S_S1024x7168 main_cst_2
  let main_v12 : IVec S1024x7168 1 := cmpf .olt main_v10 main_v11
  let main_c_3 : IVec S_ 1 := constantI S_ 1 1#1
  let main_v13 : IVec S_ 1 := (fun x v => Host.reduce IntOp.andi x v reducesTo_S1024x7168_S_d0_1 h_S_) main_v12 main_c_3
  let main_v14 : IVec S_ 1 := andi main_v8 main_v13
  let main_v15 : FVec F S16384x128 .f32 := Host.absf main_arg3
  let main_cst_4 : FVec F S_ .f32 := constant S_ .f32 0x7F800000#32
  let main_v16 : FVec F S16384x128 .f32 := broadcastInDim S16384x128 ![] bcast_S_S16384x128 main_cst_4
  fn_part1 (F := F) main_arg4 main_v14 main_v15 main_v16
-- ==== Kernel.lean ====
abbrev S2x16384x1024 : Shape := ⟨3, ![2, 16384, 1024]⟩
abbrev S2x64x4x256x256 : Shape := ⟨5, ![2, 64, 4, 256, 256]⟩
abbrev S2x128x128x1024 : Shape := ⟨4, ![2, 128, 128, 1024]⟩
abbrev S128x256 : Shape := ⟨2, ![128, 256]⟩
abbrev S4 : Shape := ⟨1, ![4]⟩
abbrev S1x1024x1024 : Shape := ⟨3, ![1, 1024, 1024]⟩
abbrev S1x4x4x256x256 : Shape := ⟨5, ![1, 4, 4, 256, 256]⟩
abbrev S1x8x128x1024 : Shape := ⟨4, ![1, 8, 128, 1024]⟩
abbrev S1x128x8x1024 : Shape := ⟨4, ![1, 128, 8, 1024]⟩
abbrev S4x256x256 : Shape := ⟨3, ![4, 256, 256]⟩
abbrev S4x1x256 : Shape := ⟨3, ![4, 1, 256]⟩
abbrev S1 : Shape := ⟨1, ![1]⟩
abbrev S256x256 : Shape := ⟨2, ![256, 256]⟩
abbrev S1x256x256 : Shape := ⟨3, ![1, 256, 256]⟩
abbrev S1x256 : Shape := ⟨2, ![1, 256]⟩
abbrev S1x1x256 : Shape := ⟨3, ![1, 1, 256]⟩
abbrev S256x768 : Shape := ⟨2, ![256, 768]⟩
abbrev S1x1x1x256x256 : Shape := ⟨5, ![1, 1, 1, 256, 256]⟩
abbrev S768x256 : Shape := ⟨2, ![768, 256]⟩
abbrev S256 : Shape := ⟨1, ![256]⟩
abbrev S256x1 : Shape := ⟨2, ![256, 1]⟩
abbrev S1x1x128x1024 : Shape := ⟨4, ![1, 1, 128, 1024]⟩
abbrev S128x1024 : Shape := ⟨2, ![128, 1024]⟩
abbrev S256x1024 : Shape := ⟨2, ![256, 1024]⟩
abbrev S1x128x1x1024 : Shape := ⟨4, ![1, 128, 1, 1024]⟩

abbrev nBuf : Space → Nat
  | .hbm => 10
  | .vmem => 21
  | .smem => 2
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S2x64x4x256x256, .bf16⟩
  | .hbm, ⟨4, _⟩ => ⟨S2x128x128x1024, .i32⟩
  | .hbm, ⟨5, _⟩ => ⟨S128x256, .bf16⟩
  | .hbm, ⟨6, _⟩ => ⟨S4, .f32⟩
  | .hbm, ⟨7, _⟩ => ⟨S4, .f32⟩
  | .hbm, ⟨8, _⟩ => ⟨S2x16384x1024, .bf16⟩
  | .hbm, ⟨9, _⟩ => ⟨S2x128x128x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x4x4x256x256, .bf16⟩
  | .local _ .vmem, ⟨7, _⟩ => ⟨S1x4x4x256x256, .bf16⟩
  | .local _ .vmem, ⟨8, _⟩ => ⟨S1x8x128x1024, .i32⟩
  | .local _ .vmem, ⟨9, _⟩ => ⟨S1x8x128x1024, .i32⟩
  | .local _ .vmem, ⟨10, _⟩ => ⟨S128x256, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x128x8x1024, .f32⟩
  | .local _ .vmem, ⟨14, _⟩ => ⟨S1x128x8x1024, .f32⟩
  | .local _ .vmem, ⟨15, _⟩ => ⟨S4x256x256, .f32⟩
  | .local _ .vmem, ⟨16, _⟩ => ⟨S4x256x256, .bf16⟩
  | .local _ .vmem, ⟨17, _⟩ => ⟨S4x256x256, .bf16⟩
  | .local _ .vmem, ⟨18, _⟩ => ⟨S4x256x256, .bf16⟩
  | .local _ .vmem, ⟨19, _⟩ => ⟨S4x256x256, .bf16⟩
  | .local _ .vmem, ⟨20, _⟩ => ⟨S4x1x256, .f32⟩
  | .local _ .smem, ⟨0, _⟩ => ⟨S4, .f32⟩
  | .local _ .smem, ⟨1, _⟩ => ⟨S4, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x4x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x16384x1024 : Shape := ⟨3, ![2, 16384, 1024]⟩
abbrev S2x64x4x256x256 : Shape := ⟨5, ![2, 64, 4, 256, 256]⟩
abbrev S2x128x128x1024 : Shape := ⟨4, ![2, 128, 128, 1024]⟩
abbrev S128x256 : Shape := ⟨2, ![128, 256]⟩
abbrev S4 : Shape := ⟨1, ![4]⟩
abbrev S2x16384x4x256 : Shape := ⟨4, ![2, 16384, 4, 256]⟩
abbrev S2x4x16384x256 : Shape := ⟨4, ![2, 4, 16384, 256]⟩
abbrev S_ : Shape := ⟨0, ![]⟩
abbrev S16384x16384 : Shape := ⟨2, ![16384, 16384]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S2x4x16384x16384 : Shape := ⟨4, ![2, 4, 16384, 16384]⟩
abbrev S1x4x16384x16384 : Shape := ⟨4, ![1, 4, 16384, 16384]⟩
abbrev S4x1 : Shape := ⟨2, ![4, 1]⟩
abbrev S4x256 : Shape := ⟨2, ![4, 256]⟩
abbrev S2x4x64x256x256 : Shape := ⟨5, ![2, 4, 64, 256, 256]⟩
abbrev S1x4x1x256x1 : Shape := ⟨5, ![1, 4, 1, 256, 1]⟩
abbrev S2x4x16384 : Shape := ⟨3, ![2, 4, 16384]⟩
abbrev S2x4x16384x1 : Shape := ⟨4, ![2, 4, 16384, 1]⟩
abbrev S2x128x128x1024x2 : Shape := ⟨5, ![2, 128, 128, 1024, 2]⟩
abbrev S2x128x128x2x1024 : Shape := ⟨5, ![2, 128, 128, 2, 1024]⟩
abbrev S2x128x256x1024 : Shape := ⟨4, ![2, 128, 256, 1024]⟩
abbrev S2x128x1024x128 : Shape := ⟨4, ![2, 128, 1024, 128]⟩

abbrev nBuf : Space → Nat
  | .hbm => 136
  | .vmem => 0
  | .smem => 0
  | _ => 0

abbrev hbmTy0_0 (i : Nat) : BufTy := match i % 128 with
  | 0 => ⟨S2x16384x1024, .bf16⟩
  | 1 => ⟨S2x16384x1024, .bf16⟩
  | 2 => ⟨S2x16384x1024, .bf16⟩
  | 3 => ⟨S2x64x4x256x256, .bf16⟩
  | 4 => ⟨S2x128x128x1024, .i32⟩
  | 5 => ⟨S128x256, .bf16⟩
  | 6 => ⟨S4, .f32⟩
  | 7 => ⟨S4, .f32⟩
  | 8 => ⟨S2x16384x4x256, .bf16⟩
  | 9 => ⟨S2x4x16384x256, .bf16⟩
  | 10 => ⟨S2x4x16384x256, .f32⟩
  | 11 => ⟨S2x16384x4x256, .bf16⟩
  | 12 => ⟨S2x4x16384x256, .bf16⟩
  | 13 => ⟨S2x4x16384x256, .f32⟩
  | 14 => ⟨S2x16384x4x256, .bf16⟩
  | 15 => ⟨S2x4x16384x256, .bf16⟩
  | 16 => ⟨S2x4x16384x256, .f32⟩
  | 17 => ⟨S4, .f32⟩
  | 18 => ⟨S_, .f32⟩
  | 19 => ⟨S4, .f32⟩
  | 20 => ⟨S4, .f32⟩
  | 21 => ⟨S4, .f32⟩
  | 22 => ⟨S4, .f32⟩
  | 23 => ⟨S4, .i1⟩
  | 24 => ⟨S4, .f32⟩
  | 25 => ⟨S4, .f32⟩
  | 26 => ⟨S4, .f32⟩
  | 27 => ⟨S4, .f32⟩
  | 28 => ⟨S4, .f32⟩
  | 29 => ⟨S4, .f32⟩
  | 30 => ⟨S4, .f32⟩
  | 31 => ⟨S4, .f32⟩
  | 32 => ⟨S4, .f32⟩
  | 33 => ⟨S4, .f32⟩
  | 34 => ⟨S_, .f32⟩
  | 35 => ⟨S4, .f32⟩
  | 36 => ⟨S4, .f32⟩
  | 37 => ⟨S4, .f32⟩
  | 38 => ⟨S4, .f32⟩
  | 39 => ⟨S4, .i1⟩
  | 40 => ⟨S4, .f32⟩
  | 41 => ⟨S4, .f32⟩
  | 42 => ⟨S4, .f32⟩
  | 43 => ⟨S4, .f32⟩
  | 44 => ⟨S4, .f32⟩
  | 45 => ⟨S4, .f32⟩
  | 46 => ⟨S4, .f32⟩
  | 47 => ⟨S4, .f32⟩
  | 48 => ⟨S4, .f32⟩
  | 49 => ⟨S16384x16384, .i32⟩
  | 50 => ⟨S16384x16384, .i32⟩
  | 51 => ⟨S16384x16384, .i32⟩
  | 52 => ⟨S16384x16384, .i32⟩
  | 53 => ⟨S16384x16384, .f32⟩
  | 54 => ⟨S4x1x1, .f32⟩
  | 55 => ⟨S1x16384x16384, .f32⟩
  | 56 => ⟨S4x16384x16384, .f32⟩
  | 57 => ⟨S4x16384x16384, .f32⟩
  | 58 => ⟨S4x16384x16384, .f32⟩
  | 59 => ⟨S4x16384x16384, .f32⟩
  | 60 => ⟨S4x1x1, .f32⟩
  | 61 => ⟨S1x16384x16384, .f32⟩
  | 62 => ⟨S4x16384x16384, .f32⟩
  | 63 => ⟨S4x16384x16384, .f32⟩
  | 64 => ⟨S4x16384x16384, .f32⟩
  | 65 => ⟨S4x16384x16384, .f32⟩
  | 66 => ⟨S_, .i32⟩
  | 67 => ⟨S16384x16384, .i32⟩
  | 68 => ⟨S16384x16384, .i32⟩
  | 69 => ⟨S16384x16384, .i32⟩
  | 70 => ⟨S16384x16384, .i1⟩
  | 71 => ⟨S16384x16384, .i1⟩
  | 72 => ⟨S_, .f32⟩
  | 73 => ⟨S_, .f32⟩
  | 74 => ⟨S4x16384x16384, .i1⟩
  | 75 => ⟨S4x16384x16384, .f32⟩
  | 76 => ⟨S4x16384x16384, .f32⟩
  | 77 => ⟨S4x16384x16384, .i1⟩
  | 78 => ⟨S4x16384x16384, .f32⟩
  | 79 => ⟨S2x4x16384x16384, .f32⟩
  | 80 => ⟨S1x4x16384x16384, .f32⟩
  | 81 => ⟨S2x4x16384x16384, .f32⟩
  | 82 => ⟨S2x4x16384x16384, .f32⟩
  | 83 => ⟨S2x4x16384x256, .f32⟩
  | 84 => ⟨S4x1, .f32⟩
  | 85 => ⟨S4x256, .i32⟩
  | 86 => ⟨S_, .i32⟩
  | 87 => ⟨S4x256, .i32⟩
  | 88 => ⟨S4x256, .i32⟩
  | 89 => ⟨S4x256, .f32⟩
  | 90 => ⟨S4x256, .f32⟩
  | 91 => ⟨S4x256, .f32⟩
  | 92 => ⟨S4x256, .f32⟩
  | 93 => ⟨S2x4x64x256x256, .f32⟩
  | 94 => ⟨S1x4x1x256x1, .f32⟩
  | 95 => ⟨S2x4x64x256x256, .f32⟩
  | 96 => ⟨S2x4x64x256x256, .f32⟩
  | 97 => ⟨S2x64x4x256x256, .f32⟩
  | 98 => ⟨S2x4x64x256x256, .f32⟩
  | 99 => ⟨S2x4x16384x256, .f32⟩
  | 100 => ⟨S2x4x16384x256, .f32⟩
  | 101 => ⟨S_, .f32⟩
  | 102 => ⟨S2x4x16384, .f32⟩
  | 103 => ⟨S2x4x16384x1, .f32⟩
  | 104 => ⟨S_, .f32⟩
  | 105 => ⟨S2x4x16384x1, .f32⟩
  | 106 => ⟨S2x4x16384x1, .f32⟩
  | 107 => ⟨S2x4x16384x256, .f32⟩
  | 108 => ⟨S2x4x16384x256, .f32⟩
  | 109 => ⟨S2x4x16384x256, .f32⟩
  | 110 => ⟨S_, .f32⟩
  | 111 => ⟨S2x4x16384, .f32⟩
  | 112 => ⟨S2x4x16384x1, .f32⟩
  | 113 => ⟨S_, .f32⟩
  | 114 => ⟨S2x4x16384x1, .f32⟩
  | 115 => ⟨S2x4x16384x1, .f32⟩
  | 116 => ⟨S2x4x16384x256, .f32⟩
  | 117 => ⟨S2x4x16384x256, .f32⟩
  | 118 => ⟨S_, .f32⟩
  | 119 => ⟨S2x4x16384x1, .f32⟩
  | 120 => ⟨S2x4x16384x1, .f32⟩
  | 121 => ⟨S2x4x16384x1, .f32⟩
  | 122 => ⟨S2x4x16384x256, .f32⟩
  | 123 => ⟨S2x4x16384x256, .f32⟩
  | 124 => ⟨S2x16384x4x256, .f32⟩
  | 125 => ⟨S2x16384x1024, .f32⟩
  | 126 => ⟨S2x128x128x1024x2, .bf16⟩
  | 127 => ⟨S2x128x128x2x1024, .bf16⟩
  | _ => ⟨S2x16384x1024, .bf16⟩

abbrev hbmTy0_1 (i : Nat) : BufTy := match i % 128 with
  | 0 => ⟨S2x128x256x1024, .bf16⟩
  | 1 => ⟨S2x128x256x1024, .f32⟩
  | 2 => ⟨S128x256, .f32⟩
  | 3 => ⟨S2x128x1024x128, .f32⟩
  | 4 => ⟨S2x128x128x1024, .f32⟩
  | 5 => ⟨S2x16384x1024, .bf16⟩
  | 6 => ⟨S2x128x128x1024, .bf16⟩
  | 7 => ⟨S2x128x128x1024, .f32⟩
  | _ => ⟨S2x16384x1024, .bf16⟩

abbrev hbmTy (i : Nat) : BufTy := match i / 128 with
  | 0 => hbmTy0_0 i
  | 1 => hbmTy0_1 i
  | _ => ⟨S2x16384x1024, .bf16⟩

abbrev bufTy : (tb : Table) → Fin (tcTables nBuf tb) → BufTy
  | .hbm, ⟨i, _⟩ => hbmTy i
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v9 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_c : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v33 : Ref sig .tc := ⟨.hbm, 76, rfl⟩
abbrev main_call3_v0 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_c_0 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_1 : Ref sig .tc := ⟨.hbm, 101, rfl⟩
abbrev main_v56 : Ref sig .tc := ⟨.hbm, 102, rfl⟩
abbrev main_v57 : Ref sig .tc := ⟨.hbm, 103, rfl⟩
abbrev main_cst_2 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_3 : Ref sig .tc := ⟨.hbm, 110, rfl⟩
abbrev main_v63 : Ref sig .tc := ⟨.hbm, 111, rfl⟩
abbrev main_v64 : Ref sig .tc := ⟨.hbm, 112, rfl⟩
abbrev main_cst_4 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_5 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩

abbrev nD : Nat := 1
abbrev τ : Topo := Topo.v7x

variable {F : FTy → Type} [FloatOps F]
-- ==== Tail.lean ====
abbrev S2x16384x1024 : Shape := ⟨3, ![2, 16384, 1024]⟩
abbrev S2x64x128x1024 : Shape := ⟨4, ![2, 64, 128, 1024]⟩
abbrev S2x1024x1024 : Shape := ⟨3, ![2, 1024, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1x512x1024 : Shape := ⟨3, ![1, 512, 1024]⟩
abbrev S1x2x128x1024 : Shape := ⟨4, ![1, 2, 128, 1024]⟩
abbrev S1x1024x1024 : Shape := ⟨3, ![1, 1024, 1024]⟩
abbrev S512x1024 : Shape := ⟨2, ![512, 1024]⟩
abbrev S8x512x128 : Shape := ⟨3, ![8, 512, 128]⟩
abbrev S1x256x1024 : Shape := ⟨3, ![1, 256, 1024]⟩
abbrev S256x1024 : Shape := ⟨2, ![256, 1024]⟩
abbrev S1x1x128x1024 : Shape := ⟨4, ![1, 1, 128, 1024]⟩
abbrev S1x128x1024 : Shape := ⟨3, ![1, 128, 1024]⟩
abbrev S128x1024 : Shape := ⟨2, ![128, 1024]⟩
abbrev S256x128 : Shape := ⟨2, ![256, 128]⟩
abbrev S1x256x128 : Shape := ⟨3, ![1, 256, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S256x256 : Shape := ⟨2, ![256, 256]⟩

abbrev nBuf : Space → Nat
  | .hbm => 17
  | .vmem => 28
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x1024, .bf16⟩
  | .hbm, ⟨3, _⟩ => ⟨S2x64x128x1024, .i32⟩
  | .hbm, ⟨4, _⟩ => ⟨S2x16384x1024, .bf16⟩
  | .hbm, ⟨5, _⟩ => ⟨S2x16384x1024, .bf16⟩
  | .hbm, ⟨6, _⟩ => ⟨S2x1024x1024, .bf16⟩
  | .hbm, ⟨7, _⟩ => ⟨S2x1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x2x128x1024, .i32⟩
  | .local _ .vmem, ⟨7, _⟩ => ⟨S1x2x128x1024, .i32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | .local _ .vmem, ⟨26, _⟩ => ⟨S512x1024, .bf16⟩
  | .local _ .vmem, ⟨27, _⟩ => ⟨S8x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceTailIdeal.lean ====
abbrev S2x16384x1024 : Shape := ⟨3, ![2, 16384, 1024]⟩
abbrev S2x64x128x1024 : Shape := ⟨4, ![2, 64, 128, 1024]⟩
abbrev S2x1024x1024 : Shape := ⟨3, ![2, 1024, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x64x128x1024x2 : Shape := ⟨5, ![2, 64, 128, 1024, 2]⟩
abbrev S2x64x2x128x1024 : Shape := ⟨5, ![2, 64, 2, 128, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4x256 : Shape := ⟨4, ![2, 16384, 4, 256]⟩
abbrev S2x16384x4 : Shape := ⟨3, ![2, 16384, 4]⟩
abbrev S2x16384x4x1 : Shape := ⟨4, ![2, 16384, 4, 1]⟩
abbrev S2x16384x4096 : Shape := ⟨3, ![2, 16384, 4096]⟩

abbrev nBuf : Space → Nat
  | .hbm => 138
  | .vmem => 0
  | .smem => 0
  | _ => 0

abbrev hbmTy0_0 (i : Nat) : BufTy := match i % 128 with
  | 0 => ⟨S2x16384x1024, .f32⟩
  | 1 => ⟨S2x16384x1024, .bf16⟩
  | 2 => ⟨S2x16384x1024, .bf16⟩
  | 3 => ⟨S2x64x128x1024, .i32⟩
  | 4 => ⟨S2x16384x1024, .bf16⟩
  | 5 => ⟨S2x16384x1024, .bf16⟩
  | 6 => ⟨S2x1024x1024, .bf16⟩
  | 7 => ⟨S2x1024x1024, .bf16⟩
  | 8 => ⟨S1024x1024, .bf16⟩
  | 9 => ⟨S1024x1024, .bf16⟩
  | 10 => ⟨S1024x1024, .bf16⟩
  | 11 => ⟨S1x1024, .f32⟩
  | 12 => ⟨S1x1024, .f32⟩
  | 13 => ⟨S1024x4096, .bf16⟩
  | 14 => ⟨S4096x1024, .bf16⟩
  | 15 => ⟨S1x1024, .f32⟩
  | 16 => ⟨S2x64x128x1024x2, .bf16⟩
  | 17 => ⟨S2x64x2x128x1024, .bf16⟩
  | 18 => ⟨S2x16384x1024, .bf16⟩
  | 19 => ⟨S2x16384x1024, .f32⟩
  | 20 => ⟨S2x16384x1024, .f32⟩
  | 21 => ⟨S2x16384x1024, .f32⟩
  | 22 => ⟨S2x16384x1024, .f32⟩
  | 23 => ⟨S2x16384x1024, .f32⟩
  | 24 => ⟨S2x1024x1024, .f32⟩
  | 25 => ⟨S2x1024x1024, .f32⟩
  | 26 => ⟨S1024x1024, .f32⟩
  | 27 => ⟨S1024x1024, .f32⟩
  | 28 => ⟨S1024x1024, .f32⟩
  | 29 => ⟨S1024x4096, .f32⟩
  | 30 => ⟨S4096x1024, .f32⟩
  | 31 => ⟨S2x16384x1024, .f32⟩
  | 32 => ⟨S2x16384x1024, .f32⟩
  | 33 => ⟨S_, .f32⟩
  | 34 => ⟨S2x16384x1024, .f32⟩
  | 35 => ⟨S2x16384x1024, .f32⟩
  | 36 => ⟨S_, .f32⟩
  | 37 => ⟨S2x16384x1024, .f32⟩
  | 38 => ⟨S2x16384x1024, .f32⟩
  | 39 => ⟨S2x16384x1024, .f32⟩
  | 40 => ⟨S2x16384x1024, .f32⟩
  | 41 => ⟨S2x16384x1024, .f32⟩
  | 42 => ⟨S2x16384x1024, .f32⟩
  | 43 => ⟨S2x16384x1024, .f32⟩
  | 44 => ⟨S2x16384x1024, .f32⟩
  | 45 => ⟨S_, .f32⟩
  | 46 => ⟨S2x16384x1024, .f32⟩
  | 47 => ⟨S2x16384x1024, .f32⟩
  | 48 => ⟨S_, .f32⟩
  | 49 => ⟨S2x16384x1024, .f32⟩
  | 50 => ⟨S2x16384x1024, .f32⟩
  | 51 => ⟨S2x16384x1024, .f32⟩
  | 52 => ⟨S2x16384x1024, .f32⟩
  | 53 => ⟨S2x16384x1024, .f32⟩
  | 54 => ⟨S_, .f32⟩
  | 55 => ⟨S2x16384x1024, .f32⟩
  | 56 => ⟨S2x16384x1024, .f32⟩
  | 57 => ⟨S_, .f32⟩
  | 58 => ⟨S2x16384x1024, .f32⟩
  | 59 => ⟨S2x16384x1024, .f32⟩
  | 60 => ⟨S2x16384x1024, .f32⟩
  | 61 => ⟨S2x16384x1024, .f32⟩
  | 62 => ⟨S2x16384x1024, .f32⟩
  | 63 => ⟨S2x16384x1024, .f32⟩
  | 64 => ⟨S2x16384x1024, .f32⟩
  | 65 => ⟨S_, .f32⟩
  | 66 => ⟨S2x16384, .f32⟩
  | 67 => ⟨S2x16384x1, .f32⟩
  | 68 => ⟨S_, .f32⟩
  | 69 => ⟨S2x16384x1, .f32⟩
  | 70 => ⟨S2x16384x1, .f32⟩
  | 71 => ⟨S_, .f32⟩
  | 72 => ⟨S2x16384x1, .f32⟩
  | 73 => ⟨S2x16384x1, .f32⟩
  | 74 => ⟨S2x16384x1, .f32⟩
  | 75 => ⟨S2x16384x1024, .f32⟩
  | 76 => ⟨S2x16384x1024, .f32⟩
  | 77 => ⟨S1x1x1024, .f32⟩
  | 78 => ⟨S2x16384x1024, .f32⟩
  | 79 => ⟨S2x16384x1024, .f32⟩
  | 80 => ⟨S2x16384x1024, .f32⟩
  | 81 => ⟨S2x16384x4x256, .f32⟩
  | 82 => ⟨S_, .f32⟩
  | 83 => ⟨S2x16384x4, .f32⟩
  | 84 => ⟨S_, .f32⟩
  | 85 => ⟨S2x16384x4, .f32⟩
  | 86 => ⟨S2x16384x4, .f32⟩
  | 87 => ⟨S2x16384x4x1, .f32⟩
  | 88 => ⟨S2x16384x4x256, .f32⟩
  | 89 => ⟨S2x16384x4x256, .f32⟩
  | 90 => ⟨S2x16384x4x256, .f32⟩
  | 91 => ⟨S_, .f32⟩
  | 92 => ⟨S2x16384x4, .f32⟩
  | 93 => ⟨S2x16384x4x1, .f32⟩
  | 94 => ⟨S2x16384x4x256, .f32⟩
  | 95 => ⟨S2x16384x4x256, .f32⟩
  | 96 => ⟨S2x16384x1024, .f32⟩
  | 97 => ⟨S2x16384x1024, .f32⟩
  | 98 => ⟨S2x16384x1024, .f32⟩
  | 99 => ⟨S2x16384x1024, .f32⟩
  | 100 => ⟨S_, .f32⟩
  | 101 => ⟨S2x16384, .f32⟩
  | 102 => ⟨S2x16384x1, .f32⟩
  | 103 => ⟨S_, .f32⟩
  | 104 => ⟨S2x16384x1, .f32⟩
  | 105 => ⟨S2x16384x1, .f32⟩
  | 106 => ⟨S_, .f32⟩
  | 107 => ⟨S2x16384x1, .f32⟩
  | 108 => ⟨S2x16384x1, .f32⟩
  | 109 => ⟨S2x16384x1, .f32⟩
  | 110 => ⟨S2x16384x1024, .f32⟩
  | 111 => ⟨S2x16384x1024, .f32⟩
  | 112 => ⟨S1x1x1024, .f32⟩
  | 113 => ⟨S2x16384x1024, .f32⟩
  | 114 => ⟨S2x16384x1024, .f32⟩
  | 115 => ⟨S2x16384x4096, .f32⟩
  | 116 => ⟨S_, .f32⟩
  | 117 => ⟨S2x16384x4096, .f32⟩
  | 118 => ⟨S2x16384x4096, .f32⟩
  | 119 => ⟨S2x16384x4096, .f32⟩
  | 120 => ⟨S2x16384x1024, .f32⟩
  | 121 => ⟨S2x16384x1024, .f32⟩
  | 122 => ⟨S2x16384x1024, .f32⟩
  | 123 => ⟨S_, .f32⟩
  | 124 => ⟨S2x16384, .f32⟩
  | 125 => ⟨S2x16384x1, .f32⟩
  | 126 => ⟨S_, .f32⟩
  | 127 => ⟨S2x16384x1, .f32⟩
  | _ => ⟨S2x16384x1024, .f32⟩

abbrev hbmTy0_1 (i : Nat) : BufTy := match i % 128 with
  | 0 => ⟨S2x16384x1, .f32⟩
  | 1 => ⟨S_, .f32⟩
  | 2 => ⟨S2x16384x1, .f32⟩
  | 3 => ⟨S2x16384x1, .f32⟩
  | 4 => ⟨S2x16384x1, .f32⟩
  | 5 => ⟨S2x16384x1024, .f32⟩
  | 6 => ⟨S2x16384x1024, .f32⟩
  | 7 => ⟨S1x1x1024, .f32⟩
  | 8 => ⟨S2x16384x1024, .f32⟩
  | 9 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_cst_10 : Ref sig .tc := ⟨.hbm, 103, rfl⟩
abbrev main_v68 : Ref sig .tc := ⟨.hbm, 104, rfl⟩
abbrev main_v69 : Ref sig .tc := ⟨.hbm, 105, rfl⟩
abbrev main_cst_11 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call1_cst : Ref sig .tc := ⟨.hbm, 116, rfl⟩
abbrev main_call1_v0 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_12 : Ref sig .tc := ⟨.hbm, 123, rfl⟩
abbrev main_v84 : Ref sig .tc := ⟨.hbm, 124, rfl⟩
abbrev main_v85 : Ref sig .tc := ⟨.hbm, 125, rfl⟩
abbrev main_cst_13 : Ref sig .tc := ⟨.hbm, 126, rfl⟩
abbrev main_v86 : Ref sig .tc := ⟨.hbm, 127, rfl⟩
abbrev main_v87 : Ref sig .tc := ⟨.hbm, 128, rfl⟩
abbrev main_cst_14 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]
-- ==== InProj.lean ====
abbrev S2x16384x1024 : Shape := ⟨3, ![2, 16384, 1024]⟩
abbrev S1x1024 : Shape := ⟨2, ![1, 1024]⟩
abbrev S1024x7168 : Shape := ⟨2, ![1024, 7168]⟩
abbrev S16384x128 : Shape := ⟨2, ![16384, 128]⟩
abbrev S4 : Shape := ⟨1, ![4]⟩
abbrev S2x64x4x256x256 : Shape := ⟨5, ![2, 64, 4, 256, 256]⟩
abbrev S1x512x1024 : Shape := ⟨3, ![1, 512, 1024]⟩
abbrev S512x128 : Shape := ⟨2, ![512, 128]⟩
abbrev S1x2x4x256x256 : Shape := ⟨5, ![1, 2, 4, 256, 256]⟩
abbrev S8x512x128 : Shape := ⟨3, ![8, 512, 128]⟩
abbrev S4x256x256 : Shape := ⟨3, ![4, 256, 256]⟩
abbrev S4x1x256 : Shape := ⟨3, ![4, 1, 256]⟩
abbrev S1 : Shape := ⟨1, ![1]⟩
abbrev S256x256 : Shape := ⟨2, ![256, 256]⟩
abbrev S1x256x256 : Shape := ⟨3, ![1, 256, 256]⟩
abbrev S1x256 : Shape := ⟨2, ![1, 256]⟩
abbrev S1x1x256 : Shape := ⟨3, ![1, 1, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩
abbrev S1x256x128 : Shape := ⟨3, ![1, 256, 128]⟩
abbrev S1x1x1x256x256 : Shape := ⟨5, ![1, 1, 1, 256, 256]⟩
abbrev S128x128 : Shape := ⟨2, ![128, 128]⟩
abbrev S1x128x128 : Shape := ⟨3, ![1, 128, 128]⟩
abbrev S1x512x128 : Shape := ⟨3, ![1, 512, 128]⟩

abbrev nBuf : Space → Nat
  | .hbm => 14
  | .vmem => 28
  | .smem => 1
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1024x7168, .bf16⟩
  | .hbm, ⟨3, _⟩ => ⟨S16384x128, .f32⟩
  | .hbm, ⟨4, _⟩ => ⟨S16384x128, .f32⟩
  | .hbm, ⟨5, _⟩ => ⟨S4, .f32⟩
  | .hbm, ⟨6, _⟩ => ⟨S2x16384x1024, .bf16⟩
  | .hbm, ⟨7, _⟩ => ⟨S2x16384x1024, .bf16⟩
  | .hbm, ⟨8, _⟩ => ⟨S2x16384x1024, .bf16⟩
  | .hbm, ⟨9, _⟩ => ⟨S2x16384x1024, .bf16⟩
  | .hbm, ⟨10, _⟩ => ⟨S2x16384x1024, .f32⟩
  | .hbm, ⟨11, _⟩ => ⟨S2x16384x1024, .bf16⟩
  | .hbm, ⟨12, _⟩ => ⟨S2x16384x1024, .bf16⟩
  | .hbm, ⟨13, _⟩ => ⟨S2x64x4x256x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x7168, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x2x4x256x256, .bf16⟩
  | .local _ .vmem, ⟨23, _⟩ => ⟨S1x2x4x256x256, .bf16⟩
  | .local _ .vmem, ⟨24, _⟩ => ⟨S8x512x128, .f32⟩
  | .local _ .vmem, ⟨25, _⟩ => ⟨S4x256x256, .f32⟩
  | .local _ .vmem, ⟨26, _⟩ => ⟨S4x256x256, .bf16⟩
  | .local _ .vmem, ⟨27, _⟩ => ⟨S4x1x256, .f32⟩
  | .local _ .smem, ⟨0, _⟩ => ⟨S4, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_13 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x4x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceInIdeal.lean ====
abbrev S2x16384x1024 : Shape := ⟨3, ![2, 16384, 1024]⟩
abbrev S1x1024 : Shape := ⟨2, ![1, 1024]⟩
abbrev S1024x7168 : Shape := ⟨2, ![1024, 7168]⟩
abbrev S16384x128 : Shape := ⟨2, ![16384, 128]⟩
abbrev S4 : Shape := ⟨1, ![4]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x7168 : Shape := ⟨3, ![2, 16384, 7168]⟩
abbrev S2x16384x4x256 : Shape := ⟨4, ![2, 16384, 4, 256]⟩
abbrev S2x16384x4x128 : Shape := ⟨4, ![2, 16384, 4, 128]⟩
abbrev S16384x1x128 : Shape := ⟨3, ![16384, 1, 128]⟩
abbrev S1x16384x1x128 : Shape := ⟨4, ![1, 16384, 1, 128]⟩
abbrev S64x16384 : Shape := ⟨2, ![64, 16384]⟩
abbrev S4x1x1 : Shape := ⟨3, ![4, 1, 1]⟩
abbrev S1x64x16384 : Shape := ⟨3, ![1, 64, 16384]⟩
abbrev S4x64x16384 : Shape := ⟨3, ![4, 64, 16384]⟩
abbrev S2x4x16384x256 : Shape := ⟨4, ![2, 4, 16384, 256]⟩
abbrev S2x4x1x16384x256 : Shape := ⟨5, ![2, 4, 1, 16384, 256]⟩
abbrev S1x4x64x16384x1 : Shape := ⟨5, ![1, 4, 64, 16384, 1]⟩
abbrev S2x4x64x16384x256 : Shape := ⟨5, ![2, 4, 64, 16384, 256]⟩
abbrev S2x4x64x256x256 : Shape := ⟨5, ![2, 4, 64, 256, 256]⟩
abbrev S2x64x4x256x256 : Shape := ⟨5, ![2, 64, 4, 256, 256]⟩
abbrev S2x64x2x128x1024 : Shape := ⟨5, ![2, 64, 2, 128, 1024]⟩
abbrev S2x64x128x2x1024 : Shape := ⟨5, ![2, 64, 128, 2, 1024]⟩

abbrev nBuf : Space → Nat
  | .hbm => 140
  | .vmem => 0
  | .smem => 0
  | _ => 0

abbrev hbmTy0_0 (i : Nat) : BufTy := match i % 128 with
  | 0 => ⟨S2x16384x1024, .f32⟩
  | 1 => ⟨S1x1024, .f32⟩
  | 2 => ⟨S1024x7168, .bf16⟩
  | 3 => ⟨S16384x128, .f32⟩
  | 4 => ⟨S16384x128, .f32⟩
  | 5 => ⟨S4, .f32⟩
  | 6 => ⟨S2x16384x1024, .f32⟩
  | 7 => ⟨S_, .f32⟩
  | 8 => ⟨S2x16384, .f32⟩
  | 9 => ⟨S2x16384x1, .f32⟩
  | 10 => ⟨S_, .f32⟩
  | 11 => ⟨S2x16384x1, .f32⟩
  | 12 => ⟨S2x16384x1, .f32⟩
  | 13 => ⟨S_, .f32⟩
  | 14 => ⟨S2x16384x1, .f32⟩
  | 15 => ⟨S2x16384x1, .f32⟩
  | 16 => ⟨S2x16384x1, .f32⟩
  | 17 => ⟨S2x16384x1024, .f32⟩
  | 18 => ⟨S2x16384x1024, .f32⟩
  | 19 => ⟨S1x1x1024, .f32⟩
  | 20 => ⟨S2x16384x1024, .f32⟩
  | 21 => ⟨S2x16384x1024, .f32⟩
  | 22 => ⟨S1024x7168, .f32⟩
  | 23 => ⟨S2x16384x7168, .f32⟩
  | 24 => ⟨S2x16384x1024, .f32⟩
  | 25 => ⟨S2x16384x1024, .f32⟩
  | 26 => ⟨S2x16384x1024, .f32⟩
  | 27 => ⟨S2x16384x1024, .f32⟩
  | 28 => ⟨S2x16384x1024, .f32⟩
  | 29 => ⟨S2x16384x1024, .f32⟩
  | 30 => ⟨S2x16384x1024, .f32⟩
  | 31 => ⟨S2x16384x4x256, .f32⟩
  | 32 => ⟨S2x16384x4x128, .f32⟩
  | 33 => ⟨S2x16384x4x128, .f32⟩
  | 34 => ⟨S16384x1x128, .f32⟩
  | 35 => ⟨S16384x1x128, .f32⟩
  | 36 => ⟨S1x16384x1x128, .f32⟩
  | 37 => ⟨S2x16384x4x128, .f32⟩
  | 38 => ⟨S2x16384x4x128, .f32⟩
  | 39 => ⟨S1x16384x1x128, .f32⟩
  | 40 => ⟨S2x16384x4x128, .f32⟩
  | 41 => ⟨S2x16384x4x128, .f32⟩
  | 42 => ⟨S2x16384x4x128, .f32⟩
  | 43 => ⟨S1x16384x1x128, .f32⟩
  | 44 => ⟨S2x16384x4x128, .f32⟩
  | 45 => ⟨S2x16384x4x128, .f32⟩
  | 46 => ⟨S1x16384x1x128, .f32⟩
  | 47 => ⟨S2x16384x4x128, .f32⟩
  | 48 => ⟨S2x16384x4x128, .f32⟩
  | 49 => ⟨S2x16384x4x128, .f32⟩
  | 50 => ⟨S2x16384x4x256, .f32⟩
  | 51 => ⟨S_, .f32⟩
  | 52 => ⟨S2x16384x4x256, .f32⟩
  | 53 => ⟨S2x16384x4x256, .f32⟩
  | 54 => ⟨S2x16384x4x256, .f32⟩
  | 55 => ⟨S2x16384x4x128, .f32⟩
  | 56 => ⟨S2x16384x4x128, .f32⟩
  | 57 => ⟨S16384x1x128, .f32⟩
  | 58 => ⟨S16384x1x128, .f32⟩
  | 59 => ⟨S1x16384x1x128, .f32⟩
  | 60 => ⟨S2x16384x4x128, .f32⟩
  | 61 => ⟨S2x16384x4x128, .f32⟩
  | 62 => ⟨S1x16384x1x128, .f32⟩
  | 63 => ⟨S2x16384x4x128, .f32⟩
  | 64 => ⟨S2x16384x4x128, .f32⟩
  | 65 => ⟨S2x16384x4x128, .f32⟩
  | 66 => ⟨S1x16384x1x128, .f32⟩
  | 67 => ⟨S2x16384x4x128, .f32⟩
  | 68 => ⟨S2x16384x4x128, .f32⟩
  | 69 => ⟨S1x16384x1x128, .f32⟩
  | 70 => ⟨S2x16384x4x128, .f32⟩
  | 71 => ⟨S2x16384x4x128, .f32⟩
  | 72 => ⟨S2x16384x4x128, .f32⟩
  | 73 => ⟨S2x16384x4x256, .f32⟩
  | 74 => ⟨S2x16384x4x256, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S4, .i1⟩
  | 82 => ⟨S4, .f32⟩
  | 83 => ⟨S4, .f32⟩
  | 84 => ⟨S4, .f32⟩
  | 85 => ⟨S4, .f32⟩
  | 86 => ⟨S4, .f32⟩
  | 87 => ⟨S4, .f32⟩
  | 88 => ⟨S4, .f32⟩
  | 89 => ⟨S4, .f32⟩
  | 90 => ⟨S4, .f32⟩
  | 91 => ⟨S64x16384, .i32⟩
  | 92 => ⟨S_, .i32⟩
  | 93 => ⟨S64x16384, .i32⟩
  | 94 => ⟨S64x16384, .i32⟩
  | 95 => ⟨S_, .i32⟩
  | 96 => ⟨S64x16384, .i32⟩
  | 97 => ⟨S64x16384, .i32⟩
  | 98 => ⟨S64x16384, .i32⟩
  | 99 => ⟨S64x16384, .i32⟩
  | 100 => ⟨S_, .i32⟩
  | 101 => ⟨S64x16384, .i32⟩
  | 102 => ⟨S64x16384, .i32⟩
  | 103 => ⟨S64x16384, .f32⟩
  | 104 => ⟨S64x16384, .i1⟩
  | 105 => ⟨S4x1x1, .f32⟩
  | 106 => ⟨S1x64x16384, .f32⟩
  | 107 => ⟨S4x64x16384, .f32⟩
  | 108 => ⟨S4x64x16384, .f32⟩
  | 109 => ⟨S4x64x16384, .f32⟩
  | 110 => ⟨S4x64x16384, .f32⟩
  | 111 => ⟨S_, .f32⟩
  | 112 => ⟨S_, .f32⟩
  | 113 => ⟨S4x64x16384, .i1⟩
  | 114 => ⟨S4x64x16384, .f32⟩
  | 115 => ⟨S4x64x16384, .f32⟩
  | 116 => ⟨S2x4x16384x256, .f32⟩
  | 117 => ⟨S2x4x1x16384x256, .f32⟩
  | 118 => ⟨S1x4x64x16384x1, .f32⟩
  | 119 => ⟨S2x4x64x16384x256, .f32⟩
  | 120 => ⟨S2x4x64x16384x256, .f32⟩
  | 121 => ⟨S2x4x64x16384x256, .f32⟩
  | 122 => ⟨S2x4x16384x256, .f32⟩
  | 123 => ⟨S2x4x64x256x256, .f32⟩
  | 124 => ⟨S2x64x4x256x256, .f32⟩
  | 125 => ⟨S2x64x2x128x1024, .f32⟩
  | 126 => ⟨S2x64x128x2x1024, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S2x16384x1024, .f32⟩
  | 3 => ⟨S2x16384x1024, .bf16⟩
  | 4 => ⟨S2x16384x1024, .bf16⟩
  | 5 => ⟨S2x16384x1024, .bf16⟩
  | 6 => ⟨S2x16384x1024, .bf16⟩
  | 7 => ⟨S2x16384x1024, .bf16⟩
  | 8 => ⟨S2x16384x1024, .bf16⟩
  | 9 => ⟨S2x64x4x256x256, .bf16⟩
  | 10 => ⟨S2x16384x1024, .bf16⟩
  | 11 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_call0_v0 : Ref sig .tc := ⟨.hbm, 75, rfl⟩
abbrev main_call0_call0_cst : Ref sig .tc := ⟨.hbm, 76, rfl⟩
abbrev main_call0_call0_v0 : Ref sig .tc := ⟨.hbm, 77, rfl⟩
abbrev main_call0_call0_v1 : Ref sig .tc := ⟨.hbm, 78, rfl⟩
abbrev main_call0_call0_v2 : Ref sig .tc := ⟨.hbm, 79, rfl⟩
abbrev main_call0_call0_v3 : Ref sig .tc := ⟨.hbm, 80, rfl⟩
abbrev main_call0_call0_v4 : Ref sig .tc := ⟨.hbm, 81, rfl⟩
abbrev main_call0_call0_v5 : Ref sig .tc := ⟨.hbm, 82, rfl⟩
abbrev main_call0_call0_v6 : Ref sig .tc := ⟨.hbm, 83, rfl⟩
abbrev main_call0_call0_v7 : Ref sig .tc := ⟨.hbm, 84, rfl⟩
abbrev main_call0_call0_v8 : Ref sig .tc := ⟨.hbm, 85, rfl⟩
abbrev main_call0_call0_v9 : Ref sig .tc := ⟨.hbm, 86, rfl⟩
abbrev main_call0_call0_v10 : Ref sig .tc := ⟨.hbm, 87, rfl⟩
abbrev main_call0_call0_v11 : Ref sig .tc := ⟨.hbm, 88, rfl⟩
abbrev main_call0_v1 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_v67 : Ref sig .tc := ⟨.hbm, 93, rfl⟩
abbrev main_v68 : Ref sig .tc := ⟨.hbm, 94, rfl⟩
abbrev main_c_3 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_4 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_5 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩

abbrev nD : Nat := 1
abbrev τ : Topo := Topo.v7x

variable {F : FTy → Type} [FloatOps F]
-- ==== Proof.Blocks.lean ====
/-
The vocabulary of the retention kernel's body, for any floats.  A block of 1024 positions by 1024 columns
holds, for each of 4 heads, 4 chunks of 256 positions by 256 columns; a head's state and tables are slabs
of the scratch arrays.  `yV` is one head's result on one chunk, `stV` its next state, `outV` the group
norm of a chunk; `blockOut` and `stateOut` put the tiles together.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Ret

open Cert.KernelIdeal Cert.KernelIdeal.Gen Idealize.ShloMosaic Idealize.ShloMosaic.TcCoe Idealize.SL.Sem

variable {F : FTy → Type} [FloatOps F]

/-- The 256 by 256 tile of a block at row `r` and column `o`. -/
def tile (x : Vec F S1x1024x1024 .bf16) (r o : ℕ) : Vec F S1x256x256 .bf16 :=
  fun l => x (ix3 0 ⟨(r + (l 1).val) % 1024, Nat.mod_lt _ (by decide)⟩ ⟨(o + (l 2).val) % 1024, Nat.mod_lt _ (by decide)⟩)

/-- Head `h`'s slab of a scratch array. -/
def slab {φ : EltTy} (x : Vec F S4x256x256 φ) (h : ℕ) : Vec F S1x256x256 φ :=
  fun l => x (ix3 ⟨h % 4, Nat.mod_lt _ (by decide)⟩ (l 1) (l 2))

/-- Head `h`'s row of the last scratch array. -/
def row {φ : EltTy} (x : Vec F S4x1x256 φ) (h : ℕ) : Vec F S1x1x256 φ :=
  fun l => x (ix3 ⟨h % 4, Nat.mod_lt _ (by decide)⟩ (l 1) (l 2))

/-- The state of what lies behind, of chunk `ci` and head `h`. -/
def behind (x : Vec F S1x4x4x256x256 .bf16) (ci h : ℕ) : Vec F S1x1x1x256x256 .bf16 :=
  fun l => x (ix5 0 ⟨ci % 4, Nat.mod_lt _ (by decide)⟩ ⟨h % 4, Nat.mod_lt _ (by decide)⟩ (l 3) (l 4))

/-- Head `h`'s decay parameter. -/
def par (x : Vec F S4 .f32) (h : ℕ) : Elt F .f32 := x (ix1 ⟨h % 4, Nat.mod_lt _ (by decide)⟩)

theorem ld_tile (x : Vec F S1x1024x1024 .bf16) (r o : ℕ) (inb) :
    View.ld x (Rect.unit ![0, r, o] ![1, 256, 256] inb) = tile x r o := by
  funext l
  refine View.ld_unit_apply_of x _ _ _ l _ fun a => ?_
  have h1 : r + 256 ≤ 1024 := by simpa using inb 1
  have h2 : o + 256 ≤ 1024 := by simpa using inb 2
  have l0 : (l 0).val < 1 := (l 0).isLt
  have l1 : (l 1).val < 256 := (l 1).isLt
  have l2 : (l 2).val < 256 := (l 2).isLt
  match a with
  | 0 => show 0 = 0 + (l 0).val; omega
  | 1 => show (r + (l 1).val) % 1024 = r + (l 1).val; omega
  | 2 => show (o + (l 2).val) % 1024 = o + (l 2).val; omega

theorem ld_slab {φ : EltTy} (x : Vec F S4x256x256 φ) (h : ℕ) (inb) :
    View.ld x (Rect.unit ![h, 0, 0] ![1, 256, 256] inb) = slab x h := by
  funext l
  refine View.ld_unit_apply_of x _ _ _ l _ fun a => ?_
  have h1 : h + 1 ≤ 4 := by simpa using inb 0
  have l0 : (l 0).val < 1 := (l 0).isLt
  match a with
  | 0 => show h % 4 = h + (l 0).val; omega
  | 1 => show (l 1).val = 0 + (l 1).val; omega
  | 2 => show (l 2).val = 0 + (l 2).val; omega

theorem ld_row {φ : EltTy} (x : Vec F S4x1x256 φ) (h : ℕ) (inb) :
    View.ld x (Rect.unit ![h, 0, 0] ![1, 1, 256] inb) = row x h := by
  funext l
  refine View.ld_unit_apply_of x _ _ _ l _ fun a => ?_
  have h1 : h + 1 ≤ 4 := by simpa using inb 0
  have l0 : (l 0).val < 1 := (l 0).isLt
  match a with
  | 0 => show h % 4 = h + (l 0).val; omega
  | 1 => show (l 1).val = 0 + (l 1).val; omega
  | 2 => show (l 2).val = 0 + (l 2).val; omega

theorem ld_behind (x : Vec F S1x4x4x256x256 .bf16) (ci h : ℕ) (inb) :
    View.ld x (Rect.unit ![0, ci, h, 0, 0] ![1, 1, 1, 256, 256] inb) = behind x ci h := by
  funext l
  refine View.ld_unit_apply_of x _ _ _ l _ fun a => ?_
  have h1 : ci + 1 ≤ 4 := by simpa using inb 1
  have h2 : h + 1 ≤ 4 := by simpa using inb 2
  have l0 : (l 0).val < 1 := (l 0).isLt
  have l1 : (l 1).val < 1 := (l 1).isLt
  have l2 : (l 2).val < 1 := (l 2).isLt
  match a with
  | 0 => show 0 = 0 + (l 0).val; omega
  | 1 => show ci % 4 = ci + (l 1).val; omega
  | 2 => show h % 4 = h + (l 2).val; omega
  | 3 => show (l 3).val = 0 + (l 3).val; omega
  | 4 => show (l 4).val = 0 + (l 4).val; omega

theorem ld_par (x : Vec F S4 .f32) (h : ℕ) (inb) (l : (Rect.unit (s := S4) ![h] ![1] inb).shape.Idx) :
    View.ld x (Rect.unit ![h] ![1] inb) l = par x h := by
  refine View.ld_unit_apply_of x _ _ _ l _ fun a => ?_
  have h1 : h + 1 ≤ 4 := by simpa using inb 0
  have l0 : (l 0).val < 1 := (l 0).isLt
  match a with
  | 0 => show h % 4 = h + (l 0).val; omega

theorem ld_par_first (x : Vec F S4 .f32) (h : ℕ) (inb) (l : (Rect.unit (s := S4) ![h] ![1] inb).toLoadRect.shape.Idx) :
    View.ld x (Rect.unit ![h] ![1] inb) l = par x h := ld_par x h inb _

/-- One head's result on one chunk. -/
def yV (st : FVec F S256x256 .f32) (q k v D XF XB : Vec F S1x256x256 .bf16) (sb : Vec F S1x1x1x256x256 .bf16) :
    FVec F S256x256 .f32 := k0_pay58 st (k0_pay52 q k) q v D XF XB sb
/-- Its next state. -/
def stV (st : FVec F S256x256 .f32) (k v Z : Vec F S1x256x256 .bf16) (gc : Vec F S1x1x256 .f32) : FVec F S256x256 .f32 :=
  k0_pay59 st (k0_pay57 v) gc k Z
/-- The group norm of a chunk. -/
def outV (y : FVec F S256x256 .f32) : FVec F S1x256x256 .bf16 := k0_pay60 y
/-- A slab as a matrix, and back. -/
def unwrap (x : Vec F S1x256x256 .f32) : FVec F S256x256 .f32 := k0_pay48 x
def wrap (x : FVec F S256x256 .f32) : FVec F S1x256x256 .f32 := shapeCast S1x256x256 x shapeCasts_S256x256_S1x256x256
/-- The tables, of the decay parameters. -/
def tD (a b : Elt F .f32) : Vec F S1x256x256 .bf16 := k0_pay11 a b
def tXF (a : Elt F .f32) : Vec F S1x256x256 .bf16 := k0_pay3 a
def tXB (b : Elt F .f32) : Vec F S1x256x256 .bf16 := k0_pay7 (k0_pay4 b) k0_pay5 k0_pay6
def tZ (a : Elt F .f32) : Vec F S1x256x256 .bf16 := k0_pay8 a
def tG (a : Elt F .f32) : Vec F S1x1x256 .f32 := k0_pay10 (k0_pay9 a)

/-- The head's state before chunk `ci`. -/
def stN (st : FVec F S256x256 .f32) (x3 x4 : Vec F S1x1024x1024 .bf16) (Z : Vec F S1x256x256 .bf16) (gc : Vec F S1x1x256 .f32)
    (h : ℕ) : ℕ → FVec F S256x256 .f32
  | 0 => st
  | ci + 1 => stV (stN st x3 x4 Z gc h ci) (tile x3 (256 * ci) (256 * h)) (tile x4 (256 * ci) (256 * h)) Z gc

/-- The head's result on chunk `ci`. -/
def headOut (st : FVec F S256x256 .f32) (D XF XB Z : Vec F S1x256x256 .bf16) (gc : Vec F S1x1x256 .f32)
    (x2 x3 x4 : Vec F S1x1024x1024 .bf16) (x5 : Vec F S1x4x4x256x256 .bf16) (h ci : ℕ) : FVec F S256x256 .f32 :=
  yV (stN st x3 x4 Z gc h ci) (tile x2 (256 * ci) (256 * h)) (tile x3 (256 * ci) (256 * h)) (tile x4 (256 * ci) (256 * h))
    D XF XB (behind x5 ci h)

/-- The block of results, of each head's state and tables. -/
def blockOut (st : ℕ → FVec F S256x256 .f32) (D XF XB Z : ℕ → Vec F S1x256x256 .bf16) (gc : ℕ → Vec F S1x1x256 .f32)
    (x2 x3 x4 : Vec F S1x1024x1024 .bf16) (x5 : Vec F S1x4x4x256x256 .bf16) : Vec F S1x1024x1024 .bf16 := fun y =>
  let h := (y 2).val / 256
  outV (headOut (st h) (D h) (XF h) (XB h) (Z h) (gc h) x2 x3 x4 x5 h ((y 1).val / 256))
    (ix3 0 ⟨(y 1).val % 256, Nat.mod_lt _ (by decide)⟩ ⟨(y 2).val % 256, Nat.mod_lt _ (by decide)⟩)

theorem blockOut_at (st : ℕ → FVec F S256x256 .f32) (D XF XB Z : ℕ → Vec F S1x256x256 .bf16) (gc : ℕ → Vec F S1x1x256 .f32)
    (x2 x3 x4 : Vec F S1x1024x1024 .bf16) (x5 : Vec F S1x4x4x256x256 .bf16) (y : S1x1024x1024.Idx) (l : S1x256x256.Idx)
    (ci h : ℕ) (h1 : (y 1).val = 256 * ci + (l 1).val) (h2 : (y 2).val = 256 * h + (l 2).val) :
    blockOut st D XF XB Z gc x2 x3 x4 x5 y
      = outV (headOut (st h) (D h) (XF h) (XB h) (Z h) (gc h) x2 x3 x4 x5 h ci) l := by
  have l0 : (l 0).val < 1 := (l 0).isLt
  have l1 : (l 1).val < 256 := (l 1).isLt
  have l2 : (l 2).val < 256 := (l 2).isLt
  have e1 : (y 1).val / 256 = ci := by omega
  have e2 : (y 2).val / 256 = h := by omega
  simp only [blockOut, e1, e2]
  congr 1
  funext a
  apply Fin.ext
  match a with
  | 0 => show 0 = (l 0).val; omega
  | 1 => show (y 1).val % 256 = (l 1).val; omega
  | 2 => show (y 2).val % 256 = (l 2).val; omega

/-- An array of four slabs, and of four rows. -/
def slabs {φ : EltTy} (f : ℕ → Vec F S1x256x256 φ) : Vec F S4x256x256 φ := fun y => f (y 0).val (ix3 0 (y 1) (y 2))
def rows {φ : EltTy} (f : ℕ → Vec F S1x1x256 φ) : Vec F S4x1x256 φ := fun y => f (y 0).val (ix3 0 (y 1) (y 2))

theorem slabs_at {φ : EltTy} (f : ℕ → Vec F S1x256x256 φ) (y : S4x256x256.Idx) (l : S1x256x256.Idx) (h : ℕ)
    (h0 : (y 0).val = h) (h1 : (y 1).val = (l 1).val) (h2 : (y 2).val = (l 2).val) : slabs f y = f h l := by
  have l0 : (l 0).val < 1 := (l 0).isLt
  simp only [slabs, h0]
  congr 1
  funext a
  apply Fin.ext
  match a with
  | 0 => show 0 = (l 0).val; omega
  | 1 => exact h1
  | 2 => exact h2

theorem rows_at {φ : EltTy} (f : ℕ → Vec F S1x1x256 φ) (y : S4x1x256.Idx) (l : S1x1x256.Idx) (h : ℕ)
    (h0 : (y 0).val = h) (h2 : (y 2).val = (l 2).val) : rows f y = f h l := by
  have l0 : (l 0).val < 1 := (l 0).isLt
  have l1 : (l 1).val < 1 := (l 1).isLt
  have y1 : (y 1).val < 1 := (y 1).isLt
  simp only [rows, h0]
  congr 1
  funext a
  apply Fin.ext
  match a with
  | 0 => show 0 = (l 0).val; omega
  | 1 => show (y 1).val = (l 1).val; omega
  | 2 => exact h2

theorem slab_slabs {φ : EltTy} (f : ℕ → Vec F S1x256x256 φ) (h : ℕ) (hh : h < 4) : slab (slabs f) h = f h := by
  funext l
  exact slabs_at f _ l h (Nat.mod_eq_of_lt hh) rfl rfl

theorem row_rows {φ : EltTy} (f : ℕ → Vec F S1x1x256 φ) (h : ℕ) (hh : h < 4) : row (rows f) h = f h := by
  funext l
  exact rows_at f _ l h (Nat.mod_eq_of_lt hh) rfl

/-- The second call's stage: one block of 128 frequencies by 1024 columns, for row `r` of the words. -/
def fV (x7 : Vec F S128x256 .bf16) (w : Vec F S1x1x128x1024 .i32) : FVec F S1x128x1x1024 .f32 := k0_pay1 x7 w
def words (x6 : Vec F S1x8x128x1024 .i32) (r : ℕ) : Vec F S1x1x128x1024 .i32 :=
  fun l => x6 (ix4 0 ⟨r % 8, Nat.mod_lt _ (by decide)⟩ (l 2) (l 3))
def freqOut (x6 : Vec F S1x8x128x1024 .i32) (x7 : Vec F S128x256 .bf16) : Vec F S1x128x8x1024 .f32 := fun y =>
  fV x7 (words x6 (y 2).val) (ix4 0 (y 1) 0 (y 3))

theorem ld_words (x : Vec F S1x8x128x1024 .i32) (r : ℕ) (inb) :
    View.ld x (Rect.unit ![0, r, 0, 0] ![1, 1, 128, 1024] inb) = words x r := by
  funext l
  refine View.ld_unit_apply_of x _ _ _ l _ fun a => ?_
  have h1 : r + 1 ≤ 8 := by simpa using inb 1
  have l0 : (l 0).val < 1 := (l 0).isLt
  have l1 : (l 1).val < 1 := (l 1).isLt
  match a with
  | 0 => show 0 = 0 + (l 0).val; omega
  | 1 => show r % 8 = r + (l 1).val; omega
  | 2 => show (l 2).val = 0 + (l 2).val; omega
  | 3 => show (l 3).val = 0 + (l 3).val; omega

theorem freqOut_at (x6 : Vec F S1x8x128x1024 .i32) (x7 : Vec F S128x256 .bf16) (y : S1x128x8x1024.Idx) (l : S1x128x1x1024.Idx)
    (r : ℕ) (h1 : (y 1).val = (l 1).val) (h2 : (y 2).val = r) (h3 : (y 3).val = (l 3).val) :
    freqOut x6 x7 y = fV x7 (words x6 r) l := by
  have l0 : (l 0).val < 1 := (l 0).isLt
  have l2 : (l 2).val < 1 := (l 2).isLt
  simp only [freqOut, h2]
  congr 1
  funext a
  apply Fin.ext
  match a with
  | 0 => show 0 = (l 0).val; omega
  | 1 => exact h1
  | 2 => show 0 = (l 2).val; omega
  | 3 => exact h3

end Cert.KernelIdeal.Ret
end
-- ==== Proof.BodyA.lean ====
/-
What one grid point of case A leaves, in the body's vocabulary: the first point of a batch, which fills the tables and starts the states at zero.
-/
module

public import proofs.«01_k».proof.Proof.Blocks

@[expose] public section

set_option maxRecDepth 16384

noncomputable section

namespace Cert.KernelIdeal.Ret

open Cert.KernelIdeal Cert.KernelIdeal.Gen Idealize.ShloMosaic Idealize.ShloMosaic.TcCoe Idealize.SL.Sem
variable {F : FTy → Type} [FloatOps F]

set_option maxHeartbeats 6400000 in
theorem out0_A_8_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = blockOut (fun h => unwrap (slab (k0_pay2 (F := F)) h)) (fun h => tD (par x0 h) (par x1 h)) (fun h => tXF (par x0 h)) (fun h => tXB (par x1 h)) (fun h => tZ (par x0 h)) (fun h => tG (par x0 h)) x2 x3 x4 x5 := by
  funext y
  frame_open
  simp (disch := decide) only [↓ View.readCov_skip, ↓ View.readCov_cons_toLoadRect, ↓ View.readCov_fill]
  frame_out
  try simp only [ld_tile, ld_slab, ld_row, ld_behind, ld_words]
  repeat rw [ld_par_first]
  canon_tiles x h
  all_goals first
    | refine Eq.trans ?_ (blockOut_at _ _ _ _ _ _ _ _ _ _ y x 0 0 (by omega) (by omega)).symm; rfl
    | refine Eq.trans ?_ (blockOut_at _ _ _ _ _ _ _ _ _ _ y x 0 1 (by omega) (by omega)).symm; rfl
    | refine Eq.trans ?_ (blockOut_at _ _ _ _ _ _ _ _ _ _ y x 0 2 (by omega) (by omega)).symm; rfl
    | refine Eq.trans ?_ (blockOut_at _ _ _ _ _ _ _ _ _ _ y x 0 3 (by omega) (by omega)).symm; rfl
    | refine Eq.trans ?_ (blockOut_at _ _ _ _ _ _ _ _ _ _ y x 1 0 (by omega) (by omega)).symm; rfl
    | refine Eq.trans ?_ (blockOut_at _ _ _ _ _ _ _ _ _ _ y x 1 1 (by omega) (by omega)).symm; rfl
    | refine Eq.trans ?_ (blockOut_at _ _ _ _ _ _ _ _ _ _ y x 1 2 (by omega) (by omega)).symm; rfl
    | refine Eq.trans ?_ (blockOut_at _ _ _ _ _ _ _ _ _ _ y x 1 3 (by omega) (by omega)).symm; rfl
    | refine Eq.trans ?_ (blockOut_at _ _ _ _ _ _ _ _ _ _ y x 2 0 (by omega) (by omega)).symm; rfl
    | refine Eq.trans ?_ (blockOut_at _ _ _ _ _ _ _ _ _ _ y x 2 1 (by omega) (by omega)).symm; rfl
    | refine Eq.trans ?_ (blockOut_at _ _ _ _ _ _ _ _ _ _ y x 2 2 (by omega) (by omega)).symm; rfl
    | refine Eq.trans ?_ (blockOut_at _ _ _ _ _ _ _ _ _ _ y x 2 3 (by omega) (by omega)).symm; rfl
    | refine Eq.trans ?_ (blockOut_at _ _ _ _ _ _ _ _ _ _ y x 3 0 (by omega) (by omega)).symm; rfl
    | refine Eq.trans ?_ (blockOut_at _ _ _ _ _ _ _ _ _ _ y x 3 1 (by omega) (by omega)).symm; rfl
    | refine Eq.trans ?_ (blockOut_at _ _ _ _ _ _ _ _ _ _ y x 3 2 (by omega) (by omega)).symm; rfl
    | refine Eq.trans ?_ (blockOut_at _ _ _ _ _ _ _ _ _ _ y x 3 3 (by omega) (by omega)).symm; rfl

set_option maxHeartbeats 6400000 in
theorem sout0_A_0_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = slabs (φ := .f32) fun h => wrap (stN (unwrap (slab (k0_pay2 (F := F)) h)) x3 x4 ((fun h => tZ (par x0 h)) h) ((fun h => tG (par x0 h)) h) h 4) := by
  funext y
  frame_open
  simp (disch := decide) only [↓ View.readCov_skip, ↓ View.readCov_cons_toLoadRect, ↓ View.readCov_fill]
  frame_out
  try simp only [ld_tile, ld_slab, ld_row, ld_behind, ld_words]
  repeat rw [ld_par_first]
  refine View.canon_append_of_piecesOf (slabs (φ := .f32) fun h => wrap (stN (unwrap (slab (k0_pay2 (F := F)) h)) x3 x4 ((fun h => tZ (par x0 h)) h) ((fun h => tG (par x0 h)) h) h 4)) [_] [_, _, _, _] ⟨?_, ?_, ?_, ?_, trivial⟩ y
    (View.cover_of_tiledL (s := S4x256x256) _ ![1, 256, 256] (by sl_kernel_rfl) y)
  all_goals
    intro (x : S1x256x256.Idx)
    have x0 : (x 0).val < 1 := (x 0).isLt
  all_goals first
    | refine Eq.trans ?_ (slabs_at _ _ x 0 (by show 0 + 1 * (x 0).val = 0; omega) (by show 0 + 1 * (x 1).val = (x 1).val; omega) (by show 0 + 1 * (x 2).val = (x 2).val; omega)).symm; rfl
    | refine Eq.trans ?_ (slabs_at _ _ x 1 (by show 1 + 1 * (x 0).val = 1; omega) (by show 0 + 1 * (x 1).val = (x 1).val; omega) (by show 0 + 1 * (x 2).val = (x 2).val; omega)).symm; rfl
    | refine Eq.trans ?_ (slabs_at _ _ x 2 (by show 2 + 1 * (x 0).val = 2; omega) (by show 0 + 1 * (x 1).val = (x 1).val; omega) (by show 0 + 1 * (x 2).val = (x 2).val; omega)).symm; rfl
    | refine Eq.trans ?_ (slabs_at _ _ x 3 (by show 3 + 1 * (x 0).val = 3; omega) (by show 0 + 1 * (x 1).val = (x 1).val; omega) (by show 0 + 1 * (x 2).val = (x 2).val; omega)).symm; rfl

set_option maxHeartbeats 6400000 in
theorem out0_A_9_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = freqOut x6 x7 := by
  funext y
  frame_open
  simp (disch := decide) only [↓ View.readCov_skip, ↓ View.readCov_cons_toLoadRect, ↓ View.readCov_fill]
  frame_out
  try simp only [ld_tile, ld_slab, ld_row, ld_behind, ld_words]
  canon_tiles x h
  all_goals first
    | refine Eq.trans ?_ (freqOut_at x6 x7 y x 0 (by omega) (by omega) (by omega)).symm; rfl
    | refine Eq.trans ?_ (freqOut_at x6 x7 y x 1 (by omega) (by omega) (by omega)).symm; rfl
    | refine Eq.trans ?_ (freqOut_at x6 x7 y x 2 (by omega) (by omega) (by omega)).symm; rfl
    | refine Eq.trans ?_ (freqOut_at x6 x7 y x 3 (by omega) (by omega) (by omega)).symm; rfl
    | refine Eq.trans ?_ (freqOut_at x6 x7 y x 4 (by omega) (by omega) (by omega)).symm; rfl
    | refine Eq.trans ?_ (freqOut_at x6 x7 y x 5 (by omega) (by omega) (by omega)).symm; rfl
    | refine Eq.trans ?_ (freqOut_at x6 x7 y x 6 (by omega) (by omega) (by omega)).symm; rfl
    | refine Eq.trans ?_ (freqOut_at x6 x7 y x 7 (by omega) (by omega) (by omega)).symm; rfl

set_option maxHeartbeats 6400000 in
theorem sout0_A_1_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = slabs (fun h => tD (par x0 h) (par x1 h)) := by
  funext y
  frame_open
  simp (disch := decide) only [↓ View.readCov_skip, ↓ View.readCov_cons_toLoadRect, ↓ View.readCov_fill]
  frame_out
  try simp only [ld_tile, ld_slab, ld_row, ld_behind, ld_words]
  repeat rw [ld_par_first]
  canon_tiles x h
  all_goals first
    | refine Eq.trans ?_ (slabs_at _ y x 0 (by omega) (by omega) (by omega)).symm; rfl
    | refine Eq.trans ?_ (slabs_at _ y x 1 (by omega) (by omega) (by omega)).symm; rfl
    | refine Eq.trans ?_ (slabs_at _ y x 2 (by omega) (by omega) (by omega)).symm; rfl
    | refine Eq.trans ?_ (slabs_at _ y x 3 (by omega) (by omega) (by omega)).symm; rfl

set_option maxHeartbeats 6400000 in
theorem sout0_A_2_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = slabs (fun h => tXF (par x0 h)) := by
  funext y
  frame_open
  simp (disch := decide) only [↓ View.readCov_skip, ↓ View.readCov_cons_toLoadRect, ↓ View.readCov_fill]
  frame_out
  try simp only [ld_tile, ld_slab, ld_row, ld_behind, ld_words]
  repeat rw [ld_par_first]
  canon_tiles x h
  all_goals first
    | refine Eq.trans ?_ (slabs_at _ y x 0 (by omega) (by omega) (by omega)).symm; rfl
    | refine Eq.trans ?_ (slabs_at _ y x 1 (by omega) (by omega) (by omega)).symm; rfl
    | refine Eq.trans ?_ (slabs_at _ y x 2 (by omega) (by omega) (by omega)).symm; rfl
    | refine Eq.trans ?_ (slabs_at _ y x 3 (by omega) (by omega) (by omega)).symm; rfl

set_option maxHeartbeats 6400000 in
theorem sout0_A_3_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = slabs (fun h => tXB (par x1 h)) := by
  funext y
  frame_open
  simp (disch := decide) only [↓ View.readCov_skip, ↓ View.readCov_cons_toLoadRect, ↓ View.readCov_fill]
  frame_out
  try simp only [ld_tile, ld_slab, ld_row, ld_behind, ld_words]
  repeat rw [ld_par_first]
  canon_tiles x h
  all_goals first
    | refine Eq.trans ?_ (slabs_at _ y x 0 (by omega) (by omega) (by omega)).symm; rfl
    | refine Eq.trans ?_ (slabs_at _ y x 1 (by omega) (by omega) (by omega)).symm; rfl
    | refine Eq.trans ?_ (slabs_at _ y x 2 (by omega) (by omega) (by omega)).symm; rfl
    | refine Eq.trans ?_ (slabs_at _ y x 3 (by omega) (by omega) (by omega)).symm; rfl

set_option maxHeartbeats 6400000 in
theorem sout0_A_4_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = slabs (fun h => tZ (par x0 h)) := by
  funext y
  frame_open
  simp (disch := decide) only [↓ View.readCov_skip, ↓ View.readCov_cons_toLoadRect, ↓ View.readCov_fill]
  frame_out
  try simp only [ld_tile, ld_slab, ld_row, ld_behind, ld_words]
  repeat rw [ld_par_first]
  canon_tiles x h
  all_goals first
    | refine Eq.trans ?_ (slabs_at _ y x 0 (by omega) (by omega) (by omega)).symm; rfl
    | refine Eq.trans ?_ (slabs_at _ y x 1 (by omega) (by omega) (by omega)).symm; rfl
    | refine Eq.trans ?_ (slabs_at _ y x 2 (by omega) (by omega) (by omega)).symm; rfl
    | refine Eq.trans ?_ (slabs_at _ y x 3 (by omega) (by omega) (by omega)).symm; rfl

set_option maxHeartbeats 6400000 in
theorem sout0_A_5_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16)  : sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = rows (fun h => tG (par x0 h)) := by
  funext y
  frame_open
  simp (disch := decide) only [↓ View.readCov_skip, ↓ View.readCov_cons_toLoadRect, ↓ View.readCov_fill]
  frame_out
  try simp only [ld_tile, ld_slab, ld_row, ld_behind, ld_words]
  repeat rw [ld_par_first]
  canon_tiles x h
  all_goals first
    | refine Eq.trans ?_ (rows_at _ y x 0 (by omega) (by omega)).symm; rfl
    | refine Eq.trans ?_ (rows_at _ y x 1 (by omega) (by omega)).symm; rfl
    | refine Eq.trans ?_ (rows_at _ y x 2 (by omega) (by omega)).symm; rfl
    | refine Eq.trans ?_ (rows_at _ y x 3 (by omega) (by omega)).symm; rfl

end Cert.KernelIdeal.Ret
end
-- ==== Proof.BodyB.lean ====
/-
What one grid point of case B leaves, in the body's vocabulary: a later point of a batch, over the states and tables it found.
-/
module

public import proofs.«01_k».proof.Proof.Blocks

@[expose] public section

set_option maxRecDepth 16384

noncomputable section

namespace Cert.KernelIdeal.Ret

open Cert.KernelIdeal Cert.KernelIdeal.Gen Idealize.ShloMosaic Idealize.ShloMosaic.TcCoe Idealize.SL.Sem
variable {F : FTy → Type} [FloatOps F]

set_option maxHeartbeats 6400000 in
theorem out0_B_8_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : ¬cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16) (xs0 : Vec F S4x256x256 .f32) (xs1 : Vec F S4x256x256 .bf16) (xs2 : Vec F S4x256x256 .bf16) (xs3 : Vec F S4x256x256 .bf16) (xs4 : Vec F S4x256x256 .bf16) (xs5 : Vec F S4x1x256 .f32)  : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 xs4 xs5 = blockOut (fun h => unwrap (slab xs0 h)) (slab xs1) (slab xs2) (slab xs3) (slab xs4) (row xs5) x2 x3 x4 x5 := by
  funext y
  frame_out
  simp only [ld_tile, ld_slab, ld_row, ld_behind, ld_words]
  canon_tiles x h
  all_goals first
    | refine Eq.trans ?_ (blockOut_at _ _ _ _ _ _ _ _ _ _ y x 0 0 (by omega) (by omega)).symm; rfl
    | refine Eq.trans ?_ (blockOut_at _ _ _ _ _ _ _ _ _ _ y x 0 1 (by omega) (by omega)).symm; rfl
    | refine Eq.trans ?_ (blockOut_at _ _ _ _ _ _ _ _ _ _ y x 0 2 (by omega) (by omega)).symm; rfl
    | refine Eq.trans ?_ (blockOut_at _ _ _ _ _ _ _ _ _ _ y x 0 3 (by omega) (by omega)).symm; rfl
    | refine Eq.trans ?_ (blockOut_at _ _ _ _ _ _ _ _ _ _ y x 1 0 (by omega) (by omega)).symm; rfl
    | refine Eq.trans ?_ (blockOut_at _ _ _ _ _ _ _ _ _ _ y x 1 1 (by omega) (by omega)).symm; rfl
    | refine Eq.trans ?_ (blockOut_at _ _ _ _ _ _ _ _ _ _ y x 1 2 (by omega) (by omega)).symm; rfl
    | refine Eq.trans ?_ (blockOut_at _ _ _ _ _ _ _ _ _ _ y x 1 3 (by omega) (by omega)).symm; rfl
    | refine Eq.trans ?_ (blockOut_at _ _ _ _ _ _ _ _ _ _ y x 2 0 (by omega) (by omega)).symm; rfl
    | refine Eq.trans ?_ (blockOut_at _ _ _ _ _ _ _ _ _ _ y x 2 1 (by omega) (by omega)).symm; rfl
    | refine Eq.trans ?_ (blockOut_at _ _ _ _ _ _ _ _ _ _ y x 2 2 (by omega) (by omega)).symm; rfl
    | refine Eq.trans ?_ (blockOut_at _ _ _ _ _ _ _ _ _ _ y x 2 3 (by omega) (by omega)).symm; rfl
    | refine Eq.trans ?_ (blockOut_at _ _ _ _ _ _ _ _ _ _ y x 3 0 (by omega) (by omega)).symm; rfl
    | refine Eq.trans ?_ (blockOut_at _ _ _ _ _ _ _ _ _ _ y x 3 1 (by omega) (by omega)).symm; rfl
    | refine Eq.trans ?_ (blockOut_at _ _ _ _ _ _ _ _ _ _ y x 3 2 (by omega) (by omega)).symm; rfl
    | refine Eq.trans ?_ (blockOut_at _ _ _ _ _ _ _ _ _ _ y x 3 3 (by omega) (by omega)).symm; rfl

set_option maxHeartbeats 6400000 in
theorem sout0_B_0_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : ¬cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16) (xs0 : Vec F S4x256x256 .f32) (xs1 : Vec F S4x256x256 .bf16) (xs2 : Vec F S4x256x256 .bf16) (xs3 : Vec F S4x256x256 .bf16) (xs4 : Vec F S4x256x256 .bf16) (xs5 : Vec F S4x1x256 .f32)  : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 xs4 xs5 = slabs (φ := .f32) fun h => wrap (stN (unwrap (slab xs0 h)) x3 x4 ((slab xs4) h) ((row xs5) h) h 4) := by
  funext y
  frame_out
  simp only [ld_tile, ld_slab, ld_row, ld_behind, ld_words]
  canon_tiles x h
  all_goals first
    | refine Eq.trans ?_ (slabs_at _ y x 0 (by omega) (by omega) (by omega)).symm; rfl
    | refine Eq.trans ?_ (slabs_at _ y x 1 (by omega) (by omega) (by omega)).symm; rfl
    | refine Eq.trans ?_ (slabs_at _ y x 2 (by omega) (by omega) (by omega)).symm; rfl
    | refine Eq.trans ?_ (slabs_at _ y x 3 (by omega) (by omega) (by omega)).symm; rfl

set_option maxHeartbeats 6400000 in
theorem out0_B_9_eq (c : Dev nD) (i : grid0.Coords) (arg2 : Memref sig .tc .smem S4 .f32) (harg2 : arg2.IsWhole) (arg3 : Memref sig .tc .smem S4 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x4x4x256x256 .bf16) (harg7 : arg7.IsWhole) (arg8 : Memref sig .tc .vmem S1x8x128x1024 .i32) (harg8 : arg8.IsWhole) (arg9 : Memref sig .tc .vmem S128x256 .bf16) (harg9 : arg9.IsWhole) (arg10 : Memref sig .tc .vmem S1x1024x1024 .bf16) (harg10 : arg10.IsWhole) (arg11 : Memref sig .tc .vmem S1x128x8x1024 .f32) (harg11 : arg11.IsWhole) (arg12 : Memref sig .tc .vmem S4x256x256 .f32) (harg12 : arg12.IsWhole) (arg13 : Memref sig .tc .vmem S4x256x256 .bf16) (harg13 : arg13.IsWhole) (arg14 : Memref sig .tc .vmem S4x256x256 .bf16) (harg14 : arg14.IsWhole) (arg15 : Memref sig .tc .vmem S4x256x256 .bf16) (harg15 : arg15.IsWhole) (arg16 : Memref sig .tc .vmem S4x256x256 .bf16) (harg16 : arg16.IsWhole) (arg17 : Memref sig .tc .vmem S4x1x256 .f32) (harg17 : arg17.IsWhole) (hc0 : ¬cond0_0 i)
    (x0 : Vec F S4 .f32) (x1 : Vec F S4 .f32) (x2 : Vec F S1x1024x1024 .bf16) (x3 : Vec F S1x1024x1024 .bf16) (x4 : Vec F S1x1024x1024 .bf16) (x5 : Vec F S1x4x4x256x256 .bf16) (x6 : Vec F S1x8x128x1024 .i32) (x7 : Vec F S128x256 .bf16) (xs0 : Vec F S4x256x256 .f32) (xs1 : Vec F S4x256x256 .bf16) (xs2 : Vec F S4x256x256 .bf16) (xs3 : Vec F S4x256x256 .bf16) (xs4 : Vec F S4x256x256 .bf16) (xs5 : Vec F S4x1x256 .f32)  : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 xs4 xs5 = freqOut x6 x7 := by
  funext y
  frame_out
  simp only [ld_tile, ld_slab, ld_row, ld_behind, ld_words]
  canon_tiles x h
  all_goals first
    | refine Eq.trans ?_ (freqOut_at x6 x7 y x 0 (by omega) (by omega) (by omega)).symm; rfl
    | refine Eq.trans ?_ (freqOut_at x6 x7 y x 1 (by omega) (by omega) (by omega)).symm; rfl
    | refine Eq.trans ?_ (freqOut_at x6 x7 y x 2 (by omega) (by omega) (by omega)).symm; rfl
    | refine Eq.trans ?_ (freqOut_at x6 x7 y x 3 (by omega) (by omega) (by omega)).symm; rfl
    | refine Eq.trans ?_ (freqOut_at x6 x7 y x 4 (by omega) (by omega) (by omega)).symm; rfl
    | refine Eq.trans ?_ (freqOut_at x6 x7 y x 5 (by omega) (by omega) (by omega)).symm; rfl
    | refine Eq.trans ?_ (freqOut_at x6 x7 y x 6 (by omega) (by omega) (by omega)).symm; rfl
    | refine Eq.trans ?_ (freqOut_at x6 x7 y x 7 (by omega) (by omega) (by omega)).symm; rfl

end Cert.KernelIdeal.Ret
end
-- ==== Proof.Points.lean ====
/-
The grid's 32 points: point `t` is block `t % 16` of batch `t / 16`.  What the windows hold at a point, and
what each point leaves, over any floats.
-/
module

public import proofs.«01_k».proof.Proof.BodyA
public import proofs.«01_k».proof.Proof.BodyB

@[expose] public section

set_option maxRecDepth 16384

noncomputable section

namespace Cert.KernelIdeal.Ret

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

theorem idx : ∀ t : Fin cfg0.N, win0_0.index t = ![0] ∧ win0_1.index t = ![0] ∧ win0_2.index t = ![t.val / 16, t.val % 16, 0]
    ∧ win0_3.index t = ![t.val / 16, t.val % 16, 0] ∧ win0_4.index t = ![t.val / 16, t.val % 16, 0]
    ∧ win0_5.index t = ![t.val / 16, t.val % 16, 0, 0, 0] ∧ win0_6.index t = ![t.val / 16, t.val % 16, 0, 0]
    ∧ win0_7.index t = ![0, 0] :=
  (by decide +kernel : ∀ t : Fin grid0.N, _)

theorem t_lt (t : Fin cfg0.N) : t.val < 32 := lt_of_lt_of_eq t.isLt (show cfg0.N = 32 from N_0)

/-- The arguments, as arrays. -/
def qA : Vec F S2x16384x1024 .bf16 := m ((c.tc : Thread nD τ).loc main_arg0)
def kA : Vec F S2x16384x1024 .bf16 := m ((c.tc : Thread nD τ).loc main_arg1)
def vA : Vec F S2x16384x1024 .bf16 := m ((c.tc : Thread nD τ).loc main_arg2)
def sA : Vec F S2x64x4x256x256 .bf16 := m ((c.tc : Thread nD τ).loc main_arg3)
def zA : Vec F S2x128x128x1024 .i32 := m ((c.tc : Thread nD τ).loc main_arg4)
def bA : Vec F S128x256 .bf16 := m ((c.tc : Thread nD τ).loc main_arg5)
def dfA : Vec F S4 .f32 := m ((c.tc : Thread nD τ).loc main_arg6)
def dbA : Vec F S4 .f32 := m ((c.tc : Thread nD τ).loc main_arg7)

theorem blk0 (t : Fin cfg0.N) : iblk m c 0 t = dfA m c := by
  obtain ⟨e0, e1, e2, e3, e4, e5, e6, e7⟩ := idx t
  funext y
  simp only [dfA]
  blk_ext [iblk, V, e0]
theorem blk1 (t : Fin cfg0.N) : iblk m c 1 t = dbA m c := by
  obtain ⟨e0, e1, e2, e3, e4, e5, e6, e7⟩ := idx t
  funext y
  simp only [dbA]
  blk_ext [iblk, V, e1]
theorem blk7 (t : Fin cfg0.N) : iblk m c 7 t = bA m c := by
  obtain ⟨e0, e1, e2, e3, e4, e5, e6, e7⟩ := idx t
  funext y
  simp only [bA]
  blk_ext [iblk, V, e7]
theorem blk2 (t : Fin cfg0.N) (r o : Fin 1024) : iblk m c 2 t (ix3 0 r o)
    = qA m c (ix3 ⟨t.val / 16, by have := t_lt t; omega⟩ ⟨1024 * (t.val % 16) + r.val, by omega⟩ o) := by
  obtain ⟨e0, e1, e2, e3, e4, e5, e6, e7⟩ := idx t
  simp only [qA]
  blk_ext [iblk, V, e2]
theorem blk3 (t : Fin cfg0.N) (r o : Fin 1024) : iblk m c 3 t (ix3 0 r o)
    = kA m c (ix3 ⟨t.val / 16, by have := t_lt t; omega⟩ ⟨1024 * (t.val % 16) + r.val, by omega⟩ o) := by
  obtain ⟨e0, e1, e2, e3, e4, e5, e6, e7⟩ := idx t
  simp only [kA]
  blk_ext [iblk, V, e3]
theorem blk4 (t : Fin cfg0.N) (r o : Fin 1024) : iblk m c 4 t (ix3 0 r o)
    = vA m c (ix3 ⟨t.val / 16, by have := t_lt t; omega⟩ ⟨1024 * (t.val % 16) + r.val, by omega⟩ o) := by
  obtain ⟨e0, e1, e2, e3, e4, e5, e6, e7⟩ := idx t
  simp only [vA]
  blk_ext [iblk, V, e4]
theorem blk5 (t : Fin cfg0.N) (ci h : Fin 4) (d e : Fin 256) : iblk m c 5 t (ix5 0 ci h d e)
    = sA m c (ix5 ⟨t.val / 16, by have := t_lt t; omega⟩ ⟨4 * (t.val % 16) + ci.val, by omega⟩ h d e) := by
  obtain ⟨e0, e1, e2, e3, e4, e5, e6, e7⟩ := idx t
  simp only [sA]
  blk_ext [iblk, V, e5]
theorem blk6 (t : Fin cfg0.N) (r : Fin 8) (w : Fin 128) (o : Fin 1024) : iblk m c 6 t (ix4 0 r w o)
    = zA m c (ix4 ⟨t.val / 16, by have := t_lt t; omega⟩ ⟨8 * (t.val % 16) + r.val, by omega⟩ w o) := by
  obtain ⟨e0, e1, e2, e3, e4, e5, e6, e7⟩ := idx t
  simp only [zA]
  blk_ext [iblk, V, e6]

/-- The tables of head `h`. -/
def D (h : ℕ) : Vec F S1x256x256 .bf16 := tD (par (dfA m c) h) (par (dbA m c) h)
def XF (h : ℕ) : Vec F S1x256x256 .bf16 := tXF (par (dfA m c) h)
def XB (h : ℕ) : Vec F S1x256x256 .bf16 := tXB (par (dbA m c) h)
def Z (h : ℕ) : Vec F S1x256x256 .bf16 := tZ (par (dfA m c) h)
def G (h : ℕ) : Vec F S1x1x256 .f32 := tG (par (dfA m c) h)

/-- The states before point `t`, and after it. -/
def before (t : Fin cfg0.N) (h : ℕ) : FVec F S256x256 .f32 :=
  if t.val % 16 = 0 then unwrap (slab (k0_pay2 (F := F)) h)
  else unwrap (slab (outsAt0 m c (t.val - 1) (Nat.lt_of_le_of_lt (Nat.sub_le _ _) t.isLt)).2.2.1 h)
def after (t : Fin cfg0.N) : Vec F S4x256x256 .f32 :=
  slabs (φ := .f32) fun h => wrap (stN (before m c t h) (iblk m c 3 t) (iblk m c 4 t) (Z m c h) (G m c h) h 4)

/-- The five tables after every point, and the point's two blocks and states. -/
structure At (t : Fin cfg0.N) : Prop where
  out : (outsAt0 m c t.val t.isLt).1
    = blockOut (before m c t) (D m c) (XF m c) (XB m c) (Z m c) (G m c) (iblk m c 2 t) (iblk m c 3 t) (iblk m c 4 t) (iblk m c 5 t)
  freq : (outsAt0 m c t.val t.isLt).2.1 = freqOut (iblk m c 6 t) (iblk m c 7 t)
  st : (outsAt0 m c t.val t.isLt).2.2.1 = after m c t
  d : (outsAt0 m c t.val t.isLt).2.2.2.1 = slabs (D m c)
  xf : (outsAt0 m c t.val t.isLt).2.2.2.2.1 = slabs (XF m c)
  xb : (outsAt0 m c t.val t.isLt).2.2.2.2.2.1 = slabs (XB m c)
  z : (outsAt0 m c t.val t.isLt).2.2.2.2.2.2.1 = slabs (Z m c)
  g : (outsAt0 m c t.val t.isLt).2.2.2.2.2.2.2 = rows (G m c)

theorem at_A (t : Fin cfg0.N) (h0 : t.val % 16 = 0) : At m c t := by
  have hb : before m c t = fun h => unwrap (slab (k0_pay2 (F := F)) h) := funext fun h => if_pos h0
  constructor <;> rw [outsAt0_A m c t h0] <;> dsimp only
  · rw [out0_A_8_eq, hb, blk0, blk1]; rfl
  · rw [out0_A_9_eq]
  · rw [sout0_A_0_eq, blk0]; simp only [after, hb]; rfl
  · rw [sout0_A_1_eq, blk0, blk1]; rfl
  · rw [sout0_A_2_eq, blk0]; rfl
  · rw [sout0_A_3_eq, blk1]; rfl
  · rw [sout0_A_4_eq, blk0]; rfl
  · rw [sout0_A_5_eq, blk0]; rfl

theorem blockOut_congr {st st' : ℕ → FVec F S256x256 .f32} {D D' XF XF' XB XB' Z Z' : ℕ → Vec F S1x256x256 .bf16}
    {G G' : ℕ → Vec F S1x1x256 .f32} (x2 x3 x4 : Vec F S1x1024x1024 .bf16) (x5 : Vec F S1x4x4x256x256 .bf16)
    (e1 : ∀ h < 4, st h = st' h) (e2 : ∀ h < 4, D h = D' h) (e3 : ∀ h < 4, XF h = XF' h) (e4 : ∀ h < 4, XB h = XB' h)
    (e5 : ∀ h < 4, Z h = Z' h) (e6 : ∀ h < 4, G h = G' h) :
    blockOut st D XF XB Z G x2 x3 x4 x5 = blockOut st' D' XF' XB' Z' G' x2 x3 x4 x5 := by
  funext y
  have hy : (y 2).val < 1024 := (y 2).isLt
  have hh : (y 2).val / 256 < 4 := by omega
  simp only [blockOut, e1 _ hh, e2 _ hh, e3 _ hh, e4 _ hh, e5 _ hh, e6 _ hh]

theorem slabs_congr {φ : EltTy} {f g : ℕ → Vec F S1x256x256 φ} (e : ∀ h < 4, f h = g h) : slabs f = slabs g := by
  funext y
  have hy : (y 0).val < 4 := (y 0).isLt
  simp only [slabs, e _ hy]

theorem at_B (t : Fin cfg0.N) (h0 : ¬t.val % 16 = 0)
    (P : At m c ⟨t.val - 1, Nat.lt_of_le_of_lt (Nat.sub_le _ _) t.isLt⟩) : At m c t := by
  have hb : before m c t = fun h => unwrap (slab
      (outsAt0 m c (t.val - 1) (Nat.lt_of_le_of_lt (Nat.sub_le _ _) t.isLt)).2.2.1 h) := funext fun h => if_neg h0
  have d := P.d
  have xf := P.xf
  have xb := P.xb
  have z := P.z
  have g := P.g
  constructor <;> rw [outsAt0_B m c t h0] <;> dsimp only
  · rw [out0_B_8_eq, hb, d, xf, xb, z, g]
    exact blockOut_congr _ _ _ _ (fun h hh => rfl) (fun h hh => slab_slabs _ h hh) (fun h hh => slab_slabs _ h hh)
      (fun h hh => slab_slabs _ h hh) (fun h hh => slab_slabs _ h hh) (fun h hh => row_rows _ h hh)
  · rw [out0_B_9_eq]
  · rw [sout0_B_0_eq, z, g, after, hb]
    exact slabs_congr fun h hh => by rw [slab_slabs _ h hh, row_rows _ h hh]
  · exact d
  · exact xf
  · exact xb
  · exact z
  · exact g

theorem at_all : ∀ (n : ℕ) (hn : n < cfg0.N), At m c ⟨n, hn⟩
  | 0, hn => at_A m c ⟨0, hn⟩ (Nat.zero_mod _)
  | n + 1, hn => by
    by_cases h0 : (n + 1) % 16 = 0
    · exact at_A m c ⟨n + 1, hn⟩ h0
    · exact at_B m c ⟨n + 1, hn⟩ h0 (at_all n (by omega))

end Cert.KernelIdeal.Ret
end
-- ==== Proof.Decay.lean ====
/-
The decay of a retention head.  A head's decay parameter `a` gives the logarithm
`lg a = min a 0 - log (1 + exp (-|a|))` of its decay rate (the logarithm of a logistic function), and
every weight the layer uses is `exp (lg a * n)` for a natural number `n`.  For EVERY extended real `a`
these are the powers of one nonnegative real `gam a`, so no condition on the parameters is needed.
-/
module

public import Idealize.ShloMosaic.PureOps.Ideal
public import Mathlib.Analysis.SpecialFunctions.Log.Basic

@[expose] public section

noncomputable section

namespace Cert.Ret

open Idealize.ShloMosaic

/-- The logarithm of the decay rate. -/
def lg (a : EReal) : EReal := min a 0 - Ideal.log1p (Ideal.exp (0 - max a (-a)))

theorem exp_bot : Ideal.exp ⊥ = 0 := rfl
theorem exp_coe (r : ℝ) : Ideal.exp (r : EReal) = ((Real.exp r : ℝ) : EReal) := rfl
theorem log_coe (r : ℝ) : Ideal.log (r : EReal) = if r ≤ 0 then ⊥ else ((Real.log r : ℝ) : EReal) := rfl

/-- `log (1 + exp (-|a|))` is a nonnegative real at every extended real. -/
theorem log1p_real (a : EReal) : ∃ l : ℝ, 0 ≤ l ∧ Ideal.log1p (Ideal.exp (0 - max a (-a))) = (l : EReal) := by
  induction a with
  | bot =>
    refine ⟨0, le_rfl, ?_⟩
    have e : (0 - max (⊥ : EReal) (-⊥)) = ⊥ := by simp
    rw [e, exp_bot, Ideal.log1p, add_zero, ← EReal.coe_one, log_coe, if_neg (by norm_num), Real.log_one]
  | top =>
    refine ⟨0, le_rfl, ?_⟩
    have e : (0 - max (⊤ : EReal) (-⊤)) = ⊥ := by simp
    rw [e, exp_bot, Ideal.log1p, add_zero, ← EReal.coe_one, log_coe, if_neg (by norm_num), Real.log_one]
  | coe r =>
    have e : (0 - max (r : EReal) (-(r : EReal))) = ((-|r| : ℝ) : EReal) := by
      rw [zero_sub, ← EReal.coe_neg, ← EReal.coe_strictMono.monotone.map_max, ← EReal.coe_neg]; rfl
    have p := Real.exp_pos (-|r|)
    refine ⟨Real.log (1 + Real.exp (-|r|)), Real.log_nonneg (by linarith), ?_⟩
    rw [e]
    rw [exp_coe, Ideal.log1p, ← EReal.coe_one, ← EReal.coe_add, log_coe, if_neg (by linarith)]

theorem lg_nonpos (a : EReal) : lg a ≤ 0 := by
  obtain ⟨l, hl, e⟩ := log1p_real a
  rw [lg, e, sub_eq_add_neg, ← EReal.coe_neg]
  calc min a 0 + ((-l : ℝ) : EReal) ≤ 0 + 0 :=
        add_le_add (min_le_right _ _) (by rw [← EReal.coe_zero]; exact EReal.coe_le_coe_iff.2 (by linarith))
    _ = 0 := by simp

/-- The exponentials of the natural multiples of a nonpositive extended real are the powers of a real. -/
theorem exp_mul_nat (x : EReal) (hx : x ≤ 0) :
    ∃ γ : ℝ, 0 ≤ γ ∧ ∀ n : ℕ, Ideal.exp (x * ((n : ℝ) : EReal)) = ((γ ^ n : ℝ) : EReal) := by
  induction x with
  | bot =>
    refine ⟨0, le_rfl, fun n => ?_⟩
    rcases Nat.eq_zero_or_pos n with rfl | h
    · rw [Nat.cast_zero, EReal.coe_zero, mul_zero, pow_zero, ← EReal.coe_zero, exp_coe, Real.exp_zero]
    · rw [EReal.bot_mul_coe_of_pos (by exact_mod_cast h), zero_pow h.ne']; rfl
  | top => simp at hx
  | coe r =>
    refine ⟨Real.exp r, (Real.exp_pos r).le, fun n => ?_⟩
    rw [← EReal.coe_mul, mul_comm, ← Real.exp_nat_mul]; rfl

/-- The decay rate. -/
def gam (a : EReal) : ℝ := Classical.choose (exp_mul_nat (lg a) (lg_nonpos a))

theorem exp_lg (a : EReal) (n : ℕ) : Ideal.exp (lg a * ((n : ℝ) : EReal)) = ((gam a ^ n : ℝ) : EReal) :=
  (Classical.choose_spec (exp_mul_nat (lg a) (lg_nonpos a))).2 n

/-- The same logarithm as `-(max (-a) 0 + log (1 + exp (-|-a|)))`, minus the softplus of `-a`. -/
theorem lg_softplus (a : EReal) :
    -(max (-a) 0 + Ideal.log1p (Ideal.exp (-(max (-a) (- -a))))) = lg a := by
  have e : -(max (-a) (- -a)) = 0 - max a (-a) := by rw [neg_neg, max_comm, zero_sub]
  rw [e, lg]
  obtain ⟨l, _, h⟩ := log1p_real a
  rw [h, EReal.neg_add (.inr (EReal.coe_ne_top _)) (.inr (EReal.coe_ne_bot _))]
  congr 1
  rcases le_total a 0 with h | h
  · rw [max_eq_left (by simpa using EReal.neg_le_neg_iff.2 h), neg_neg, min_eq_left h]
  · rw [max_eq_right (by simpa using EReal.neg_le_neg_iff.2 h), min_eq_right h, neg_zero]

end Cert.Ret
end
-- ==== Proof.Chunks.lean ====
/-
The real mathematics of chunked retention.  A sequence of `16384 = 64 * 256` positions is read in 64
chunks of 256.  The past of a chunk is summed up in a state (`state`), which `state_succ` carries from
chunk to chunk; `retained` says that a position's own chunk with its weights, plus the decayed query
against the state, is the sum over all positions with their weights.
-/
module

public import Mathlib.Data.Real.Basic
public import Mathlib.Data.EReal.Operations
public import Mathlib.Algebra.BigOperators.Fin
public import Mathlib.Algebra.BigOperators.Intervals
public import Mathlib.Tactic.Ring
public import Mathlib.Tactic.Linarith
public import Mathlib.Tactic.NormNum

@[expose] public section

noncomputable section

namespace Cert.Ret

/-- A sum of reals is summed in the reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The weight of position `m` for position `n`: powers of `gf` of the distance for the past, of `gb` for
    what lies ahead in the same chunk of 256, nothing beyond. -/
def weight (gf gb : ℝ) (n m : ℕ) : ℝ :=
  if m ≤ n then gf ^ (n - m) else if n / 256 = m / 256 then gb ^ (m - n) else 0

/-- The same inside a chunk. -/
def near (gf gb : ℝ) (i l : ℕ) : ℝ := if l ≤ i then gf ^ (i - l) else gb ^ (l - i)

/-- What the first `j` chunks leave: keys against values, decayed to the last position before chunk `j`. -/
def state (gf : ℝ) (k : ℕ → ℕ → ℝ) (v : ℕ → ℝ) (j d : ℕ) : ℝ :=
  ∑ m ∈ Finset.range (256 * j), gf ^ (256 * j - 1 - m) * k m d * v m

theorem state_zero (gf : ℝ) (k : ℕ → ℕ → ℝ) (v : ℕ → ℝ) (d : ℕ) : state gf k v 0 d = 0 := by simp [state]

theorem state_succ (gf : ℝ) (k : ℕ → ℕ → ℝ) (v : ℕ → ℝ) (j d : ℕ) :
    state gf k v j d * gf ^ 256
      + ∑ x ∈ Finset.range 256, k (256 * j + x) d * (v (256 * j + x) * gf ^ (255 - x)) = state gf k v (j + 1) d := by
  simp only [state]
  rw [show 256 * (j + 1) = 256 * j + 256 by ring, Finset.sum_range_add, Finset.sum_mul]
  congr 1
  · refine Finset.sum_congr rfl fun m hm => ?_
    have hm := Finset.mem_range.1 hm
    rw [show 256 * j + 256 - 1 - m = (256 * j - 1 - m) + 256 by omega, pow_add]; ring
  · refine Finset.sum_congr rfl fun x hx => ?_
    have hx := Finset.mem_range.1 hx
    rw [show 256 * j + 256 - 1 - (256 * j + x) = 255 - x by omega]; ring

theorem retained (gf gb : ℝ) (q k : ℕ → ℕ → ℝ) (v : ℕ → ℝ) (j i : ℕ) (hi : i < 256) (hj : j < 64) :
    (∑ x ∈ Finset.range 256, (∑ d ∈ Finset.range 256, q (256 * j + i) d * k (256 * j + x) d) * near gf gb i x
        * v (256 * j + x))
      + ∑ d ∈ Finset.range 256, q (256 * j + i) d * gf ^ (1 + i) * state gf k v j d
    = ∑ m ∈ Finset.range 16384, (∑ d ∈ Finset.range 256, q (256 * j + i) d * k m d) * weight gf gb (256 * j + i) m
        * v m := by
  have hsplit : (16384 : ℕ) = 256 * j + 256 + (16384 - (256 * j + 256)) := by omega
  rw [hsplit, Finset.sum_range_add, Finset.sum_range_add]
  have h3 : ∑ x ∈ Finset.range (16384 - (256 * j + 256)),
      (∑ d ∈ Finset.range 256, q (256 * j + i) d * k (256 * j + 256 + x) d)
        * weight gf gb (256 * j + i) (256 * j + 256 + x) * v (256 * j + 256 + x) = 0 := by
    refine Finset.sum_eq_zero fun x _ => ?_
    rw [weight, if_neg (by omega), if_neg (by omega)]; ring
  have h2 : ∀ x ∈ Finset.range 256,
      (∑ d ∈ Finset.range 256, q (256 * j + i) d * k (256 * j + x) d) * weight gf gb (256 * j + i) (256 * j + x)
        * v (256 * j + x)
      = (∑ d ∈ Finset.range 256, q (256 * j + i) d * k (256 * j + x) d) * near gf gb i x * v (256 * j + x) := by
    intro x hx
    have hx := Finset.mem_range.1 hx
    have e : weight gf gb (256 * j + i) (256 * j + x) = near gf gb i x := by
      by_cases h : x ≤ i
      · rw [weight, near, if_pos (by omega), if_pos h]; congr 1; omega
      · rw [weight, near, if_neg (by omega), if_neg h, if_pos (by omega)]; congr 1; omega
    rw [e]
  have h1 : ∑ m ∈ Finset.range (256 * j),
      (∑ d ∈ Finset.range 256, q (256 * j + i) d * k m d) * weight gf gb (256 * j + i) m * v m
      = ∑ d ∈ Finset.range 256, q (256 * j + i) d * gf ^ (1 + i) * state gf k v j d := by
    simp only [state, Finset.mul_sum, Finset.sum_mul]
    rw [Finset.sum_comm]
    refine Finset.sum_congr rfl fun d _ => Finset.sum_congr rfl fun m hm => ?_
    have hm := Finset.mem_range.1 hm
    rw [weight, if_pos (by omega), show 256 * j + i - m = (1 + i) + (256 * j - 1 - m) by omega, pow_add]; ring
  rw [h3, h1, Finset.sum_congr rfl h2]; ring

end Cert.Ret
end
-- ==== Proof.Step.lean ====
/-
The body's arithmetic over the extended reals, read at an index: on tiles of real numbers it is the real
arithmetic of chunked retention.
-/
module

public import proofs.«01_k».proof.Proof.Blocks
public import proofs.«01_k».proof.Proof.Decay
public import proofs.«01_k».proof.Proof.Chunks

@[expose] public section

set_option maxRecDepth 16384

noncomputable section

namespace Cert.KernelIdeal.Ret

open Cert.KernelIdeal Cert.KernelIdeal.Gen Idealize.ShloMosaic Idealize.ShloMosaic.TcCoe Idealize.SL.Sem

open Cert.Ret

/-- A tile, or a matrix, holds these reals. -/
def Holds (x : Vec Ideal S1x256x256 .bf16) (f : ℕ → ℕ → ℝ) : Prop := ∀ i e : Fin 256, x (ix3 0 i e) = ((f i e : ℝ) : EReal)
def HoldsM (x : FVec Ideal S256x256 .f32) (f : ℕ → ℕ → ℝ) : Prop := ∀ i e : Fin 256, x (ix2 i e) = ((f i e : ℝ) : EReal)

theorem toInt_ofNat (n : ℕ) (h : n < 2147483648) : (BitVec.ofNat 32 n).toInt = n := by
  rw [BitVec.toInt_ofNat']; simp only [Int.bmod]; omega
theorem toInt_diff (m n : ℕ) (hm : m < 1073741824) (hn : n < 1073741824) :
    (BitVec.ofNat 32 m - BitVec.ofNat 32 n).toInt = (m : ℤ) - n := by
  rw [BitVec.toInt_sub, toInt_ofNat m (by omega), toInt_ofNat n (by omega)]; simp only [Int.bmod]; omega

/-- A position as a float is the position. -/
theorem sitofp_ofNat (n : ℕ) (h : n < 2147483648) :
    FloatOps.sitofp (F := Ideal) FTy.f32 (BitVec.ofNat 32 n) = ((n : ℝ) : EReal) := by
  show (((BitVec.ofNat 32 n).toInt : ℝ) : EReal) = _
  rw [toInt_ofNat n h, Int.cast_natCast]
theorem sitofp_diff (m n : ℕ) (hm : m < 1073741824) (hn : n < 1073741824) :
    FloatOps.sitofp (F := Ideal) FTy.f32 (IntOp.subi (BitVec.ofNat 32 m) (BitVec.ofNat 32 n)) = (((m : ℝ) - n : ℝ) : EReal) := by
  show (((BitVec.ofNat 32 m - BitVec.ofNat 32 n).toInt : ℝ) : EReal) = _
  rw [toInt_diff m n hm hn]; push_cast; rfl

theorem sel_true (x y : EReal) : Scalar.select (BitVec.ofBool true) x y = x := rfl
theorem sel_false (x y : EReal) : Scalar.select (BitVec.ofBool false) x y = y := rfl

theorem c256 : Ideal.ofBits FTy.f32 1132462080#32 = ((256 : ℝ) : EReal) := by
  simp [Ideal.ofBits, Ideal.ieee]; rw [← EReal.coe_mul]; norm_num
theorem c255 : Ideal.ofBits FTy.f32 1132396544#32 = ((255 : ℝ) : EReal) := by
  simp [Ideal.ofBits, Ideal.ieee]; rw [← EReal.coe_mul]; norm_num
theorem cneg1 : Ideal.ofBits FTy.f32 3212836864#32 = ((-1 : ℝ) : EReal) := by
  simp [Ideal.ofBits, Ideal.ieee]; rw [← EReal.coe_mul, ← EReal.coe_one]; norm_num

theorem lg_eq (a : Elt Ideal .f32) : min a 0 - Ideal.log1p (Ideal.exp (0 - FloatOps.absf (F := Ideal) (φ := .f32) a)) = lg a := rfl

/-- The power read off the exponential of a multiple. -/
theorem exp_lg_of (a : EReal) (x : EReal) (n : ℕ) (h : x = ((n : ℝ) : EReal)) : Ideal.exp (lg a * x) = ((gam a ^ n : ℝ) : EReal) := by
  rw [h, exp_lg]

theorem yV_holds (st : FVec Ideal S256x256 .f32) (q k v D XF XB : Vec Ideal S1x256x256 .bf16) (sb : Vec Ideal S1x1x1x256x256 .bf16)
    (fs fq fk fv fD fF fB fb : ℕ → ℕ → ℝ) (hs : HoldsM st fs) (hq : Holds q fq) (hk : Holds k fk) (hv : Holds v fv)
    (hD : Holds D fD) (hF : Holds XF fF) (hB : Holds XB fB) (hb : ∀ i e : Fin 256, sb (ix5 0 0 0 i e) = ((fb i e : ℝ) : EReal)) :
    HoldsM (yV st q k v D XF XB sb) fun i e =>
      (∑ x ∈ Finset.range 256, (∑ d ∈ Finset.range 256, fq i d * fk x d) * fD i x * fv x e)
      + ∑ d ∈ Finset.range 256, fq i d * fF i d * fs d e + ∑ d ∈ Finset.range 256, fq i d * fB i d * fb d e := by
  intro i e
  simp only [yV]
  pointwise [k0_pay58, k0_pay52, k0_pay57]
  rw [show (∑ x : Fin 768, _ : EReal) = _ from Fin.sum_univ_add (a := 256) (b := 512) _]
  rw [show (∑ x : Fin 512, _ : EReal) = _ from Fin.sum_univ_add (a := 256) (b := 256) _]
  have n1 : ∀ n : ℕ, ¬ (256 + n < 256) := fun n => by omega
  have n2 : ∀ n : ℕ, ¬ (256 + n - 256 < 256 ∧ ¬ n < 256) := fun n => by omega
  have n3 : ∀ n : ℕ, 256 + (256 + n) - 256 = 256 + n := fun n => by omega
  simp only [Fin.val_castAdd, Fin.val_natAdd, Fin.is_lt, dite_true, n1, dite_false, n3, Nat.add_sub_cancel_left, Fin.eta]
  simp only [hs _ _, hq _ _, hk _ _, hv _ _, hD _ _, hF _ _, hB _ _, hb _ _, ← EReal.coe_mul, ← coe_sum, ← EReal.coe_add, Finset.sum_range,
    add_assoc]

theorem stV_holds (st : FVec Ideal S256x256 .f32) (k v Z : Vec Ideal S1x256x256 .bf16) (gc : Vec Ideal S1x1x256 .f32)
    (fs fk fv fZ : ℕ → ℕ → ℝ) (g : ℝ) (hs : HoldsM st fs) (hk : Holds k fk) (hv : Holds v fv) (hZ : Holds Z fZ)
    (hg : ∀ e : Fin 256, gc (ix3 0 0 e) = (g : EReal)) :
    HoldsM (stV st k v Z gc) fun d e => fs d e * g + ∑ x ∈ Finset.range 256, fk x d * (fv x e * fZ x e) := by
  intro i e
  simp only [stV]
  pointwise [k0_pay59, k0_pay57]
  simp only [hs i e, hk _ _, hv _ _, hZ _ _, hg e, ← EReal.coe_mul, ← EReal.coe_add, ← coe_sum, Finset.sum_range]

theorem unwrap_at (x : Vec Ideal S1x256x256 .f32) (i e : Fin 256) : unwrap x (ix2 i e) = x (ix3 0 i e) := by
  simp only [unwrap]; pointwise [k0_pay48]
theorem wrap_at (x : FVec Ideal S256x256 .f32) (i e : Fin 256) : wrap x (ix3 0 i e) = x (ix2 i e) := by
  simp only [wrap]; pointwise
theorem tXF_holds (a : Elt Ideal .f32) : Holds (tXF a) fun i _ => gam a ^ (1 + i) := by
  intro i e
  simp only [tXF]
  pointwise [k0_pay3]
  rw [lg_eq, sitofp_ofNat _ (by omega)]
  exact exp_lg_of a _ _ (by rw [← EReal.coe_one, ← EReal.coe_add]; push_cast; rfl)
theorem tXB_holds (a : Elt Ideal .f32) : Holds (tXB a) fun i _ => gam a ^ (256 - i) := by
  intro i e
  simp only [tXB]
  pointwise [k0_pay7, k0_pay4, k0_pay5, k0_pay6]
  rw [lg_eq, sitofp_ofNat _ (by omega), c256, cneg1]
  refine exp_lg_of a _ _ ?_
  rw [← EReal.coe_mul, ← EReal.coe_add, Nat.cast_sub (by omega)]; congr 1; push_cast; ring
theorem tZ_holds (a : Elt Ideal .f32) : Holds (tZ a) fun i _ => gam a ^ (255 - i) := by
  intro i e
  simp only [tZ]
  pointwise [k0_pay8]
  rw [lg_eq, sitofp_ofNat _ (by omega), c255, cneg1]
  refine exp_lg_of a _ _ ?_
  rw [← EReal.coe_mul, ← EReal.coe_add, Nat.cast_sub (by omega)]; congr 1; push_cast; ring
theorem tG_at (a : Elt Ideal .f32) (e : Fin 256) : tG a (ix3 0 0 e) = ((gam a ^ 256 : ℝ) : EReal) := by
  simp only [tG]
  pointwise [k0_pay10, k0_pay9]
  rw [lg_eq, c256]
  exact exp_lg_of a _ _ (by norm_num)
theorem tD_holds (a b : Elt Ideal .f32) : Holds (tD a b) (near (gam a) (gam b)) := by
  intro i e
  simp only [tD]
  pointwise [k0_pay11]
  rw [lg_eq, lg_eq, sitofp_diff _ _ (by omega) (by omega)]
  have hc : IntOp.cmpi CmpIPredicate.sge (BitVec.ofNat 32 i.val) (BitVec.ofNat 32 e.val) = BitVec.ofBool (decide (e.val ≤ i.val)) := by
    simp only [IntOp.cmpi, BitVec.sle, toInt_ofNat i.val (by omega), toInt_ofNat e.val (by omega)]
    simp
  by_cases h : e.val ≤ i.val
  · rw [hc, near, if_pos h, decide_eq_true h, sel_true]
    refine exp_lg_of a _ _ ?_
    have hr : (e.val : ℝ) ≤ i.val := by exact_mod_cast h
    rw [max_eq_left (by rw [← EReal.coe_zero]; exact EReal.coe_le_coe_iff.2 (by linarith)), Nat.cast_sub h]
  · rw [hc, near, if_neg h, decide_eq_false h, sel_false]
    refine exp_lg_of b _ _ ?_
    have hr : (i.val : ℝ) ≤ e.val := by exact_mod_cast (by omega : i.val ≤ e.val)
    rw [← EReal.coe_zero, ← EReal.coe_sub, max_eq_left (EReal.coe_le_coe_iff.2 (by linarith)), Nat.cast_sub (by omega)]
    congr 1; ring

end Cert.KernelIdeal.Ret
end
-- ==== Proof.Retained.lean ====
/-
What the kernel's first result is, on queries, keys, values and states that are real numbers: the group
norm of the retention over the whole sequence (`ySpec`).  The states the grid carries are the states of
chunked retention.
-/
module

public import proofs.«01_k».proof.Proof.Points
public import proofs.«01_k».proof.Proof.Step

@[expose] public section

set_option maxRecDepth 16384

noncomputable section

namespace Cert.KernelIdeal.Ret

open Cert.KernelIdeal Cert.KernelIdeal.Gen Idealize.ShloMosaic Idealize.ShloMosaic.TcCoe Idealize.SL.Sem

open Cert.Ret

/-- Head `h` of an array of queries, keys or values, as reals. -/
def heads (x : Vec Ideal S2x16384x1024 .bf16) (b h n d : ℕ) : ℝ :=
  (show EReal from x (ix3 ⟨b % 2, Nat.mod_lt _ (by decide)⟩ ⟨n % 16384, Nat.mod_lt _ (by decide)⟩ ⟨(256 * h + d) % 1024, Nat.mod_lt _ (by decide)⟩)).toReal
/-- The states of what lies behind each chunk, as reals. -/
def backs (x : Vec Ideal S2x64x4x256x256 .bf16) (b h j d e : ℕ) : ℝ :=
  (show EReal from x (ix5 ⟨b % 2, Nat.mod_lt _ (by decide)⟩ ⟨j % 64, Nat.mod_lt _ (by decide)⟩ ⟨h % 4, Nat.mod_lt _ (by decide)⟩ ⟨d % 256, Nat.mod_lt _ (by decide)⟩ ⟨e % 256, Nat.mod_lt _ (by decide)⟩)).toReal

/-- Retention over the whole sequence: every position's query against every key, weighted, times the
    values; and the query against the state of what lies behind its chunk, decayed. -/
def ySpec (q k v : Vec Ideal S2x16384x1024 .bf16) (s : Vec Ideal S2x64x4x256x256 .bf16) (df db : Vec Ideal S4 .f32)
    (b h n e : ℕ) : ℝ :=
  (∑ m ∈ Finset.range 16384, (∑ d ∈ Finset.range 256, heads q b h n d * heads k b h m d)
      * weight (gam (par df h)) (gam (par db h)) n m * heads v b h m e)
  + ∑ d ∈ Finset.range 256, heads q b h n d * gam (par db h) ^ (256 - n % 256) * backs s b h (n / 256) d e

/-- The group norm of one row of 256. -/
def gn (y : Fin 256 → EReal) (e : Fin 256) : EReal :=
  (y e - Ideal.div (∑ x, y x) (Ideal.ofBits FTy.f32 0x43800000#32))
    * Ideal.rsqrt (Ideal.div (∑ x, (y x - Ideal.div (∑ z, y z) (Ideal.ofBits FTy.f32 0x43800000#32))
        * (y x - Ideal.div (∑ z, y z) (Ideal.ofBits FTy.f32 0x43800000#32))) (Ideal.ofBits FTy.f32 0x43800000#32)
      + Ideal.ofBits FTy.f32 0x3727C5AC#32)

theorem outV_at (y : FVec Ideal S256x256 .f32) (i e : Fin 256) : outV y (ix3 0 i e) = gn (fun x => y (ix2 i x)) e := by
  simp only [outV, gn]
  pointwise [k0_pay60]

/-- An array of real numbers. -/
def Real3 {s : Shape} (x : Vec Ideal s .bf16) : Prop := ∀ i, (show EReal from x i) = (((show EReal from x i).toReal : ℝ) : EReal)

variable (m : (ℓ : Loc nD τ sig) → Buf (Elt Ideal) ℓ) (c : Dev nD)
variable (hq : Real3 (qA m c)) (hk : Real3 (kA m c)) (hv : Real3 (vA m c)) (hs : Real3 (sA m c))

include hq in
theorem tile2 (t : Fin cfg0.N) (ci h : ℕ) (hci : ci < 4) (hh : h < 4) :
    Holds (tile (iblk m c 2 t) (256 * ci) (256 * h)) fun i d => heads (qA m c) (t.val / 16) h (256 * (4 * (t.val % 16) + ci) + i) d := by
  intro i e
  have ht := t_lt t
  refine (blk2 m c t _ _).trans ((congrArg (qA m c) ?_).trans (hq _))
  congr 1 <;> apply Fin.ext <;> dsimp only [ix3] <;> omega

include hk in
theorem tile3 (t : Fin cfg0.N) (ci h : ℕ) (hci : ci < 4) (hh : h < 4) :
    Holds (tile (iblk m c 3 t) (256 * ci) (256 * h)) fun i d => heads (kA m c) (t.val / 16) h (256 * (4 * (t.val % 16) + ci) + i) d := by
  intro i e
  have ht := t_lt t
  refine (blk3 m c t _ _).trans ((congrArg (kA m c) ?_).trans (hk _))
  congr 1 <;> apply Fin.ext <;> dsimp only [ix3] <;> omega

include hv in
theorem tile4 (t : Fin cfg0.N) (ci h : ℕ) (hci : ci < 4) (hh : h < 4) :
    Holds (tile (iblk m c 4 t) (256 * ci) (256 * h)) fun i d => heads (vA m c) (t.val / 16) h (256 * (4 * (t.val % 16) + ci) + i) d := by
  intro i e
  have ht := t_lt t
  refine (blk4 m c t _ _).trans ((congrArg (vA m c) ?_).trans (hv _))
  congr 1 <;> apply Fin.ext <;> dsimp only [ix3] <;> omega

include hs in
theorem tile5 (t : Fin cfg0.N) (ci h : ℕ) (hci : ci < 4) (hh : h < 4) (i e : Fin 256) :
    behind (iblk m c 5 t) ci h (ix5 0 0 0 i e) = ((backs (sA m c) (t.val / 16) h (4 * (t.val % 16) + ci) i e : ℝ) : EReal) := by
  have ht := t_lt t
  refine (blk5 m c t _ _ i e).trans ((congrArg (sA m c) ?_).trans (hs _))
  congr 1 <;> apply Fin.ext <;> dsimp only [ix5] <;> omega

/-- The state a head should have before chunk `j`. -/
def sSpec (b h j d e : ℕ) : ℝ :=
  state (gam (par (dfA m c) h)) (fun n d => heads (kA m c) b h n d) (fun n => heads (vA m c) b h n e) j d

include hk hv in
theorem stN_holds (t : Fin cfg0.N) (h : ℕ) (hh : h < 4) (st : FVec Ideal S256x256 .f32)
    (h0 : HoldsM st fun d e => sSpec m c (t.val / 16) h (4 * (t.val % 16)) d e) :
    ∀ ci ≤ 4, HoldsM (stN st (iblk m c 3 t) (iblk m c 4 t) (Z m c h) (G m c h) h ci)
      fun d e => sSpec m c (t.val / 16) h (4 * (t.val % 16) + ci) d e
  | 0, _ => h0
  | ci + 1, hci => by
    intro d e
    have step := stV_holds _ _ _ (Z m c h) (G m c h) _ _ _ _ (gam (par (dfA m c) h) ^ 256)
      (stN_holds t h hh st h0 ci (by omega))
      (tile3 m c hk t ci h (by omega) hh) (tile4 m c hv t ci h (by omega) hh) (tZ_holds (par (dfA m c) h))
      (fun e => tG_at (par (dfA m c) h) e) d e
    refine step.trans ?_
    congr 1
    exact state_succ (gam (par (dfA m c) h)) (fun n d => heads (kA m c) (t.val / 16) h n d)
      (fun n => heads (vA m c) (t.val / 16) h n e) (4 * (t.val % 16) + ci) d

include hk hv in
/-- The states before every point are those of chunked retention. -/
theorem before_holds : ∀ (n : ℕ) (hn : n < cfg0.N) (h : ℕ), h < 4 →
    HoldsM (before m c ⟨n, hn⟩ h) fun d e => sSpec m c (n / 16) h (4 * (n % 16)) d e := by
  intro n
  induction n with
  | zero =>
    intro hn h hh d e
    rw [before, if_pos (Nat.zero_mod _), unwrap_at]
    simp only [sSpec, Nat.zero_mod, Nat.mul_zero, state_zero, EReal.coe_zero, slab]
    pointwise [k0_pay2]
  | succ n ih =>
    intro hn h hh d e
    by_cases h0 : (n + 1) % 16 = 0
    · rw [before, if_pos h0, unwrap_at]
      simp only [sSpec, h0, Nat.mul_zero, state_zero, EReal.coe_zero, slab]
      pointwise [k0_pay2]
    · have hn' : n < cfg0.N := by omega
      rw [before, if_neg h0, unwrap_at]
      have e1 : (outsAt0 m c ((⟨n + 1, hn⟩ : Fin cfg0.N).val - 1) (Nat.lt_of_le_of_lt (Nat.sub_le _ _) hn)).2.2.1 = after m c ⟨n, hn'⟩ :=
        (at_all m c n hn').st
      rw [e1, after, slab_slabs _ h hh, wrap_at]
      rw [show (n + 1) / 16 = n / 16 by omega, show 4 * ((n + 1) % 16) = 4 * (n % 16) + 4 by omega]
      exact stN_holds m c hk hv ⟨n, hn'⟩ h hh _ (ih hn' h hh) 4 le_rfl d e

include hq hk hv hs in
theorem headOut_holds (t : Fin cfg0.N) (h ci : ℕ) (hh : h < 4) (hci : ci < 4) :
    HoldsM (headOut (before m c t h) (D m c h) (XF m c h) (XB m c h) (Z m c h) (G m c h) (iblk m c 2 t) (iblk m c 3 t)
        (iblk m c 4 t) (iblk m c 5 t) h ci)
      fun i e => ySpec (qA m c) (kA m c) (vA m c) (sA m c) (dfA m c) (dbA m c) (t.val / 16) h
        (256 * (4 * (t.val % 16) + ci) + i) e := by
  intro i e
  have ht := t_lt t
  refine (yV_holds _ _ _ _ (D m c h) (XF m c h) (XB m c h) _ _ _ _ _ _ _ _ _
    (stN_holds m c hk hv t h hh _ (before_holds m c hk hv t.val t.isLt h hh) ci (by omega))
    (tile2 m c hq t ci h hci hh) (tile3 m c hk t ci h hci hh) (tile4 m c hv t ci h hci hh)
    (tD_holds (par (dfA m c) h) (par (dbA m c) h)) (tXF_holds (par (dfA m c) h)) (tXB_holds (par (dbA m c) h))
    (tile5 m c hs t ci h hci hh) i e).trans ?_
  refine congrArg Real.toEReal ?_
  have r := retained (gam (par (dfA m c) h)) (gam (par (dbA m c) h)) (fun n d => heads (qA m c) (t.val / 16) h n d)
    (fun n d => heads (kA m c) (t.val / 16) h n d) (fun n => heads (vA m c) (t.val / 16) h n e) (4 * (t.val % 16) + ci) i.val
    i.isLt (by omega)
  have hmod : (256 * (4 * (t.val % 16) + ci) + i.val) % 256 = i.val := by omega
  have hdiv : (256 * (4 * (t.val % 16) + ci) + i.val) / 256 = 4 * (t.val % 16) + ci := by omega
  simp only [ySpec, hmod, hdiv]
  rw [← r]
  simp only [sSpec]

include hq hk hv hs in
/-- The first result, at a position: the group norm of the head's row of `ySpec`. -/
theorem ret_at (b : Fin 2) (n : Fin 16384) (o : Fin 1024) :
    Value.G8 m c (ix3 b n o)
      = gn (fun x => ((ySpec (qA m c) (kA m c) (vA m c) (sA m c) (dfA m c) (dbA m c) b (o.val / 256) n x : ℝ) : EReal))
          ⟨o.val % 256, Nat.mod_lt _ (by decide)⟩ := by
  have hp : 16 * b.val + n.val / 1024 < cfg0.N := lt_of_lt_of_eq (by omega) (show (32 : ℕ) = cfg0.N from N_0.symm)
  have hpt : Value.pt8Of (ix3 b n o) = 16 * b.val + n.val / 1024 := by
    show 16 * (b.val / 1 - 0) + 1 * (n.val / 1024 - 0) + 1 * (o.val / 1024 - 0) = _
    omega
  have e0 : Value.G8 m c (ix3 b n o) = (outsAt0 m c (16 * b.val + n.val / 1024) hp).1 (Value.loc8Of (ix3 b n o)) := by
    have key : ∀ p (hp' : p < cfg0.N), p = 16 * b.val + n.val / 1024 →
        (outsAt0 m c p hp').1 (Value.loc8Of (ix3 b n o)) = (outsAt0 m c (16 * b.val + n.val / 1024) hp).1 (Value.loc8Of (ix3 b n o)) := by
      intro p hp' e; subst e; rfl
    rw [Value.G8, dif_pos (by rw [hpt]; exact hp), ← Value.outsAt0_sweep m c _ (by rw [hpt]; exact hp)]
    exact key _ _ hpt
  rw [e0, (at_all m c _ hp).out]
  have l1 : (Value.loc8Of (ix3 b n o) 1).val = n.val % 1024 := by
    first | rfl | (show n.val - 1024 * (n.val / 1024) = _; omega)
  have l2 : (Value.loc8Of (ix3 b n o) 2).val = o.val := by
    first | rfl | (show o.val % 1024 = _; omega) | (show o.val - 1024 * (o.val / 1024) = _; omega)
  rw [blockOut_at _ _ _ _ _ _ _ _ _ _ (Value.loc8Of (ix3 b n o))
    (ix3 0 ⟨n.val % 256, Nat.mod_lt _ (by decide)⟩ ⟨o.val % 256, Nat.mod_lt _ (by decide)⟩)
    (n.val % 1024 / 256) (o.val / 256) (by rw [l1]; show _ = 256 * (n.val % 1024 / 256) + n.val % 256; omega)
    (by rw [l2]; show _ = 256 * (o.val / 256) + o.val % 256; omega), outV_at]
  refine congrArg (fun y => gn y _) (funext fun x => ?_)
  have hh := headOut_holds m c hq hk hv hs ⟨16 * b.val + n.val / 1024, hp⟩ (o.val / 256) (n.val % 1024 / 256) (by omega) (by omega)
    ⟨n.val % 256, Nat.mod_lt _ (by decide)⟩ x
  have e1 : (16 * b.val + n.val / 1024) / 16 = b.val := by omega
  have e2 : 256 * (4 * ((16 * b.val + n.val / 1024) % 16) + n.val % 1024 / 256) + n.val % 256 = n.val := by omega
  simp only [e1, e2] at hh
  exact hh

end Cert.KernelIdeal.Ret
end
-- ==== Proof.RefValue.lean ====
/-
What the reference's first result is, read at an index: the group norm of the same retention.
-/
module

public import proofs.«01_k».proof.Proof.Gen.ReferenceIdeal.Run
public import proofs.«01_k».proof.Proof.Retained
public import Idealize.ShloMosaic.Lib.Routing.Words

@[expose] public section

set_option maxRecDepth 16384

noncomputable section

namespace Cert.ReferenceIdeal.Ret

open Cert.ReferenceIdeal Cert.ReferenceIdeal.Gen Idealize.ShloMosaic Idealize.ShloMosaic.TcCoe Idealize.SL.Sem

open Cert.Ret

/-- An array of queries, keys or values, by heads. -/
def headsV (x : Vec Ideal S2x16384x1024 .bf16) : FVec Ideal S2x4x16384x256 .f32 := (extf .f32 (transpose S2x4x16384x256 [0, 2, 1, 3] (shapeCast _ x shapeCasts_S2x16384x1024_S2x16384x4x256) transposes_S2x16384x4x256_S2x4x16384x256_0_2_1_3) bitsLt_bf16_f32)
/-- The logarithms of the decay rates. -/
def lsp (d : FVec Ideal S4 .f32) : FVec Ideal S4 .f32 := (Host.negf (select (cmpf .une (subf (Host.negf d) (broadcastInDim S4 ![] bcast_S_S4 (constant S_ .f32 0x00000000#32))) (subf (Host.negf d) (broadcastInDim S4 ![] bcast_S_S4 (constant S_ .f32 0x00000000#32)))) (addf (Host.negf d) (broadcastInDim S4 ![] bcast_S_S4 (constant S_ .f32 0x00000000#32))) (addf (maximumf (Host.negf d) (broadcastInDim S4 ![] bcast_S_S4 (constant S_ .f32 0x00000000#32))) (Host.log1p (Host.exp (Host.negf (Host.absf (subf (Host.negf d) (broadcastInDim S4 ![] bcast_S_S4 (constant S_ .f32 0x00000000#32))))))))))
/-- The weights of all pairs of positions. -/
def decayV (lf lb : FVec Ideal S4 .f32) : FVec Ideal S4x16384x16384 .f32 := (select (broadcastInDim S4x16384x16384 ![1, 2] bcast_S16384x16384_S4x16384x16384_1_2 (cmpi .sge (iotaInDim S16384x16384 32 0) (iotaInDim S16384x16384 32 1))) (Host.exp (mulf (broadcastInDim S4x16384x16384 ![0, 1, 2] bcast_S4x1x1_S4x16384x16384_0_1_2 (broadcastInDim S4x1x1 ![0] bcast_S4_S4x1x1_0 lf)) (broadcastInDim S4x16384x16384 ![0, 1, 2] bcast_S1x16384x16384_S4x16384x16384_0_1_2 (broadcastInDim S1x16384x16384 ![1, 2] bcast_S16384x16384_S1x16384x16384_1_2 (sitofp .f32 (absi (subi (iotaInDim S16384x16384 32 0) (iotaInDim S16384x16384 32 1)))))))) (select (broadcastInDim S4x16384x16384 ![1, 2] bcast_S16384x16384_S4x16384x16384_1_2 (cmpi .eq (Host.divsi (iotaInDim S16384x16384 32 0) (broadcastInDim S16384x16384 ![] bcast_S_S16384x16384 (constantI S_ 32 256#32))) (Host.divsi (iotaInDim S16384x16384 32 1) (broadcastInDim S16384x16384 ![] bcast_S_S16384x16384 (constantI S_ 32 256#32))))) (Host.exp (mulf (broadcastInDim S4x16384x16384 ![0, 1, 2] bcast_S4x1x1_S4x16384x16384_0_1_2 (broadcastInDim S4x1x1 ![0] bcast_S4_S4x1x1_0 lb)) (broadcastInDim S4x16384x16384 ![0, 1, 2] bcast_S1x16384x16384_S4x16384x16384_0_1_2 (broadcastInDim S1x16384x16384 ![1, 2] bcast_S16384x16384_S1x16384x16384_1_2 (sitofp .f32 (absi (subi (iotaInDim S16384x16384 32 0) (iotaInDim S16384x16384 32 1)))))))) (broadcastInDim S4x16384x16384 ![] bcast_S_S4x16384x16384 (id (constant S_ .f32 0x00000000#32)))))
/-- The weights of the state of what lies behind. -/
def farV (lb : FVec Ideal S4 .f32) : FVec Ideal S4x256 .f32 := (Host.exp (mulf (broadcastInDim S4x256 ![0, 1] bcast_S4x1_S4x256_0_1 (broadcastInDim S4x1 ![0] bcast_S4_S4x1_0 lb)) (sitofp .f32 (subi (broadcastInDim S4x256 ![] bcast_S_S4x256 (constantI S_ 32 256#32)) (iotaInDim S4x256 32 1)))))
def attV (q k v : FVec Ideal S2x4x16384x256 .f32) (w : FVec Ideal S4x16384x16384 .f32) : FVec Ideal S2x4x16384x256 .f32 := (Host.dotGeneral dot_S2x4x16384x16384_S2x4x16384x256_S2x4x16384x256_3_2_2_3_01_01 none (mulf (Host.dotGeneral dot_S2x4x16384x256_S2x4x16384x256_S2x4x16384x16384_3_3_2_2_01_01 none q k) (broadcastInDim S2x4x16384x16384 ![0, 1, 2, 3] bcast_S1x4x16384x16384_S2x4x16384x16384_0_1_2_3 (broadcastInDim S1x4x16384x16384 ![1, 2, 3] bcast_S4x16384x16384_S1x4x16384x16384_1_2_3 w))) v)
def backV (q : FVec Ideal S2x4x16384x256 .f32) (far : FVec Ideal S4x256 .f32) (s : Vec Ideal S2x64x4x256x256 .bf16) : FVec Ideal S2x4x64x256x256 .f32 := (Host.dotGeneral dot_S2x4x64x256x256_S2x64x4x256x256_S2x4x64x256x256_4_3_3_4_012_021 none (mulf (shapeCast _ q shapeCasts_S2x4x16384x256_S2x4x64x256x256) (broadcastInDim S2x4x64x256x256 ![0, 1, 2, 3, 4] bcast_S1x4x1x256x1_S2x4x64x256x256_0_1_2_3_4 (broadcastInDim S1x4x1x256x1 ![1, 3] bcast_S4x256_S1x4x1x256x1_1_3 far))) (extf .f32 s bitsLt_bf16_f32))
def yV (q k v : Vec Ideal S2x16384x1024 .bf16) (s : Vec Ideal S2x64x4x256x256 .bf16) (df db : FVec Ideal S4 .f32) :
    FVec Ideal S2x4x16384x256 .f32 := (addf (attV (headsV q) (headsV k) (headsV v) (decayV (lsp df) (lsp db))) (shapeCast _ (backV (headsV q) (farV (lsp db)) s) shapeCasts_S2x4x64x256x256_S2x4x16384x256))
/-- The group norm. -/
def centreV (Y : FVec Ideal S2x4x16384x256 .f32) : FVec Ideal S2x4x16384x256 .f32 := (subf Y (broadcastInDim S2x4x16384x256 ![0, 1, 2, 3] bcast_S2x4x16384x1_S2x4x16384x256_0_1_2_3 (Host.divf (broadcastInDim S2x4x16384x1 ![0, 1, 2] bcast_S2x4x16384_S2x4x16384x1_0_1_2 (Host.reduceAdd Y (constant S_ .f32 0x00000000#32) reducesTo_S2x4x16384x256_S2x4x16384_d3 h_S_)) (broadcastInDim S2x4x16384x1 ![] bcast_S_S2x4x16384x1 (constant S_ .f32 0x43800000#32)))))
def rootV (z : FVec Ideal S2x4x16384x256 .f32) : FVec Ideal S2x4x16384x1 .f32 := (Host.rsqrt (addf (Host.divf (broadcastInDim S2x4x16384x1 ![0, 1, 2] bcast_S2x4x16384_S2x4x16384x1_0_1_2 (Host.reduceAdd (mulf z z) (constant S_ .f32 0x00000000#32) reducesTo_S2x4x16384x256_S2x4x16384_d3 h_S_)) (broadcastInDim S2x4x16384x1 ![] bcast_S_S2x4x16384x1 (constant S_ .f32 0x43800000#32))) (broadcastInDim S2x4x16384x1 ![] bcast_S_S2x4x16384x1 (constant S_ .f32 0x3727C5AC#32))))
def gnV (Y : FVec Ideal S2x4x16384x256 .f32) : FVec Ideal S2x4x16384x256 .f32 := (mulf (centreV Y) (broadcastInDim S2x4x16384x256 ![0, 1, 2, 3] bcast_S2x4x16384x1_S2x4x16384x256_0_1_2_3 (rootV (centreV Y))))
def outV (Y : FVec Ideal S2x4x16384x256 .f32) : FVec Ideal S2x16384x1024 .bf16 := truncf .bf16 (shapeCast _ (transpose S2x16384x4x256 [0, 2, 1, 3] (gnV Y) transposes_S2x4x16384x256_S2x16384x4x256_0_2_1_3) shapeCasts_S2x16384x4x256_S2x16384x1024) bitsLt_bf16_f32

theorem res_eq (m : (ℓ : Loc nD τ sig) → Buf (Elt Ideal) ℓ) (c : Dev nD) :
    Cert.ReferenceIdeal.Value.res_out0 m c = outV (yV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg6))
      (m ((c.tc : Thread nD τ).loc main_arg7))) := rfl

theorem headsV_at (x : Vec Ideal S2x16384x1024 .bf16) (b : Fin 2) (h : Fin 4) (n : Fin 16384) (d : Fin 256) :
    headsV x (ix4 b h n d) = x (ix3 b n ⟨256 * h.val + d.val, by omega⟩) := by
  pointwise [headsV]
  refine congrArg x ?_
  congr 1
  apply Fin.ext; dsimp only; omega
theorem lsp_at (d : FVec Ideal S4 .f32) (h : Fin 4) : lsp d (ix1 h) = lg (d (ix1 h)) := by
  pointwise [lsp]
  simp only [ne_eq, not_true, if_false]
  exact lg_softplus _

/-! The distance of two positions, and the chunk of a position, as words. -/
theorem sub_of_le (n k : ℕ) (h : k ≤ n) (hn : n < 16384) : BitVec.ofNat 32 n - BitVec.ofNat 32 k = BitVec.ofNat 32 (n - k) := by
  apply BitVec.eq_of_toNat_eq
  simp only [BitVec.toNat_sub, BitVec.toNat_ofNat]; omega
theorem abs_of_le (n k : ℕ) (h : k ≤ n) (hn : n < 16384) :
    IntOp.absi (IntOp.subi (BitVec.ofNat 32 n) (BitVec.ofNat 32 k)) = BitVec.ofNat 32 (n - k) := by
  simp only [IntOp.subi, sub_of_le n k h hn, IntOp.absi]
  rw [if_neg]
  rw [BitVec.msb_eq_decide]; simp only [BitVec.toNat_ofNat, decide_eq_true_eq]; omega
theorem abs_of_ge (n k : ℕ) (h : n < k) (hk : k < 16384) :
    IntOp.absi (IntOp.subi (BitVec.ofNat 32 n) (BitVec.ofNat 32 k)) = BitVec.ofNat 32 (k - n) := by
  show (if (BitVec.ofNat 32 n - BitVec.ofNat 32 k).msb = true then -(BitVec.ofNat 32 n - BitVec.ofNat 32 k) else BitVec.ofNat 32 n - BitVec.ofNat 32 k) = _
  rw [if_pos]
  · apply BitVec.eq_of_toNat_eq
    simp only [BitVec.toNat_neg, BitVec.toNat_sub, BitVec.toNat_ofNat]; omega
  · rw [BitVec.msb_eq_decide]; simp only [BitVec.toNat_sub, BitVec.toNat_ofNat, decide_eq_true_eq]; omega
theorem chunk_of (n : ℕ) (hn : n < 16384) : IntOp.divsi ArithUnit.host (BitVec.ofNat 32 n) 256#32 = BitVec.ofNat 32 (n / 256) :=
  Idealize.ShloMosaic.Routing.divsi_word _ (by omega) (b := 256) (by decide) (by decide)
theorem sge_of (n k : ℕ) (hn : n < 16384) (hk : k < 16384) :
    IntOp.cmpi CmpIPredicate.sge (BitVec.ofNat 32 n) (BitVec.ofNat 32 k) = BitVec.ofBool (decide (k ≤ n)) := by
  simp only [IntOp.cmpi, BitVec.sle, Cert.KernelIdeal.Ret.toInt_ofNat _ (show n < 2147483648 by omega), Cert.KernelIdeal.Ret.toInt_ofNat _ (show k < 2147483648 by omega)]; simp
theorem eq_of (n k : ℕ) (hn : n < 16384) (hk : k < 16384) :
    IntOp.cmpi CmpIPredicate.eq (BitVec.ofNat 32 n) (BitVec.ofNat 32 k) = BitVec.ofBool (decide (n = k)) := by
  simp only [IntOp.cmpi]
  congr 1
  by_cases h : n = k
  · subst h; simp
  · simp only [h, decide_false, beq_eq_false_iff_ne, ne_eq]
    intro e
    have := congrArg BitVec.toNat e
    simp only [BitVec.toNat_ofNat] at this
    omega

theorem decayV_at (lf lb : FVec Ideal S4 .f32) (h : Fin 4) (n k : Fin 16384) (a b : EReal) (ha : lf (ix1 h) = lg a) (hb : lb (ix1 h) = lg b) :
    decayV lf lb (ix3 h n k) = ((weight (gam a) (gam b) n k : ℝ) : EReal) := by
  pointwise [decayV]
  rw [ha, hb, chunk_of n n.2, chunk_of k k.2, sge_of n k n.2 k.2, eq_of _ _ (by omega) (by omega)]
  unfold weight
  by_cases hkn : k.val ≤ n.val
  · rw [if_pos hkn, decide_eq_true hkn, Cert.KernelIdeal.Ret.sel_true, abs_of_le _ _ hkn n.2]
    exact Cert.KernelIdeal.Ret.exp_lg_of _ _ _ (Cert.KernelIdeal.Ret.sitofp_ofNat _ (by omega))
  · rw [if_neg hkn, decide_eq_false hkn, Cert.KernelIdeal.Ret.sel_false, abs_of_ge _ _ (by omega) k.2]
    by_cases hc : n.val / 256 = k.val / 256
    · rw [if_pos hc, decide_eq_true hc, Cert.KernelIdeal.Ret.sel_true]
      exact Cert.KernelIdeal.Ret.exp_lg_of _ _ _ (Cert.KernelIdeal.Ret.sitofp_ofNat _ (by omega))
    · rw [if_neg hc, decide_eq_false hc, Cert.KernelIdeal.Ret.sel_false]
      show Ideal.ofBits FTy.f32 0#32 = _
      simp [Ideal.ofBits, Ideal.ieee]
theorem farV_at (lb : FVec Ideal S4 .f32) (h : Fin 4) (i : Fin 256) (b : EReal) (hb : lb (ix1 h) = lg b) :
    farV lb (ix2 h i) = ((gam b ^ (256 - i.val) : ℝ) : EReal) := by
  pointwise [farV]
  rw [hb]
  refine Cert.KernelIdeal.Ret.exp_lg_of _ _ _ ?_
  rw [show (256#32 : BitVec 32) = BitVec.ofNat 32 256 from rfl, IntOp.subi, sub_of_le 256 i (by omega) (by omega)]
  exact Cert.KernelIdeal.Ret.sitofp_ofNat _ (by omega)
theorem attV_at (q k v : FVec Ideal S2x4x16384x256 .f32) (w : FVec Ideal S4x16384x16384 .f32) (b : Fin 2) (h : Fin 4) (n : Fin 16384) (e : Fin 256) :
   attV q k v w (ix4 b h n e) = ∑ x, (∑ d, q (ix4 b h n d) * k (ix4 b h x d)) * w (ix3 h n x) * v (ix4 b h x e) := by
  pointwise [attV]
theorem backV_at (q : FVec Ideal S2x4x16384x256 .f32) (far : FVec Ideal S4x256 .f32) (s : Vec Ideal S2x64x4x256x256 .bf16) (b : Fin 2) (h : Fin 4) (j : Fin 64) (i e : Fin 256) :
   backV q far s (ix5 b h j i e) = ∑ x, q (ix4 b h ⟨j.val * 256 + i.val, by omega⟩ x) * far (ix2 h i) * s (ix5 b j h x e) := by
  pointwise [backV]

open Cert.KernelIdeal.Ret (Real3 heads backs ySpec par)

theorem heads_real (x : Vec Ideal S2x16384x1024 .bf16) (hx : Real3 x) (b : Fin 2) (h : Fin 4) (n : Fin 16384) (d : Fin 256) :
    headsV x (ix4 b h n d) = ((heads x b h n d : ℝ) : EReal) := by
  rw [headsV_at]
  refine (hx _).trans ?_
  refine congrArg Real.toEReal (congrArg EReal.toReal (congrArg x ?_))
  congr 1 <;> apply Fin.ext <;> dsimp only <;> omega
theorem backs_real (x : Vec Ideal S2x64x4x256x256 .bf16) (hx : Real3 x) (b : Fin 2) (j : Fin 64) (h : Fin 4) (d e : Fin 256) :
    x (ix5 b j h d e) = ((backs x b h j d e : ℝ) : EReal) := by
  refine (hx _).trans ?_
  refine congrArg Real.toEReal (congrArg EReal.toReal (congrArg x ?_))
  congr 1 <;> apply Fin.ext <;> dsimp only <;> omega

theorem yV_at (q k v : Vec Ideal S2x16384x1024 .bf16) (s : Vec Ideal S2x64x4x256x256 .bf16) (df db : FVec Ideal S4 .f32)
    (hq : Real3 q) (hk : Real3 k) (hv : Real3 v) (hs : Real3 s) (b : Fin 2) (h : Fin 4) (n : Fin 16384) (e : Fin 256) :
    yV q k v s df db (ix4 b h n e) = ((ySpec q k v s df db b h n e : ℝ) : EReal) := by
  pointwise [yV]
  have hf : lsp df (ix1 h) = lg (par (F := Ideal) df h) := by
    rw [lsp_at]; unfold par; simp only [Nat.mod_eq_of_lt h.2, Fin.eta]
  have hb : lsp db (ix1 h) = lg (par (F := Ideal) db h) := by
    rw [lsp_at]; unfold par; simp only [Nat.mod_eq_of_lt h.2, Fin.eta]
  rw [attV_at, backV_at]
  simp only [heads_real q hq, heads_real k hk, heads_real v hv, backs_real s hs, decayV_at _ _ _ _ _ _ _ hf hb, farV_at _ _ _ _ hb,
    ← EReal.coe_mul, ← coe_sum, ← EReal.coe_add]
  refine congrArg Real.toEReal ?_
  simp only [ySpec, Finset.sum_range]
  rw [show n.val / 256 * 256 + n.val % 256 = n.val by omega]

theorem outV_at (Y : FVec Ideal S2x4x16384x256 .f32) (b : Fin 2) (n : Fin 16384) (o : Fin 1024) :
    outV Y (ix3 b n o) = Cert.KernelIdeal.Ret.gn (fun x => Y (ix4 b ⟨o.val / 256, by omega⟩ n x)) ⟨o.val % 256, Nat.mod_lt _ (by decide)⟩ := by
  simp only [Cert.KernelIdeal.Ret.gn]
  pointwise [outV, gnV, centreV, rootV]

/-- The reference's first result at an index. -/
theorem ref_ret_at (m : (ℓ : Loc nD τ sig) → Buf (Elt Ideal) ℓ) (c : Dev nD)
    (q k v : Vec Ideal S2x16384x1024 .bf16) (s : Vec Ideal S2x64x4x256x256 .bf16) (df db : FVec Ideal S4 .f32)
    (eq : m ((c.tc : Thread nD τ).loc main_arg0) = q) (ek : m ((c.tc : Thread nD τ).loc main_arg1) = k)
    (ev : m ((c.tc : Thread nD τ).loc main_arg2) = v) (es : m ((c.tc : Thread nD τ).loc main_arg3) = s)
    (ef : m ((c.tc : Thread nD τ).loc main_arg6) = df) (eb : m ((c.tc : Thread nD τ).loc main_arg7) = db)
    (hq : Real3 q) (hk : Real3 k) (hv : Real3 v) (hs : Real3 s) (b : Fin 2) (n : Fin 16384) (o : Fin 1024) :
    Cert.ReferenceIdeal.Value.res_out0 m c (ix3 b n o)
      = Cert.KernelIdeal.Ret.gn (fun x => ((ySpec q k v s df db b (o.val / 256) n x : ℝ) : EReal)) ⟨o.val % 256, Nat.mod_lt _ (by decide)⟩ := by
  rw [res_eq, eq, ek, ev, es, ef, eb, outV_at]
  refine congrArg (fun y => Cert.KernelIdeal.Ret.gn y _) (funext fun x => ?_)
  exact yV_at q k v s df db hq hk hv hs b ⟨o.val / 256, by omega⟩ n x

end Cert.ReferenceIdeal.Ret
end
-- ==== Proof.Freq.lean ====
/-
The second result: the second stage of the position transform, the same sum over 256 in the kernel and in
the reference.
-/
module

public import proofs.«01_k».proof.Proof.RefValue
public import Idealize.ShloMosaic.Lib.BitcastConvert
public import Idealize.ShloMosaic.Lib.BitcastPair

@[expose] public section

set_option maxRecDepth 16384

noncomputable section

namespace Cert.ReferenceIdeal.Ret

open Cert.ReferenceIdeal Cert.ReferenceIdeal.Gen Idealize.ShloMosaic Idealize.ShloMosaic.TcCoe Idealize.SL.Sem

open Cert.Ret

/-- The reference's second result. -/
def refF (z : Vec Ideal S2x128x128x1024 .i32) (t : Vec Ideal S128x256 .bf16) : FVec Ideal S2x128x128x1024 .f32 :=
  extf .f32 (truncf .bf16 (transpose S2x128x128x1024 [0, 3, 1, 2] (Host.dotGeneral dot_S2x128x256x1024_S128x256_S2x128x1024x128_2_1_013_0_n_n none (extf .f32 (shapeCast _ (transpose S2x128x128x2x1024 [0, 1, 2, 4, 3] (bitcastToFloat (F := Ideal) .bf16 (Host.bitcastConvertNarrow S2x128x128x1024x2 16 z splits_S2x128x128x1024_w32_S2x128x128x1024x2_w16)) transposes_S2x128x128x1024x2_S2x128x128x2x1024_0_1_2_4_3) shapeCasts_S2x128x128x2x1024_S2x128x256x1024) bitsLt_bf16_f32) (extf .f32 t bitsLt_bf16_f32)) transposes_S2x128x1024x128_S2x128x128x1024_0_3_1_2) bitsLt_bf16_f32) bitsLt_bf16_f32

/-- The sum over both halves of 128 words. -/
def freq (z : Fin 128 → BitVec 32) (t : Fin 256 → EReal) : EReal :=
  ∑ x : Fin 256, t x * Ideal.ofBits FTy.bf16 ((z ⟨x.val / 2, by omega⟩).extractLsb' (x.val % 2 * 16) 16)

theorem refF_at (z : Vec Ideal S2x128x128x1024 .i32) (t : Vec Ideal S128x256 .bf16) (b : Fin 2) (k r : Fin 128) (o : Fin 1024) :
    refF z t (ix4 b k r o) = freq (fun w => z (ix4 b r w o)) (fun x => t (ix2 k x)) := by
  simp only [freq]
  pointwise [refF]
  refine Finset.sum_congr rfl fun x _ => ?_
  rw [mul_comm]
  refine congrArg (fun i => t (ix2 k x) * Ideal.ofBits FTy.bf16 (BitVec.extractLsb' (x.val % 2 * 16) 16 (z i))) ?_
  funext a
  match a with
  | 0 => rfl
  | 1 => rfl
  | 2 => rfl
  | 3 => rfl
theorem flat_at (w : Vec Ideal Cert.KernelIdeal.S1x1x128x1024 .i32) (a : Fin 128) (o : Fin 1024) :
    shapeCast Cert.KernelIdeal.S128x1024 w Cert.KernelIdeal.Gen.shapeCasts_S1x1x128x1024_S128x1024 (ix2 a o) = w (ix4 0 0 a o) := by
  pointwise
theorem kerF_at (w : Vec Ideal Cert.KernelIdeal.S1x1x128x1024 .i32) (t : Vec Ideal S128x256 .bf16) (k : Fin 128) (o : Fin 1024) :
    Cert.KernelIdeal.Ret.fV t w (ix4 0 k 0 o) = freq (fun x => w (ix4 0 0 x o)) (fun x => t (ix2 k x)) := by
  simp only [Cert.KernelIdeal.Ret.fV, freq]
  pointwise [Cert.KernelIdeal.Gen.k0_pay1]
  refine Finset.sum_congr rfl fun x _ => ?_
  rw [bitcast_32_16, Nat.mul_comm 16, ← flat_at w]
  refine congrArg₂ (fun n i => t (ix2 k x) * Ideal.ofBits FTy.bf16 (BitVec.extractLsb' (n % 2 * 16) 16
    (shapeCast Cert.KernelIdeal.S128x1024 w Cert.KernelIdeal.Gen.shapeCasts_S1x1x128x1024_S128x1024 i))) rfl ?_
  funext a
  match a with
  | 0 => rfl
  | 1 => rfl

open Cert.KernelIdeal.Ret (zA bA)

theorem ker_freq_at (m : (ℓ : Loc Cert.KernelIdeal.nD Cert.KernelIdeal.τ Cert.KernelIdeal.sig) → Buf (Elt Ideal) ℓ) (c : Dev Cert.KernelIdeal.nD)
    (b : Fin 2) (k r : Fin 128) (o : Fin 1024) :
    Cert.KernelIdeal.Value.G9 m c (ix4 b k r o) = freq (fun w => zA m c (ix4 b r w o)) (fun x => bA m c (ix2 k x)) := by
  have hp : 16 * b.val + r.val / 8 < Cert.KernelIdeal.cfg0.N := lt_of_lt_of_eq (by omega) (show (32 : ℕ) = Cert.KernelIdeal.cfg0.N from Cert.KernelIdeal.Gen.N_0.symm)
  have hpt : Cert.KernelIdeal.Value.pt9Of (ix4 b k r o) = 16 * b.val + r.val / 8 := by
    show 16 * (b.val / 1 - 0) + 16 * (k.val / 128 - 0) + 1 * (r.val / 8 - 0) + 1 * (o.val / 1024 - 0) = _
    omega
  have e0 : Cert.KernelIdeal.Value.G9 m c (ix4 b k r o)
      = (Cert.KernelIdeal.Gen.outsAt0 m c (16 * b.val + r.val / 8) hp).2.1 (Cert.KernelIdeal.Value.loc9Of (ix4 b k r o)) := by
    have key : ∀ p (hp' : p < Cert.KernelIdeal.cfg0.N), p = 16 * b.val + r.val / 8 →
        (Cert.KernelIdeal.Gen.outsAt0 m c p hp').2.1 (Cert.KernelIdeal.Value.loc9Of (ix4 b k r o))
          = (Cert.KernelIdeal.Gen.outsAt0 m c (16 * b.val + r.val / 8) hp).2.1 (Cert.KernelIdeal.Value.loc9Of (ix4 b k r o)) := by
      intro p hp' e; subst e; rfl
    rw [Cert.KernelIdeal.Value.G9, dif_pos (by rw [hpt]; exact hp), ← Cert.KernelIdeal.Value.outsAt0_sweep m c _ (by rw [hpt]; exact hp)]
    exact key _ _ hpt
  rw [e0, (Cert.KernelIdeal.Ret.at_all m c _ hp).freq, Cert.KernelIdeal.Ret.blk7,
    Cert.KernelIdeal.Ret.freqOut_at _ _ _ (ix4 0 k 0 o) (r.val % 8) (by show k.val % 128 = k.val; omega) rfl (by show o.val % 1024 = o.val; omega),
    kerF_at]
  refine congrArg (fun z => freq z _) (funext fun w => ?_)
  refine (Cert.KernelIdeal.Ret.blk6 m c ⟨16 * b.val + r.val / 8, hp⟩ ⟨r.val % 8 % 8, by omega⟩ w o).trans (congrArg (zA m c) ?_)
  congr 1 <;> apply Fin.ext <;> dsimp only <;> omega
end Cert.ReferenceIdeal.Ret
end
-- ==== Proof.Finite.lean ====
/-
What the precondition says: the queries, keys, values and states of what lies behind are real numbers.
-/
module

public import proofs.«01_k».proof.Pre_finite
public import proofs.«01_k».proof.Proof.Gen.Pre_finite
public import proofs.«01_k».proof.Proof.Retained
public import Idealize.ShloMosaic.Lib.ReduceAll

@[expose] public section

noncomputable section

namespace Cert.Pre_finite.Ret

open Cert.Pre_finite Idealize.ShloMosaic
open Cert.KernelIdeal.Ret (Real3)

theorem top_word : Ideal.ofBits FTy.f32 0x7F800000#32 = (⊤ : EReal) := by
  simp [Ideal.ofBits, Ideal.ieee]

/-- A number whose absolute value is below infinity is real. -/
theorem real_of_abs (x : EReal) (h : max x (-x) < ⊤) : x = ((x.toReal : ℝ) : EReal) := by
  refine (EReal.coe_toReal ?_ ?_).symm
  · rintro rfl; simp at h
  · rintro rfl; simp at h

theorem real_of_word (x : EReal) (h : FloatOps.cmpf (F := Ideal) (φ := .f32) .olt (FloatOps.absf (F := Ideal) (φ := .f32) x) (Ideal.ofBits FTy.f32 0x7F800000#32) = 1#1) :
    x = ((x.toReal : ℝ) : EReal) := by
  rw [top_word] at h
  refine real_of_abs x ?_
  by_contra hn
  have : FloatOps.cmpf (F := Ideal) (φ := .f32) .olt (FloatOps.absf (F := Ideal) (φ := .f32) x) (⊤ : EReal) = BitVec.ofBool (decide (max x (-x) < ⊤)) := rfl
  rw [this, decide_eq_false hn] at h
  exact absurd h (by decide)

theorem and_one (x y : BitVec 1) (h : IntOp.andi x y = 1#1) : x = 1#1 ∧ y = 1#1 := by
  revert h; revert x y; decide

instance : Subsingleton S_.Idx := ⟨fun a b => funext fun i => i.elim0⟩

theorem real (q k v : Vec Ideal S2x16384x1024 .bf16) (s : Vec Ideal S2x64x4x256x256 .bf16) (z : Vec Ideal S2x128x128x1024 .i32)
    (t : Vec Ideal S128x256 .bf16) (df db : Vec Ideal S4 .f32)
    (h : fn (F := Ideal) q k v s z t df db = fun _ => 1#1) : Real3 q ∧ Real3 k ∧ Real3 v ∧ Real3 s := by
  have h := congrFun h ix0
  simp only [fn, fn_part1] at h
  obtain ⟨h, hs⟩ := and_one _ _ h
  obtain ⟨h, hv⟩ := and_one _ _ h
  obtain ⟨hq, hk⟩ := and_one _ _ h
  exact ⟨fun i => real_of_word _ (Host.reduce_andi_all _ _ _ _ _ hq i), fun i => real_of_word _ (Host.reduce_andi_all _ _ _ _ _ hk i),
    fun i => real_of_word _ (Host.reduce_andi_all _ _ _ _ _ hv i), fun i => real_of_word _ (Host.reduce_andi_all _ _ _ _ _ hs i)⟩

end Cert.Pre_finite.Ret

end
-- ==== Proof.TailRow.lean ====
/-
The arithmetic of the last kernel on one token, as functions of a row of 1024 numbers.
-/
module

public import Idealize.ShloMosaic.Lib.Pointwise

@[expose] public section

set_option maxRecDepth 16384

noncomputable section

namespace Cert.TailRow

open Idealize.ShloMosaic Idealize.SL.Sem

/-- The extended reals that 1024 and the normalisation's small constant are, and the start of a maximum. -/
def width : EReal := Ideal.ofBits .f32 1149239296#32
def tiny : EReal := Ideal.ofBits .f32 897988541#32
def bottom : EReal := Ideal.ofBits .f32 4286578688#32

/-- A row times a matrix. -/
def times {n m : ℕ} (x : Fin n → EReal) (w : Fin n → Fin m → EReal) (e : Fin m) : EReal := ∑ k, x k * w k e

/-- Root-mean-square normalisation with the weights `n`. -/
def norm (n x : Fin 1024 → EReal) (e : Fin 1024) : EReal :=
  x e * Ideal.rsqrt (Ideal.div (∑ k, x k * x k) width + tiny) * n e

/-- `silu g * r`. -/
def gated (g r : Fin 1024 → EReal) (k : Fin 1024) : EReal := g k * Ideal.logistic (g k) * r k

/-- The gated sum of the two mixers' products. -/
def merged (gr a gf b : Fin 1024 → EReal) (k : Fin 1024) : EReal := Ideal.logistic (gr k) * a k + Ideal.logistic (gf k) * b k

/-- Softmax of one head. -/
def soft (h : Fin 256 → EReal) (j : Fin 256) : EReal :=
  Ideal.div (Ideal.exp (h j - Finset.fold max bottom h Finset.univ))
    (∑ x, Ideal.exp (h x - Finset.fold max bottom h Finset.univ))

/-- Softmax of a row's four heads. -/
def probs (l : Fin 1024 → EReal) (e : Fin 1024) : EReal :=
  soft (fun j => l ⟨256 * (e.val / 256) + j.val, by have := e.isLt; have := j.isLt; omega⟩) ⟨e.val % 256, Nat.mod_lt _ (by decide)⟩

/-- The hidden activations, `max (h w) 0` squared. -/
def hidden {n m : ℕ} (h : Fin n → EReal) (w : Fin n → Fin m → EReal) (k : Fin m) : EReal := max (times h w k) 0 * max (times h w k) 0

/-- The tokens after the mixing. -/
def mix (x r g u gr gf : Fin 1024 → EReal) (wro wfo wmo : Fin 1024 → Fin 1024 → EReal) (e : Fin 1024) : EReal :=
  x e + times (merged gr (times (gated g r) wro) gf (times u wfo)) wmo e

/-- The tokens after the attention into the memory. -/
def attend (x n : Fin 1024 → EReal) (wqk wvo : Fin 1024 → Fin 1024 → EReal) (e : Fin 1024) : EReal :=
  x e + times (probs (times (norm n x) wqk)) wvo e

/-- The tokens after the feed-forward part. -/
def feed (x n : Fin 1024 → EReal) (up : Fin 1024 → Fin 4096 → EReal) (dn : Fin 4096 → Fin 1024 → EReal) (e : Fin 1024) : EReal :=
  x e + times (hidden (norm n x) up) dn e

/-- A sum over 4096 places, by quarters. -/
theorem sum_quarters (f : Fin 4096 → EReal) :
    ∑ k, f k = (∑ k : Fin 1024, f ⟨0 + k.val, by omega⟩) + (∑ k : Fin 1024, f ⟨1024 + k.val, by omega⟩)
      + (∑ k : Fin 1024, f ⟨2048 + k.val, by omega⟩) + (∑ k : Fin 1024, f ⟨3072 + k.val, by omega⟩) := by
  have h1 := Fin.sum_univ_add (M := EReal) (a := 3072) (b := 1024) f
  have h2 := Fin.sum_univ_add (M := EReal) (a := 2048) (b := 1024) (fun k => f (Fin.castAdd 1024 k))
  have h3 := Fin.sum_univ_add (M := EReal) (a := 1024) (b := 1024) (fun k => f (Fin.castAdd 1024 (Fin.castAdd 1024 k)))
  refine h1.trans ?_
  rw [h2, h3]
  refine congrArg (· + _) (congrArg (· + _) (congrArg (· + _) ?_))
  exact Finset.sum_congr rfl fun k _ => congrArg f (Fin.ext (Nat.zero_add _).symm)

/-- The feed-forward part, its hidden activations by quarters. -/
theorem feed_quarters (x n : Fin 1024 → EReal) (up : Fin 1024 → Fin 4096 → EReal) (dn : Fin 4096 → Fin 1024 → EReal) (e : Fin 1024) :
    feed x n up dn e
      = x e + times (hidden (norm n x) (fun k (j : Fin 1024) => up k ⟨0 + j.val, by omega⟩)) (fun (j : Fin 1024) => dn ⟨0 + j.val, by omega⟩) e
        + times (hidden (norm n x) (fun k (j : Fin 1024) => up k ⟨1024 + j.val, by omega⟩)) (fun (j : Fin 1024) => dn ⟨1024 + j.val, by omega⟩) e
        + times (hidden (norm n x) (fun k (j : Fin 1024) => up k ⟨2048 + j.val, by omega⟩)) (fun (j : Fin 1024) => dn ⟨2048 + j.val, by omega⟩) e
        + times (hidden (norm n x) (fun k (j : Fin 1024) => up k ⟨3072 + j.val, by omega⟩)) (fun (j : Fin 1024) => dn ⟨3072 + j.val, by omega⟩) e := by
  have h := sum_quarters fun k => hidden (norm n x) up k * dn k e
  refine (congrArg (x e + ·) h).trans ?_
  simp only [← add_assoc]
  rfl

end Cert.TailRow
end
-- ==== Proof.TailBlocks.lean ====
/-
The vocabulary of the last kernel's body, for any floats.  A block of 512 tokens is worked on as two halves
of 256; the Fourier product of a half is written to a scratch array lane by lane and read back with a
stride of two rows, and the attention weights of a half are written to another scratch array head by head.
-/
module

public import proofs.«01_k».proof.Proof.Gen.TailIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.TailIdeal.Tail

open Cert.TailIdeal Cert.TailIdeal.Gen Idealize.ShloMosaic Idealize.ShloMosaic.TcCoe Idealize.SL.Sem

variable {F : FTy → Type} [FloatOps F]

/-- The 256 tokens of a block that begin at token `o`. -/
def half {φ : EltTy} (x : Vec F S1x512x1024 φ) (o : ℕ) : Vec F S1x256x1024 φ :=
  fun l => x (ix3 0 ⟨(o + (l 1).val) % 512, Nat.mod_lt _ (by decide)⟩ (l 2))

/-- The words of the Fourier rows of one half. -/
def wordsOf (x : Vec F S1x2x128x1024 .i32) (k : ℕ) : Vec F S1x1x128x1024 .i32 :=
  fun l => x (ix4 0 ⟨k % 2, Nat.mod_lt _ (by decide)⟩ (l 2) (l 3))

/-- 1024 of the 4096 columns of the first weights of the feed-forward part, and rows of the second. -/
def colsOf (x : Vec F S1024x4096 .bf16) (o : ℕ) : Vec F S1024x1024 .bf16 :=
  fun l => x (ix2 (l 0) ⟨(o + (l 1).val) % 4096, Nat.mod_lt _ (by decide)⟩)
def rowsOf (x : Vec F S4096x1024 .bf16) (o : ℕ) : Vec F S1024x1024 .bf16 :=
  fun l => x (ix2 ⟨(o + (l 0).val) % 4096, Nat.mod_lt _ (by decide)⟩ (l 1))

theorem ld_half {φ : EltTy} (x : Vec F S1x512x1024 φ) (o : ℕ) (inb) :
    View.ld x (Rect.unit ![0, o, 0] ![1, 256, 1024] inb) = half x o := by
  funext l
  refine View.ld_unit_apply_of x _ _ _ l _ fun a => ?_
  have h1 : o + 256 ≤ 512 := by simpa using inb 1
  have l0 : (l 0).val < 1 := (l 0).isLt
  have l1 : (l 1).val < 256 := (l 1).isLt
  match a with
  | 0 => show 0 = 0 + (l 0).val; omega
  | 1 => show (o + (l 1).val) % 512 = o + (l 1).val; omega
  | 2 => show (l 2).val = 0 + (l 2).val; omega

theorem ld_wordsOf (x : Vec F S1x2x128x1024 .i32) (k : ℕ) (inb) :
    View.ld x (Rect.unit ![0, k, 0, 0] ![1, 1, 128, 1024] inb) = wordsOf x k := by
  funext l
  refine View.ld_unit_apply_of x _ _ _ l _ fun a => ?_
  have h1 : k + 1 ≤ 2 := by simpa using inb 1
  have l0 : (l 0).val < 1 := (l 0).isLt
  have l1 : (l 1).val < 1 := (l 1).isLt
  match a with
  | 0 => show 0 = 0 + (l 0).val; omega
  | 1 => show k % 2 = k + (l 1).val; omega
  | 2 => show (l 2).val = 0 + (l 2).val; omega
  | 3 => show (l 3).val = 0 + (l 3).val; omega

theorem ld_colsOf (x : Vec F S1024x4096 .bf16) (o : ℕ) (inb) :
    View.ld x (Rect.unit ![0, o] ![1024, 1024] inb) = colsOf x o := by
  funext l
  refine View.ld_unit_apply_of x _ _ _ l _ fun a => ?_
  have h1 : o + 1024 ≤ 4096 := by simpa using inb 1
  have l1 : (l 1).val < 1024 := (l 1).isLt
  match a with
  | 0 => show (l 0).val = 0 + (l 0).val; omega
  | 1 => show (o + (l 1).val) % 4096 = o + (l 1).val; omega

theorem ld_rowsOf (x : Vec F S4096x1024 .bf16) (o : ℕ) (inb) :
    View.ld x (Rect.unit ![o, 0] ![1024, 1024] inb) = rowsOf x o := by
  funext l
  refine View.ld_unit_apply_of x _ _ _ l _ fun a => ?_
  have h1 : o + 1024 ≤ 4096 := by simpa using inb 0
  have l1 : (l 0).val < 1024 := (l 0).isLt
  match a with
  | 0 => show (o + (l 0).val) % 4096 = o + (l 0).val; omega
  | 1 => show (l 1).val = 0 + (l 1).val; omega

/-- Every other row of a lane of 256 rows, from row `q` on. -/
def every2 (w : Vec F S1x256x128 .f32) (q : ℕ) : Vec F S1x128x128 .f32 :=
  fun j => w (ix3 0 ⟨(q + 2 * (j 1).val) % 256, Nat.mod_lt _ (by decide)⟩ (j 2))

theorem read_every2_of (v : View sig .tc .vmem S8x512x128 .f32) (w : Vec F S1x256x128 .f32) (c o o' q : ℕ) (ho : o' = o + q) (hq : q < 2)
    (inb) (inb') (L : List (View.Piece (Elt F) S8x512x128 .f32)) :
    v.readCov (⟨Rect.unit (s := S8x512x128) ![c, o, 0] ![1, 256, 128] inb, w⟩ :: L)
      { off := ![c, o', 0], size := ![1, 128, 128], stride := ![1, 2, 1], inb := inb' } = every2 w q := by
  rw [View.readCov_eq_canon']
  funext j
  have j1 : (j 1).val < 128 := (j 1).isLt
  have e : LoadRect.idx (s := S8x512x128) { off := ![c, o', 0], size := ![1, 128, 128], stride := ![1, 2, 1], inb := inb' } j
      = (Rect.unit (s := S8x512x128) ![c, o, 0] ![1, 256, 128] inb).emb (ix3 0 ⟨(q + 2 * (j 1).val) % 256, Nat.mod_lt _ (by decide)⟩ (j 2)) := by
    funext a
    refine Fin.ext ?_
    have j0 : (j 0).val < 1 := (j 0).isLt
    match a with
    | 0 => show c + 1 * (j 0).val = c + 1 * 0; omega
    | 1 => show o' + 2 * (j 1).val = o + 1 * ((q + 2 * (j 1).val) % 256); omega
    | 2 => show 0 + 1 * (j 2).val = 0 + 1 * (j 2).val; rfl
  rw [e]
  exact View.canon_cons_emb (Rect.unit (s := S8x512x128) ![c, o, 0] ![1, 256, 128] inb) w L _

theorem read_every2_0 (v : View sig .tc .vmem S8x512x128 .f32) (w : Vec F S1x256x128 .f32) (c o : ℕ)
    (inb) (inb') (L : List (View.Piece (Elt F) S8x512x128 .f32)) :
    v.readCov (⟨Rect.unit (s := S8x512x128) ![c, o, 0] ![1, 256, 128] inb, w⟩ :: L)
      { off := ![c, o, 0], size := ![1, 128, 128], stride := ![1, 2, 1], inb := inb' } = every2 w 0 :=
  read_every2_of v w c o o 0 rfl (by decide) inb inb' L

theorem read_every2_1 (v : View sig .tc .vmem S8x512x128 .f32) (w : Vec F S1x256x128 .f32) (c o o' : ℕ) (ho : o' = o + 1)
    (inb) (inb') (L : List (View.Piece (Elt F) S8x512x128 .f32)) :
    v.readCov (⟨Rect.unit (s := S8x512x128) ![c, o, 0] ![1, 256, 128] inb, w⟩ :: L)
      { off := ![c, o', 0], size := ![1, 128, 128], stride := ![1, 2, 1], inb := inb' } = every2 w 1 :=
  read_every2_of v w c o o' 1 ho (by decide) inb inb' L

/-- Four heads' weights side by side. -/
def beside (p0 p1 p2 p3 : Vec F S256x256 .bf16) : Vec F S256x1024 .bf16 := fun l =>
  let i := ix2 (l 0) (⟨(l 1).val % 256, Nat.mod_lt _ (by decide)⟩ : Fin 256)
  if (l 1).val < 256 then p0 i else if (l 1).val < 512 then p1 i else if (l 1).val < 768 then p2 i else p3 i

theorem read_beside (v : View sig .tc .vmem S512x1024 .bf16) (p0 p1 p2 p3 : Vec F S256x256 .bf16) (o : ℕ) (i0 i1 i2 i3 inb)
    (L : List (View.Piece (Elt F) S512x1024 .bf16)) :
    v.readCov (⟨Rect.unit (s := S512x1024) ![o, 768] ![256, 256] i3, p3⟩ :: ⟨Rect.unit (s := S512x1024) ![o, 512] ![256, 256] i2, p2⟩ ::
        ⟨Rect.unit (s := S512x1024) ![o, 256] ![256, 256] i1, p1⟩ :: ⟨Rect.unit (s := S512x1024) ![o, 0] ![256, 256] i0, p0⟩ :: L)
      (Rect.unit (s := S512x1024) ![o, 0] ![256, 1024] inb).toLoadRect = beside p0 p1 p2 p3 := by
  rw [View.readCov_eq_canon']
  funext j
  have j1 : (j 1).val < 1024 := (j 1).isLt
  have hit : ∀ (c : ℕ) (ic) (p : Vec F S256x256 .bf16) (L' : List (View.Piece (Elt F) S512x1024 .bf16)),
      c ≤ (j 1).val → (j 1).val < c + 256 → c % 256 = 0 →
      View.canon (⟨Rect.unit (s := S512x1024) ![o, c] ![256, 256] ic, p⟩ :: L') ((Rect.unit (s := S512x1024) ![o, 0] ![256, 1024] inb).toLoadRect.idx j)
      = p (ix2 (j 0) ⟨(j 1).val % 256, Nat.mod_lt _ (by decide)⟩) := by
    intro c ic p L' h1 h2 h3
    have e : (Rect.unit (s := S512x1024) ![o, 0] ![256, 1024] inb).toLoadRect.idx j
        = (Rect.unit (s := S512x1024) ![o, c] ![256, 256] ic).emb (ix2 (j 0) ⟨(j 1).val % 256, Nat.mod_lt _ (by decide)⟩) := by
      funext a
      refine Fin.ext ?_
      match a with
      | 0 => show o + 1 * (j 0).val = o + 1 * (j 0).val; rfl
      | 1 => show 0 + 1 * (j 1).val = c + 1 * ((j 1).val % 256); omega
    rw [e]
    exact View.canon_cons_emb (Rect.unit (s := S512x1024) ![o, c] ![256, 256] ic) p L' _
  have miss : ∀ (c : ℕ) (ic) (p : Vec F S256x256 .bf16) (L' : List (View.Piece (Elt F) S512x1024 .bf16)),
      (j 1).val < c ∨ c + 256 ≤ (j 1).val →
      View.canon (⟨Rect.unit (s := S512x1024) ![o, c] ![256, 256] ic, p⟩ :: L') ((Rect.unit (s := S512x1024) ![o, 0] ![256, 1024] inb).toLoadRect.idx j)
      = View.canon L' ((Rect.unit (s := S512x1024) ![o, 0] ![256, 1024] inb).toLoadRect.idx j) := by
    intro c ic p L' h
    refine View.canon_cons_of_not_mem (⟨Rect.unit (s := S512x1024) ![o, c] ![256, 256] ic, p⟩ : View.Piece (Elt F) S512x1024 .bf16) L' fun hm => ?_
    have hm' := (Rect.mem_set_unit (inb := ic).1 hm) 1
    have e : c ≤ 0 + 1 * (j 1).val ∧ 0 + 1 * (j 1).val < c + 256 := hm'
    omega
  by_cases h0 : (j 1).val < 256
  · exact (miss 768 i3 p3 _ (by omega)).trans ((miss 512 i2 p2 _ (by omega)).trans ((miss 256 i1 p1 _ (by omega)).trans
      ((hit 0 i0 p0 _ (by omega) (by omega) rfl).trans (if_pos h0).symm)))
  by_cases h1 : (j 1).val < 512
  · exact (miss 768 i3 p3 _ (by omega)).trans ((miss 512 i2 p2 _ (by omega)).trans
      ((hit 256 i1 p1 _ (by omega) (by omega) rfl).trans ((if_neg h0).trans (if_pos h1)).symm))
  by_cases h2 : (j 1).val < 768
  · exact (miss 768 i3 p3 _ (by omega)).trans
      ((hit 512 i2 p2 _ (by omega) (by omega) rfl).trans ((if_neg h0).trans ((if_neg h1).trans (if_pos h2))).symm)
  · exact (hit 768 i3 p3 _ (by omega) (by omega) rfl).trans ((if_neg h0).trans ((if_neg h1).trans (if_neg h2))).symm

/-- The tokens of the first half after the mixing: `x` and the gated sum of the two mixers' products. -/
def mixA (x0 : Vec F S1x512x1024 .f32) (x1 x2 : Vec F S1x512x1024 .bf16) (x3 : Vec F S1x2x128x1024 .i32) (x4 x5 : Vec F S1x512x1024 .bf16)
    (x8 x9 x10 : Vec F S1024x1024 .bf16) : FVec F S256x1024 .f32 :=
  k0_pay28 (k0_pay26 (half x0 0)) (k0_pay27 (k0_pay2 (half x2 0) (half x1 0) x8)
    (k0_pay24 (every2 (k0_pay5 (wordsOf x3 0) x9) 0) (every2 (k0_pay7 (k0_pay6 (wordsOf x3 0) x9)) 0) (every2 (k0_pay8 (k0_pay4 (wordsOf x3 0) x9)) 0) (every2 (k0_pay9 (k0_pay4 (wordsOf x3 0) x9)) 0) (every2 (k0_pay10 (k0_pay4 (wordsOf x3 0) x9)) 0) (every2 (k0_pay11 (k0_pay4 (wordsOf x3 0) x9)) 0) (every2 (k0_pay12 (k0_pay4 (wordsOf x3 0) x9)) 0) (every2 (k0_pay13 (k0_pay4 (wordsOf x3 0) x9)) 0)) (k0_pay25 (every2 (k0_pay5 (wordsOf x3 0) x9) 1)) (every2 (k0_pay7 (k0_pay6 (wordsOf x3 0) x9)) 1) (every2 (k0_pay8 (k0_pay4 (wordsOf x3 0) x9)) 1) (every2 (k0_pay9 (k0_pay4 (wordsOf x3 0) x9)) 1) (every2 (k0_pay10 (k0_pay4 (wordsOf x3 0) x9)) 1) (every2 (k0_pay11 (k0_pay4 (wordsOf x3 0) x9)) 1) (every2 (k0_pay12 (k0_pay4 (wordsOf x3 0) x9)) 1) (every2 (k0_pay13 (k0_pay4 (wordsOf x3 0) x9)) 1) (half x4 0) (half x5 0)) x10

/-- The same of the second half. -/
def mixB (x0 : Vec F S1x512x1024 .f32) (x1 x2 : Vec F S1x512x1024 .bf16) (x3 : Vec F S1x2x128x1024 .i32) (x4 x5 : Vec F S1x512x1024 .bf16)
    (x8 x9 x10 : Vec F S1024x1024 .bf16) : FVec F S256x1024 .f32 :=
  k0_pay33 (k0_pay3 (half x2 256) (half x1 256) x8) (k0_pay29 (every2 (k0_pay15 (wordsOf x3 1) x9) 0) (every2 (k0_pay16 (wordsOf x3 1) x9) 0) (every2 (k0_pay17 (wordsOf x3 1) x9) 0) (every2 (k0_pay18 (wordsOf x3 1) x9) 0) (every2 (k0_pay19 (wordsOf x3 1) x9) 0) (every2 (k0_pay20 (wordsOf x3 1) x9) 0) (every2 (k0_pay22 (k0_pay21 (wordsOf x3 1) x9)) 0) (every2 (k0_pay23 (k0_pay14 (wordsOf x3 1) x9)) 0)) (k0_pay30 (every2 (k0_pay15 (wordsOf x3 1) x9) 1)) (k0_pay31 (every2 (k0_pay16 (wordsOf x3 1) x9) 1)) (k0_pay32 (every2 (k0_pay17 (wordsOf x3 1) x9) 1))
    (every2 (k0_pay18 (wordsOf x3 1) x9) 1) (every2 (k0_pay19 (wordsOf x3 1) x9) 1) (every2 (k0_pay20 (wordsOf x3 1) x9) 1) (every2 (k0_pay22 (k0_pay21 (wordsOf x3 1) x9)) 1) (every2 (k0_pay23 (k0_pay14 (wordsOf x3 1) x9)) 1) (half x4 256) (half x5 256) (half x0 256) x10

/-- The attention weights of a half, from its tokens. -/
def attA (X : FVec F S256x1024 .f32) (n : Vec F S1x1024 .f32) (w : Vec F S1x1024x1024 .bf16) : Vec F S256x1024 .bf16 :=
  beside (k0_pay39 (k0_pay37 X n (k0_pay34 X) w) (k0_pay38 X n (k0_pay34 X) w)) (k0_pay40 (k0_pay35 X n (k0_pay34 X) w))
    (k0_pay41 (k0_pay35 X n (k0_pay34 X) w)) (k0_pay44 (k0_pay42 (k0_pay35 X n (k0_pay34 X) w)) (k0_pay43 (k0_pay35 X n (k0_pay34 X) w)))
def attB (X : FVec F S256x1024 .f32) (n : Vec F S1x1024 .f32) (w : Vec F S1x1024x1024 .bf16) : Vec F S256x1024 .bf16 :=
  beside (k0_pay45 (k0_pay36 X n w)) (k0_pay46 (k0_pay36 X n w)) (k0_pay49 (k0_pay47 (k0_pay36 X n w)) (k0_pay48 (k0_pay36 X n w)))
    (k0_pay50 (k0_pay36 X n w))

/-- The rest of the layer on a half, from its tokens and their attention weights. -/
def finA (X : FVec F S256x1024 .f32) (A : Vec F S256x1024 .bf16) (w : Vec F S1x1024x1024 .bf16) (n : Vec F S1x1024 .f32)
    (up : Vec F S1024x4096 .bf16) (dn : Vec F S4096x1024 .bf16) (nf : Vec F S1x1024 .f32) : FVec F S1x256x1024 .f32 :=
  k0_pay62 (k0_pay54 (k0_pay51 X A w) n (k0_pay53 X A w))
    (k0_pay60 (k0_pay54 (k0_pay51 X A w) n (k0_pay53 X A w)) (k0_pay56 (k0_pay51 X A w) n (k0_pay53 X A w) (colsOf up 0) (rowsOf dn 0))
      (colsOf up 1024) (rowsOf dn 1024) (colsOf up 2048) (rowsOf dn 2048)) (colsOf up 3072) (rowsOf dn 3072) nf
def finB (X : FVec F S256x1024 .f32) (A : Vec F S256x1024 .bf16) (w : Vec F S1x1024x1024 .bf16) (n : Vec F S1x1024 .f32)
    (up : Vec F S1024x4096 .bf16) (dn : Vec F S4096x1024 .bf16) (nf : Vec F S1x1024 .f32) : FVec F S1x256x1024 .f32 :=
  k0_pay1 (k0_pay61 (k0_pay55 (k0_pay52 X A w) n)
    (k0_pay58 (k0_pay55 (k0_pay52 X A w) n) (k0_pay57 (k0_pay52 X A w) n (colsOf up 0) (rowsOf dn 0)) (colsOf up 1024) (rowsOf dn 1024))
    (k0_pay59 (k0_pay55 (k0_pay52 X A w) n) (colsOf up 2048)) (rowsOf dn 2048) (colsOf up 3072) (rowsOf dn 3072)) nf

/-- Two halves, one after the other. -/
def below (a b : FVec F S1x256x1024 .f32) : Vec F S1x512x1024 .f32 := fun y =>
  let i := ix3 (0 : Fin 1) (⟨(y 1).val % 256, Nat.mod_lt _ (by decide)⟩ : Fin 256) (y 2)
  if (y 1).val < 256 then a i else b i

theorem below_at0 (a b : FVec F S1x256x1024 .f32) (y : S1x512x1024.Idx) (l : S1x256x1024.Idx) (h1 : (y 1).val = (l 1).val)
    (h2 : (y 2).val = (l 2).val) : below a b y = a l := by
  have l1 : (l 1).val < 256 := (l 1).isLt
  have l0 : (l 0).val < 1 := (l 0).isLt
  refine (if_pos (by omega)).trans (congrArg a ?_)
  funext k
  refine Fin.ext ?_
  match k with
  | 0 => show 0 = (l 0).val; omega
  | 1 => show (y 1).val % 256 = (l 1).val; omega
  | 2 => exact h2

theorem below_at1 (a b : FVec F S1x256x1024 .f32) (y : S1x512x1024.Idx) (l : S1x256x1024.Idx) (h1 : (y 1).val = 256 + (l 1).val)
    (h2 : (y 2).val = (l 2).val) : below a b y = b l := by
  have l1 : (l 1).val < 256 := (l 1).isLt
  have l0 : (l 0).val < 1 := (l 0).isLt
  refine (if_neg (by omega)).trans (congrArg b ?_)
  funext k
  refine Fin.ext ?_
  match k with
  | 0 => show 0 = (l 0).val; omega
  | 1 => show (y 1).val % 256 = (l 1).val; omega
  | 2 => exact h2

/-- What a grid point leaves in its output block. -/
def tailOut (x0 : Vec F S1x512x1024 .f32) (x1 x2 : Vec F S1x512x1024 .bf16) (x3 : Vec F S1x2x128x1024 .i32) (x4 x5 : Vec F S1x512x1024 .bf16)
    (x6 x7 : Vec F S1x1024x1024 .bf16) (x8 x9 x10 : Vec F S1024x1024 .bf16) (x11 x12 : Vec F S1x1024 .f32) (x13 : Vec F S1024x4096 .bf16)
    (x14 : Vec F S4096x1024 .bf16) (x15 : Vec F S1x1024 .f32) : Vec F S1x512x1024 .f32 :=
  below
    (finA (mixA x0 x1 x2 x3 x4 x5 x8 x9 x10) (attA (mixA x0 x1 x2 x3 x4 x5 x8 x9 x10) x11 x6) x7 x12 x13 x14 x15)
    (finB (mixB x0 x1 x2 x3 x4 x5 x8 x9 x10) (attB (mixB x0 x1 x2 x3 x4 x5 x8 x9 x10) x11 x6) x7 x12 x13 x14 x15)

end Cert.TailIdeal.Tail
end
-- ==== Proof.TailPay.lean ====
/-
The stages of the last kernel's body over the extended reals, each read on one token.
-/
module

public import proofs.«01_k».proof.Proof.TailRow
public import proofs.«01_k».proof.Proof.TailBlocks
public import Idealize.ShloMosaic.Lib.BitcastPair
public import Idealize.ShloMosaic.Lib.Pointwise

@[expose] public section

set_option maxRecDepth 16384

noncomputable section

namespace Cert.TailIdeal.Tail

open Cert.TailIdeal Cert.TailIdeal.Gen Idealize.ShloMosaic Idealize.ShloMosaic.TcCoe Idealize.SL.Sem Cert.TailRow

/-- A token's row of a half, and a matrix, as functions. -/
abbrev rowOf (a : FVec Ideal S256x1024 .f32) (r : Fin 256) : Fin 1024 → EReal := fun k => a (ix2 r k)
abbrev mat (w : Vec Ideal S1024x1024 .bf16) : Fin 1024 → Fin 1024 → EReal := fun k e => w (ix2 k e)

/-- Half `q` of a word, as the number its sixteen bits are. -/
def numOf (w : BitVec 32) (q : ℕ) : EReal := Ideal.ofBits .bf16 (w.extractLsb' (q * 16) 16)

/-- Row `2 ρ + q` of the Fourier product: half `q` of the words of row `ρ` times the matrix. -/
def fou (W : Vec Ideal S1x1x128x1024 .i32) (w : Vec Ideal S1024x1024 .bf16) (q : ℕ) (ρ : Fin 128) (e : Fin 1024) : EReal :=
  times (fun k => numOf (W (ix4 0 0 ρ k)) q) (mat w) e

theorem words_at (W : Vec Ideal S1x1x128x1024 .i32) (q : ℕ) (hq : q < 2) (ρ : Fin 128) (k : Fin 1024) (R : Fin 256) (hR : R.val = q + 2 * ρ.val)
    (h1 : S1x1x128x1024.ShapeCasts S128x1024) :
    Ideal.ofBits .bf16 (bitcast S256x1024 16 (shapeCast S128x1024 W h1) bitcasts_S128x1024_w32_S256x1024_w16 (ix2 R k))
      = numOf (W (ix4 0 0 ρ k)) q := by
  refine congrArg (Ideal.ofBits .bf16) ?_
  rw [bitcast_32_16]
  have e1 : S256x1024.row (ix2 R k) = R.val := rfl
  have eq : S256x1024.row (ix2 R k) % 2 = q := by rw [e1]; omega
  have ei : ∀ hh, bitcasts_S128x1024_w32_S256x1024_w16.srcIdx (ix2 R k) (S256x1024.row (ix2 R k) / 2) hh = ix2 ρ k := by
    intro hh
    funext a
    refine Fin.ext ?_
    match a with
    | 0 => show R.val / 2 = ρ.val; omega
    | 1 => rfl
  rw [ei, eq, Nat.mul_comm 16 q]
  refine congrArg (fun b : BitVec 32 => b.extractLsb' (q * 16) 16) ?_
  pointwise

theorem pay4_at (W : Vec Ideal S1x1x128x1024 .i32) (w : Vec Ideal S1024x1024 .bf16) (q : ℕ) (hq : q < 2) (ρ : Fin 128) (R : Fin 256)
    (hR : R.val = q + 2 * ρ.val) (e : Fin 1024) : k0_pay4 W w (ix2 R e) = fou W w q ρ e := by
  unfold fou times
  pointwise [k0_pay4]
  refine Finset.sum_congr rfl fun k _ => ?_
  exact congrArg (· * _) (words_at W q hq ρ k R hR _)

theorem pay14_at (W : Vec Ideal S1x1x128x1024 .i32) (w : Vec Ideal S1024x1024 .bf16) (q : ℕ) (hq : q < 2) (ρ : Fin 128) (R : Fin 256)
    (hR : R.val = q + 2 * ρ.val) (e : Fin 1024) : k0_pay14 W w (ix2 R e) = fou W w q ρ e := by
  unfold fou times
  pointwise [k0_pay14]
  refine Finset.sum_congr rfl fun k _ => ?_
  exact congrArg (· * _) (words_at W q hq ρ k R hR _)

theorem laneA0_at (W : Vec Ideal S1x1x128x1024 .i32) (w : Vec Ideal S1024x1024 .bf16) (q : ℕ) (hq : q < 2) (ρ j : Fin 128) :
    every2 (k0_pay5 W w) q (ix3 0 ρ j) = fou W w q ρ ⟨0 + j.val, by omega⟩ := by
  refine Eq.trans ?_ (pay4_at W w q hq ρ ⟨(q + 2 * ρ.val) % 256, Nat.mod_lt _ (by decide)⟩ (Nat.mod_eq_of_lt (by omega)) ⟨0 + j.val, by omega⟩)
  show (k0_pay5 W w) (ix3 0 ⟨(q + 2 * ρ.val) % 256, Nat.mod_lt _ (by decide)⟩ j) = _
  pointwise [k0_pay5]
  try (first | rfl | (refine congrArg _ ?_; refine congrArg _ (Fin.ext ?_); simp))

theorem laneA1_at (W : Vec Ideal S1x1x128x1024 .i32) (w : Vec Ideal S1024x1024 .bf16) (q : ℕ) (hq : q < 2) (ρ j : Fin 128) :
    every2 (k0_pay7 (k0_pay6 W w)) q (ix3 0 ρ j) = fou W w q ρ ⟨128 + j.val, by omega⟩ := by
  refine Eq.trans ?_ (pay4_at W w q hq ρ ⟨(q + 2 * ρ.val) % 256, Nat.mod_lt _ (by decide)⟩ (Nat.mod_eq_of_lt (by omega)) ⟨128 + j.val, by omega⟩)
  show (k0_pay7 (k0_pay6 W w)) (ix3 0 ⟨(q + 2 * ρ.val) % 256, Nat.mod_lt _ (by decide)⟩ j) = _
  pointwise [k0_pay7, k0_pay6]
  try (first | rfl | (refine congrArg _ ?_; refine congrArg _ (Fin.ext ?_); simp))

theorem laneA2_at (W : Vec Ideal S1x1x128x1024 .i32) (w : Vec Ideal S1024x1024 .bf16) (q : ℕ) (hq : q < 2) (ρ j : Fin 128) :
    every2 (k0_pay8 (k0_pay4 W w)) q (ix3 0 ρ j) = fou W w q ρ ⟨256 + j.val, by omega⟩ := by
  refine Eq.trans ?_ (pay4_at W w q hq ρ ⟨(q + 2 * ρ.val) % 256, Nat.mod_lt _ (by decide)⟩ (Nat.mod_eq_of_lt (by omega)) ⟨256 + j.val, by omega⟩)
  show (k0_pay8 (k0_pay4 W w)) (ix3 0 ⟨(q + 2 * ρ.val) % 256, Nat.mod_lt _ (by decide)⟩ j) = _
  pointwise [k0_pay8]
  try (first | rfl | (refine congrArg _ ?_; refine congrArg _ (Fin.ext ?_); simp))

theorem laneA3_at (W : Vec Ideal S1x1x128x1024 .i32) (w : Vec Ideal S1024x1024 .bf16) (q : ℕ) (hq : q < 2) (ρ j : Fin 128) :
    every2 (k0_pay9 (k0_pay4 W w)) q (ix3 0 ρ j) = fou W w q ρ ⟨384 + j.val, by omega⟩ := by
  refine Eq.trans ?_ (pay4_at W w q hq ρ ⟨(q + 2 * ρ.val) % 256, Nat.mod_lt _ (by decide)⟩ (Nat.mod_eq_of_lt (by omega)) ⟨384 + j.val, by omega⟩)
  show (k0_pay9 (k0_pay4 W w)) (ix3 0 ⟨(q + 2 * ρ.val) % 256, Nat.mod_lt _ (by decide)⟩ j) = _
  pointwise [k0_pay9]
  try (first | rfl | (refine congrArg _ ?_; refine congrArg _ (Fin.ext ?_); simp))

theorem laneA4_at (W : Vec Ideal S1x1x128x1024 .i32) (w : Vec Ideal S1024x1024 .bf16) (q : ℕ) (hq : q < 2) (ρ j : Fin 128) :
    every2 (k0_pay10 (k0_pay4 W w)) q (ix3 0 ρ j) = fou W w q ρ ⟨512 + j.val, by omega⟩ := by
  refine Eq.trans ?_ (pay4_at W w q hq ρ ⟨(q + 2 * ρ.val) % 256, Nat.mod_lt _ (by decide)⟩ (Nat.mod_eq_of_lt (by omega)) ⟨512 + j.val, by omega⟩)
  show (k0_pay10 (k0_pay4 W w)) (ix3 0 ⟨(q + 2 * ρ.val) % 256, Nat.mod_lt _ (by decide)⟩ j) = _
  pointwise [k0_pay10]
  try (first | rfl | (refine congrArg _ ?_; refine congrArg _ (Fin.ext ?_); simp))

theorem laneA5_at (W : Vec Ideal S1x1x128x1024 .i32) (w : Vec Ideal S1024x1024 .bf16) (q : ℕ) (hq : q < 2) (ρ j : Fin 128) :
    every2 (k0_pay11 (k0_pay4 W w)) q (ix3 0 ρ j) = fou W w q ρ ⟨640 + j.val, by omega⟩ := by
  refine Eq.trans ?_ (pay4_at W w q hq ρ ⟨(q + 2 * ρ.val) % 256, Nat.mod_lt _ (by decide)⟩ (Nat.mod_eq_of_lt (by omega)) ⟨640 + j.val, by omega⟩)
  show (k0_pay11 (k0_pay4 W w)) (ix3 0 ⟨(q + 2 * ρ.val) % 256, Nat.mod_lt _ (by decide)⟩ j) = _
  pointwise [k0_pay11]
  try (first | rfl | (refine congrArg _ ?_; refine congrArg _ (Fin.ext ?_); simp))

theorem laneA6_at (W : Vec Ideal S1x1x128x1024 .i32) (w : Vec Ideal S1024x1024 .bf16) (q : ℕ) (hq : q < 2) (ρ j : Fin 128) :
    every2 (k0_pay12 (k0_pay4 W w)) q (ix3 0 ρ j) = fou W w q ρ ⟨768 + j.val, by omega⟩ := by
  refine Eq.trans ?_ (pay4_at W w q hq ρ ⟨(q + 2 * ρ.val) % 256, Nat.mod_lt _ (by decide)⟩ (Nat.mod_eq_of_lt (by omega)) ⟨768 + j.val, by omega⟩)
  show (k0_pay12 (k0_pay4 W w)) (ix3 0 ⟨(q + 2 * ρ.val) % 256, Nat.mod_lt _ (by decide)⟩ j) = _
  pointwise [k0_pay12]
  try (first | rfl | (refine congrArg _ ?_; refine congrArg _ (Fin.ext ?_); simp))

theorem laneA7_at (W : Vec Ideal S1x1x128x1024 .i32) (w : Vec Ideal S1024x1024 .bf16) (q : ℕ) (hq : q < 2) (ρ j : Fin 128) :
    every2 (k0_pay13 (k0_pay4 W w)) q (ix3 0 ρ j) = fou W w q ρ ⟨896 + j.val, by omega⟩ := by
  refine Eq.trans ?_ (pay4_at W w q hq ρ ⟨(q + 2 * ρ.val) % 256, Nat.mod_lt _ (by decide)⟩ (Nat.mod_eq_of_lt (by omega)) ⟨896 + j.val, by omega⟩)
  show (k0_pay13 (k0_pay4 W w)) (ix3 0 ⟨(q + 2 * ρ.val) % 256, Nat.mod_lt _ (by decide)⟩ j) = _
  pointwise [k0_pay13]
  try (first | rfl | (refine congrArg _ ?_; refine congrArg _ (Fin.ext ?_); simp))

theorem laneB0_at (W : Vec Ideal S1x1x128x1024 .i32) (w : Vec Ideal S1024x1024 .bf16) (q : ℕ) (hq : q < 2) (ρ j : Fin 128) :
    every2 (k0_pay15 W w) q (ix3 0 ρ j) = fou W w q ρ ⟨0 + j.val, by omega⟩ := by
  refine Eq.trans ?_ (pay14_at W w q hq ρ ⟨(q + 2 * ρ.val) % 256, Nat.mod_lt _ (by decide)⟩ (Nat.mod_eq_of_lt (by omega)) ⟨0 + j.val, by omega⟩)
  show (k0_pay15 W w) (ix3 0 ⟨(q + 2 * ρ.val) % 256, Nat.mod_lt _ (by decide)⟩ j) = _
  pointwise [k0_pay15]
  try (first | rfl | (refine congrArg _ ?_; refine congrArg _ (Fin.ext ?_); simp))

theorem laneB1_at (W : Vec Ideal S1x1x128x1024 .i32) (w : Vec Ideal S1024x1024 .bf16) (q : ℕ) (hq : q < 2) (ρ j : Fin 128) :
    every2 (k0_pay16 W w) q (ix3 0 ρ j) = fou W w q ρ ⟨128 + j.val, by omega⟩ := by
  refine Eq.trans ?_ (pay14_at W w q hq ρ ⟨(q + 2 * ρ.val) % 256, Nat.mod_lt _ (by decide)⟩ (Nat.mod_eq_of_lt (by omega)) ⟨128 + j.val, by omega⟩)
  show (k0_pay16 W w) (ix3 0 ⟨(q + 2 * ρ.val) % 256, Nat.mod_lt _ (by decide)⟩ j) = _
  pointwise [k0_pay16]
  try (first | rfl | (refine congrArg _ ?_; refine congrArg _ (Fin.ext ?_); simp))

theorem laneB2_at (W : Vec Ideal S1x1x128x1024 .i32) (w : Vec Ideal S1024x1024 .bf16) (q : ℕ) (hq : q < 2) (ρ j : Fin 128) :
    every2 (k0_pay17 W w) q (ix3 0 ρ j) = fou W w q ρ ⟨256 + j.val, by omega⟩ := by
  refine Eq.trans ?_ (pay14_at W w q hq ρ ⟨(q + 2 * ρ.val) % 256, Nat.mod_lt _ (by decide)⟩ (Nat.mod_eq_of_lt (by omega)) ⟨256 + j.val, by omega⟩)
  show (k0_pay17 W w) (ix3 0 ⟨(q + 2 * ρ.val) % 256, Nat.mod_lt _ (by decide)⟩ j) = _
  pointwise [k0_pay17]
  try (first | rfl | (refine congrArg _ ?_; refine congrArg _ (Fin.ext ?_); simp))

theorem laneB3_at (W : Vec Ideal S1x1x128x1024 .i32) (w : Vec Ideal S1024x1024 .bf16) (q : ℕ) (hq : q < 2) (ρ j : Fin 128) :
    every2 (k0_pay18 W w) q (ix3 0 ρ j) = fou W w q ρ ⟨384 + j.val, by omega⟩ := by
  refine Eq.trans ?_ (pay14_at W w q hq ρ ⟨(q + 2 * ρ.val) % 256, Nat.mod_lt _ (by decide)⟩ (Nat.mod_eq_of_lt (by omega)) ⟨384 + j.val, by omega⟩)
  show (k0_pay18 W w) (ix3 0 ⟨(q + 2 * ρ.val) % 256, Nat.mod_lt _ (by decide)⟩ j) = _
  pointwise [k0_pay18]
  try (first | rfl | (refine congrArg _ ?_; refine congrArg _ (Fin.ext ?_); simp))

theorem laneB4_at (W : Vec Ideal S1x1x128x1024 .i32) (w : Vec Ideal S1024x1024 .bf16) (q : ℕ) (hq : q < 2) (ρ j : Fin 128) :
    every2 (k0_pay19 W w) q (ix3 0 ρ j) = fou W w q ρ ⟨512 + j.val, by omega⟩ := by
  refine Eq.trans ?_ (pay14_at W w q hq ρ ⟨(q + 2 * ρ.val) % 256, Nat.mod_lt _ (by decide)⟩ (Nat.mod_eq_of_lt (by omega)) ⟨512 + j.val, by omega⟩)
  show (k0_pay19 W w) (ix3 0 ⟨(q + 2 * ρ.val) % 256, Nat.mod_lt _ (by decide)⟩ j) = _
  pointwise [k0_pay19]
  try (first | rfl | (refine congrArg _ ?_; refine congrArg _ (Fin.ext ?_); simp))

theorem laneB5_at (W : Vec Ideal S1x1x128x1024 .i32) (w : Vec Ideal S1024x1024 .bf16) (q : ℕ) (hq : q < 2) (ρ j : Fin 128) :
    every2 (k0_pay20 W w) q (ix3 0 ρ j) = fou W w q ρ ⟨640 + j.val, by omega⟩ := by
  refine Eq.trans ?_ (pay14_at W w q hq ρ ⟨(q + 2 * ρ.val) % 256, Nat.mod_lt _ (by decide)⟩ (Nat.mod_eq_of_lt (by omega)) ⟨640 + j.val, by omega⟩)
  show (k0_pay20 W w) (ix3 0 ⟨(q + 2 * ρ.val) % 256, Nat.mod_lt _ (by decide)⟩ j) = _
  pointwise [k0_pay20]
  try (first | rfl | (refine congrArg _ ?_; refine congrArg _ (Fin.ext ?_); simp))

theorem laneB6_at (W : Vec Ideal S1x1x128x1024 .i32) (w : Vec Ideal S1024x1024 .bf16) (q : ℕ) (hq : q < 2) (ρ j : Fin 128) :
    every2 (k0_pay22 (k0_pay21 W w)) q (ix3 0 ρ j) = fou W w q ρ ⟨768 + j.val, by omega⟩ := by
  refine Eq.trans ?_ (pay14_at W w q hq ρ ⟨(q + 2 * ρ.val) % 256, Nat.mod_lt _ (by decide)⟩ (Nat.mod_eq_of_lt (by omega)) ⟨768 + j.val, by omega⟩)
  show (k0_pay22 (k0_pay21 W w)) (ix3 0 ⟨(q + 2 * ρ.val) % 256, Nat.mod_lt _ (by decide)⟩ j) = _
  pointwise [k0_pay22, k0_pay21]
  try (first | rfl | (refine congrArg _ ?_; refine congrArg _ (Fin.ext ?_); simp))

theorem laneB7_at (W : Vec Ideal S1x1x128x1024 .i32) (w : Vec Ideal S1024x1024 .bf16) (q : ℕ) (hq : q < 2) (ρ j : Fin 128) :
    every2 (k0_pay23 (k0_pay14 W w)) q (ix3 0 ρ j) = fou W w q ρ ⟨896 + j.val, by omega⟩ := by
  refine Eq.trans ?_ (pay14_at W w q hq ρ ⟨(q + 2 * ρ.val) % 256, Nat.mod_lt _ (by decide)⟩ (Nat.mod_eq_of_lt (by omega)) ⟨896 + j.val, by omega⟩)
  show (k0_pay23 (k0_pay14 W w)) (ix3 0 ⟨(q + 2 * ρ.val) % 256, Nat.mod_lt _ (by decide)⟩ j) = _
  pointwise [k0_pay23]
  try (first | rfl | (refine congrArg _ ?_; refine congrArg _ (Fin.ext ?_); simp))

/-- Eight lanes side by side are a row of the product. -/
theorem pay24_at (G : ℕ → Fin 128 → Fin 1024 → EReal) (a0 a1 a2 a3 a4 a5 a6 a7 : Vec Ideal S1x128x128 .f32)
    (h0 : ∀ ρ j, a0 (ix3 0 ρ j) = G 0 ρ ⟨0 + j.val, by omega⟩) (h1 : ∀ ρ j, a1 (ix3 0 ρ j) = G 0 ρ ⟨128 + j.val, by omega⟩) (h2 : ∀ ρ j, a2 (ix3 0 ρ j) = G 0 ρ ⟨256 + j.val, by omega⟩) (h3 : ∀ ρ j, a3 (ix3 0 ρ j) = G 0 ρ ⟨384 + j.val, by omega⟩) (h4 : ∀ ρ j, a4 (ix3 0 ρ j) = G 0 ρ ⟨512 + j.val, by omega⟩) (h5 : ∀ ρ j, a5 (ix3 0 ρ j) = G 0 ρ ⟨640 + j.val, by omega⟩) (h6 : ∀ ρ j, a6 (ix3 0 ρ j) = G 0 ρ ⟨768 + j.val, by omega⟩) (h7 : ∀ ρ j, a7 (ix3 0 ρ j) = G 0 ρ ⟨896 + j.val, by omega⟩)
    (r : Fin 128) (e : Fin 1024) : k0_pay24 a0 a1 a2 a3 a4 a5 a6 a7 (ix2 r e) = G 0 r e := by
  pointwise [k0_pay24]
  have hr := r.isLt
  have he := e.isLt
  split_ifs <;> (first | rw [h0] | rw [h1] | rw [h2] | rw [h3] | rw [h4] | rw [h5] | rw [h6] | rw [h7] | skip) <;>
    first
    | exact congrArg (G _ _) (Fin.ext (by simp only; omega))
    | skip

/-- Eight lanes side by side are a row of the product. -/
theorem pay29_at (G : ℕ → Fin 128 → Fin 1024 → EReal) (a0 a1 a2 a3 a4 a5 a6 a7 : Vec Ideal S1x128x128 .f32)
    (h0 : ∀ ρ j, a0 (ix3 0 ρ j) = G 0 ρ ⟨0 + j.val, by omega⟩) (h1 : ∀ ρ j, a1 (ix3 0 ρ j) = G 0 ρ ⟨128 + j.val, by omega⟩) (h2 : ∀ ρ j, a2 (ix3 0 ρ j) = G 0 ρ ⟨256 + j.val, by omega⟩) (h3 : ∀ ρ j, a3 (ix3 0 ρ j) = G 0 ρ ⟨384 + j.val, by omega⟩) (h4 : ∀ ρ j, a4 (ix3 0 ρ j) = G 0 ρ ⟨512 + j.val, by omega⟩) (h5 : ∀ ρ j, a5 (ix3 0 ρ j) = G 0 ρ ⟨640 + j.val, by omega⟩) (h6 : ∀ ρ j, a6 (ix3 0 ρ j) = G 0 ρ ⟨768 + j.val, by omega⟩) (h7 : ∀ ρ j, a7 (ix3 0 ρ j) = G 0 ρ ⟨896 + j.val, by omega⟩)
    (r : Fin 128) (e : Fin 1024) : k0_pay29 a0 a1 a2 a3 a4 a5 a6 a7 (ix2 r e) = G 0 r e := by
  pointwise [k0_pay29]
  have hr := r.isLt
  have he := e.isLt
  split_ifs <;> (first | rw [h0] | rw [h1] | rw [h2] | rw [h3] | rw [h4] | rw [h5] | rw [h6] | rw [h7] | skip) <;>
    first
    | exact congrArg (G _ _) (Fin.ext (by simp only; omega))
    | skip

theorem pay25_at (a : Vec Ideal S1x128x128 .f32) (r j : Fin 128) : k0_pay25 a (ix2 r j) = a (ix3 0 r j) := by
  pointwise [k0_pay25]

theorem pay30_at (a : Vec Ideal S1x128x128 .f32) (r j : Fin 128) : k0_pay30 a (ix2 r j) = a (ix3 0 r j) := by
  pointwise [k0_pay30]

theorem pay31_at (a : Vec Ideal S1x128x128 .f32) (r j : Fin 128) : k0_pay31 a (ix2 r j) = a (ix3 0 r j) := by
  pointwise [k0_pay31]

theorem pay32_at (a : Vec Ideal S1x128x128 .f32) (r j : Fin 128) : k0_pay32 a (ix2 r j) = a (ix3 0 r j) := by
  pointwise [k0_pay32]

/-- The gated sum on a token of the first half; `G q ρ` is the Fourier product of token `128 q + ρ`. -/
theorem pay27_at (G : ℕ → Fin 128 → Fin 1024 → EReal) (v : FVec Ideal S256x1024 .f32) (top : FVec Ideal S128x1024 .f32) (a0 : FVec Ideal S128x128 .f32)
    (a1 a2 a3 a4 a5 a6 a7 : Vec Ideal S1x128x128 .f32) (g f : Vec Ideal S1x256x1024 .bf16)
    (ht : ∀ ρ e, top (ix2 ρ e) = G 0 ρ e) (h0 : ∀ ρ j, a0 (ix2 ρ j) = G 1 ρ ⟨0 + j.val, by omega⟩)
    (h1 : ∀ ρ j, a1 (ix3 0 ρ j) = G 1 ρ ⟨128 + j.val, by omega⟩) (h2 : ∀ ρ j, a2 (ix3 0 ρ j) = G 1 ρ ⟨256 + j.val, by omega⟩) (h3 : ∀ ρ j, a3 (ix3 0 ρ j) = G 1 ρ ⟨384 + j.val, by omega⟩) (h4 : ∀ ρ j, a4 (ix3 0 ρ j) = G 1 ρ ⟨512 + j.val, by omega⟩) (h5 : ∀ ρ j, a5 (ix3 0 ρ j) = G 1 ρ ⟨640 + j.val, by omega⟩) (h6 : ∀ ρ j, a6 (ix3 0 ρ j) = G 1 ρ ⟨768 + j.val, by omega⟩) (h7 : ∀ ρ j, a7 (ix3 0 ρ j) = G 1 ρ ⟨896 + j.val, by omega⟩)
    (r : Fin 256) (e : Fin 1024) : k0_pay27 v top a0 a1 a2 a3 a4 a5 a6 a7 g f (ix2 r e)
      = merged (fun k => g (ix3 0 r k)) (fun k => v (ix2 r k)) (fun k => f (ix3 0 r k))
          (G (r.val / 128) ⟨r.val % 128, Nat.mod_lt _ (by decide)⟩) e := by
  pointwise [k0_pay27]
  unfold merged
  refine congrArg (HAdd.hAdd _) (congrArg (HMul.hMul _) ?_)
  by_cases hr : r.val < 128
  · rw [dif_pos hr, ht]
    have q0 : r.val / 128 = 0 := by omega
    rw [q0]
    exact congrArg (fun ρ => G 0 ρ e) (Fin.ext (Nat.mod_eq_of_lt hr).symm)
  · rw [dif_neg hr]
    have q1 : r.val / 128 = 1 := by have := r.isLt; omega
    have e1 : (⟨r.val % 128, Nat.mod_lt _ (by decide)⟩ : Fin 128) = ⟨r.val - 128, by omega⟩ := Fin.ext (by simp only; omega)
    rw [q1, e1]
    have he := e.isLt
    split_ifs <;> (first | rw [h0] | rw [h1] | rw [h2] | rw [h3] | rw [h4] | rw [h5] | rw [h6] | rw [h7] | skip) <;>
      exact congrArg (G _ _) (Fin.ext (by simp only; omega))

theorem pay2_at (g r : Vec Ideal S1x256x1024 .bf16) (w : Vec Ideal S1024x1024 .bf16) (t : Fin 256) (e : Fin 1024) :
    k0_pay2 g r w (ix2 t e) = times (gated (fun k => g (ix3 0 t k)) (fun k => r (ix3 0 t k))) (mat w) e := by
  pointwise [k0_pay2]
  rfl

theorem pay3_at (g r : Vec Ideal S1x256x1024 .bf16) (w : Vec Ideal S1024x1024 .bf16) (t : Fin 256) (e : Fin 1024) :
    k0_pay3 g r w (ix2 t e) = times (gated (fun k => g (ix3 0 t k)) (fun k => r (ix3 0 t k))) (mat w) e := by
  pointwise [k0_pay3]
  rfl

end Cert.TailIdeal.Tail
end
-- ==== Proof.TailHalf.lean ====
/-
The mixing, the attention and the feed-forward part of the last kernel's body, each read on one token of a half.
-/
module

public import proofs.«01_k».proof.Proof.TailPay

@[expose] public section

set_option maxRecDepth 16384

noncomputable section

namespace Cert.TailIdeal.Tail

open Cert.TailIdeal Cert.TailIdeal.Gen Idealize.ShloMosaic Idealize.ShloMosaic.TcCoe Idealize.SL.Sem Cert.TailRow

abbrev mat3 (w : Vec Ideal S1x1024x1024 .bf16) : Fin 1024 → Fin 1024 → EReal := fun k e => w (ix3 0 k e)
abbrev vec (n : Vec Ideal S1x1024 .f32) : Fin 1024 → EReal := fun k => n (ix2 0 k)

theorem pay28_at (a : FVec Ideal S256x1024 .f32) (b : FVec Ideal S256x1024 .bf16) (w : Vec Ideal S1024x1024 .bf16) (r : Fin 256) (e : Fin 1024) :
    k0_pay28 a b w (ix2 r e) = a (ix2 r e) + times (fun k => b (ix2 r k)) (mat w) e := by
  pointwise [k0_pay28]
  rfl

theorem pay26_at (a : Vec Ideal S1x256x1024 .f32) (r : Fin 256) (e : Fin 1024) : k0_pay26 a (ix2 r e) = a (ix3 0 r e) := by
  pointwise [k0_pay26]

/-- The mixing on a token of the second half; `G q ρ` is the Fourier product of token `128 q + ρ` of it. -/
theorem pay33_at (G : ℕ → Fin 128 → Fin 1024 → EReal) (v : FVec Ideal S256x1024 .f32) (top : FVec Ideal S128x1024 .f32) (a0 a1 a2 : FVec Ideal S128x128 .f32)
    (a3 a4 a5 a6 a7 : Vec Ideal S1x128x128 .f32) (g f : Vec Ideal S1x256x1024 .bf16) (x : Vec Ideal S1x256x1024 .f32) (w : Vec Ideal S1024x1024 .bf16)
    (ht : ∀ ρ e, top (ix2 ρ e) = G 0 ρ e) (h0 : ∀ ρ j, a0 (ix2 ρ j) = G 1 ρ ⟨0 + j.val, by omega⟩) (h1 : ∀ ρ j, a1 (ix2 ρ j) = G 1 ρ ⟨128 + j.val, by omega⟩) (h2 : ∀ ρ j, a2 (ix2 ρ j) = G 1 ρ ⟨256 + j.val, by omega⟩)
    (h3 : ∀ ρ j, a3 (ix3 0 ρ j) = G 1 ρ ⟨384 + j.val, by omega⟩) (h4 : ∀ ρ j, a4 (ix3 0 ρ j) = G 1 ρ ⟨512 + j.val, by omega⟩) (h5 : ∀ ρ j, a5 (ix3 0 ρ j) = G 1 ρ ⟨640 + j.val, by omega⟩) (h6 : ∀ ρ j, a6 (ix3 0 ρ j) = G 1 ρ ⟨768 + j.val, by omega⟩) (h7 : ∀ ρ j, a7 (ix3 0 ρ j) = G 1 ρ ⟨896 + j.val, by omega⟩)
    (r : Fin 256) (e : Fin 1024) : k0_pay33 v top a0 a1 a2 a3 a4 a5 a6 a7 g f x w (ix2 r e)
      = x (ix3 0 r e) + times (merged (fun k => g (ix3 0 r k)) (fun k => v (ix2 r k)) (fun k => f (ix3 0 r k))
          (G (r.val / 128) ⟨r.val % 128, Nat.mod_lt _ (by decide)⟩)) (mat w) e := by
  pointwise [k0_pay33]
  unfold times merged
  refine congrArg (HAdd.hAdd _) (Finset.sum_congr rfl fun k _ => congrArg (· * _) (congrArg (HAdd.hAdd _) (congrArg (HMul.hMul _) ?_)))
  by_cases hr : r.val < 128
  · rw [dif_pos hr, ht]
    have q0 : r.val / 128 = 0 := by omega
    rw [q0]
    exact congrArg (fun ρ => G 0 ρ k) (Fin.ext (Nat.mod_eq_of_lt hr).symm)
  · rw [dif_neg hr]
    have q1 : r.val / 128 = 1 := by have := r.isLt; omega
    have e1 : (⟨r.val % 128, Nat.mod_lt _ (by decide)⟩ : Fin 128) = ⟨r.val - 128, by omega⟩ := Fin.ext (by simp only; omega)
    rw [q1, e1]
    have he := k.isLt
    split_ifs <;> (first | rw [h0] | rw [h1] | rw [h2] | rw [h3] | rw [h4] | rw [h5] | rw [h6] | rw [h7] | skip) <;>
      exact congrArg (G _ _) (Fin.ext (by simp only; omega))

theorem mixA_at (x0 : Vec Ideal S1x512x1024 .f32) (x1 x2 : Vec Ideal S1x512x1024 .bf16) (x3 : Vec Ideal S1x2x128x1024 .i32)
    (x4 x5 : Vec Ideal S1x512x1024 .bf16) (x8 x9 x10 : Vec Ideal S1024x1024 .bf16) (r : Fin 256) (e : Fin 1024) :
    mixA x0 x1 x2 x3 x4 x5 x8 x9 x10 (ix2 r e)
      = mix (fun k => half x0 0 (ix3 0 r k)) (fun k => half x1 0 (ix3 0 r k)) (fun k => half x2 0 (ix3 0 r k))
          (fun k => numOf (wordsOf x3 0 (ix4 0 0 ⟨r.val % 128, Nat.mod_lt _ (by decide)⟩ k)) (r.val / 128))
          (fun k => half x4 0 (ix3 0 r k)) (fun k => half x5 0 (ix3 0 r k)) (mat x8) (mat x9) (mat x10) e := by
  unfold mixA mix
  refine (pay28_at _ _ _ r e).trans (congr (congrArg HAdd.hAdd (pay26_at _ r e)) ?_)
  refine congrArg (fun z => times z (mat x10) e) (funext fun i => ?_)
  refine (pay27_at (fou (wordsOf x3 0) x9) _ _ _ _ _ _ _ _ _ _ _ _
    (fun ρ e => pay24_at (fou (wordsOf x3 0) x9) _ _ _ _ _ _ _ _ (laneA0_at _ _ 0 (by decide)) (laneA1_at _ _ 0 (by decide)) (laneA2_at _ _ 0 (by decide)) (laneA3_at _ _ 0 (by decide)) (laneA4_at _ _ 0 (by decide)) (laneA5_at _ _ 0 (by decide)) (laneA6_at _ _ 0 (by decide)) (laneA7_at _ _ 0 (by decide)) ρ e)
    (fun ρ j => (pay25_at _ ρ j).trans (laneA0_at _ _ 1 (by decide) ρ j)) (laneA1_at _ _ 1 (by decide)) (laneA2_at _ _ 1 (by decide)) (laneA3_at _ _ 1 (by decide)) (laneA4_at _ _ 1 (by decide)) (laneA5_at _ _ 1 (by decide)) (laneA6_at _ _ 1 (by decide)) (laneA7_at _ _ 1 (by decide)) r i).trans ?_
  refine congrArg (fun z => merged _ z _ _ i) (funext fun k => pay2_at _ _ _ r k)

theorem mixB_at (x0 : Vec Ideal S1x512x1024 .f32) (x1 x2 : Vec Ideal S1x512x1024 .bf16) (x3 : Vec Ideal S1x2x128x1024 .i32)
    (x4 x5 : Vec Ideal S1x512x1024 .bf16) (x8 x9 x10 : Vec Ideal S1024x1024 .bf16) (r : Fin 256) (e : Fin 1024) :
    mixB x0 x1 x2 x3 x4 x5 x8 x9 x10 (ix2 r e)
      = mix (fun k => half x0 256 (ix3 0 r k)) (fun k => half x1 256 (ix3 0 r k)) (fun k => half x2 256 (ix3 0 r k))
          (fun k => numOf (wordsOf x3 1 (ix4 0 0 ⟨r.val % 128, Nat.mod_lt _ (by decide)⟩ k)) (r.val / 128))
          (fun k => half x4 256 (ix3 0 r k)) (fun k => half x5 256 (ix3 0 r k)) (mat x8) (mat x9) (mat x10) e := by
  unfold mixB mix
  refine (pay33_at (fou (wordsOf x3 1) x9) _ _ _ _ _ _ _ _ _ _ _ _ _ _
    (fun ρ e => pay29_at (fou (wordsOf x3 1) x9) _ _ _ _ _ _ _ _ (laneB0_at _ _ 0 (by decide)) (laneB1_at _ _ 0 (by decide)) (laneB2_at _ _ 0 (by decide)) (laneB3_at _ _ 0 (by decide)) (laneB4_at _ _ 0 (by decide)) (laneB5_at _ _ 0 (by decide)) (laneB6_at _ _ 0 (by decide)) (laneB7_at _ _ 0 (by decide)) ρ e)
    (fun ρ j => (pay30_at _ ρ j).trans (laneB0_at _ _ 1 (by decide) ρ j)) (fun ρ j => (pay31_at _ ρ j).trans (laneB1_at _ _ 1 (by decide) ρ j)) (fun ρ j => (pay32_at _ ρ j).trans (laneB2_at _ _ 1 (by decide) ρ j)) (laneB3_at _ _ 1 (by decide)) (laneB4_at _ _ 1 (by decide)) (laneB5_at _ _ 1 (by decide)) (laneB6_at _ _ 1 (by decide)) (laneB7_at _ _ 1 (by decide)) r e).trans ?_
  refine congrArg (HAdd.hAdd _) (congrArg (fun z => times (merged _ z _ _) (mat x10) e) (funext fun k => pay3_at _ _ _ r k))

theorem headA0_at (X : FVec Ideal S256x1024 .f32) (n : Vec Ideal S1x1024 .f32) (w : Vec Ideal S1x1024x1024 .bf16) (r j : Fin 256) : k0_pay39 (k0_pay37 X n (k0_pay34 X) w) (k0_pay38 X n (k0_pay34 X) w) (ix2 r j) = soft (fun j => k0_pay35 X n (k0_pay34 X) w (ix2 r ⟨0 + j.val, by omega⟩)) j := by
  have e0 : ∀ j : Fin 256, (⟨0 + j.val, by omega⟩ : Fin 1024) = ⟨j.val, by omega⟩ := fun j => Fin.ext (Nat.zero_add _)
  simp only [e0]
  pointwise [k0_pay39, k0_pay38, k0_pay37]
  rfl

theorem headA1_at (L : FVec Ideal S256x1024 .f32) (r j : Fin 256) : k0_pay40 L (ix2 r j) = soft (fun j => L (ix2 r ⟨256 + j.val, by omega⟩)) j := by
  have e0 : ∀ j : Fin 256, (⟨0 + j.val, by omega⟩ : Fin 1024) = ⟨j.val, by omega⟩ := fun j => Fin.ext (Nat.zero_add _)
  clear e0
  pointwise [k0_pay40]
  rfl

theorem headA2_at (L : FVec Ideal S256x1024 .f32) (r j : Fin 256) : k0_pay41 L (ix2 r j) = soft (fun j => L (ix2 r ⟨512 + j.val, by omega⟩)) j := by
  have e0 : ∀ j : Fin 256, (⟨0 + j.val, by omega⟩ : Fin 1024) = ⟨j.val, by omega⟩ := fun j => Fin.ext (Nat.zero_add _)
  clear e0
  pointwise [k0_pay41]
  rfl

theorem headA3_at (L : FVec Ideal S256x1024 .f32) (r j : Fin 256) : k0_pay44 (k0_pay42 L) (k0_pay43 L) (ix2 r j) = soft (fun j => L (ix2 r ⟨768 + j.val, by omega⟩)) j := by
  have e0 : ∀ j : Fin 256, (⟨0 + j.val, by omega⟩ : Fin 1024) = ⟨j.val, by omega⟩ := fun j => Fin.ext (Nat.zero_add _)
  clear e0
  pointwise [k0_pay44, k0_pay43, k0_pay42]
  rfl

theorem headB0_at (L : FVec Ideal S256x1024 .f32) (r j : Fin 256) : k0_pay45 L (ix2 r j) = soft (fun j => L (ix2 r ⟨0 + j.val, by omega⟩)) j := by
  have e0 : ∀ j : Fin 256, (⟨0 + j.val, by omega⟩ : Fin 1024) = ⟨j.val, by omega⟩ := fun j => Fin.ext (Nat.zero_add _)
  simp only [e0]
  pointwise [k0_pay45]
  rfl

theorem headB1_at (L : FVec Ideal S256x1024 .f32) (r j : Fin 256) : k0_pay46 L (ix2 r j) = soft (fun j => L (ix2 r ⟨256 + j.val, by omega⟩)) j := by
  have e0 : ∀ j : Fin 256, (⟨0 + j.val, by omega⟩ : Fin 1024) = ⟨j.val, by omega⟩ := fun j => Fin.ext (Nat.zero_add _)
  clear e0
  pointwise [k0_pay46]
  rfl

theorem headB2_at (L : FVec Ideal S256x1024 .f32) (r j : Fin 256) : k0_pay49 (k0_pay47 L) (k0_pay48 L) (ix2 r j) = soft (fun j => L (ix2 r ⟨512 + j.val, by omega⟩)) j := by
  have e0 : ∀ j : Fin 256, (⟨0 + j.val, by omega⟩ : Fin 1024) = ⟨j.val, by omega⟩ := fun j => Fin.ext (Nat.zero_add _)
  clear e0
  pointwise [k0_pay49, k0_pay48, k0_pay47]
  rfl

theorem headB3_at (L : FVec Ideal S256x1024 .f32) (r j : Fin 256) : k0_pay50 L (ix2 r j) = soft (fun j => L (ix2 r ⟨768 + j.val, by omega⟩)) j := by
  have e0 : ∀ j : Fin 256, (⟨0 + j.val, by omega⟩ : Fin 1024) = ⟨j.val, by omega⟩ := fun j => Fin.ext (Nat.zero_add _)
  clear e0
  pointwise [k0_pay50]
  rfl

/-- The four heads' weights side by side are the softmax of the row. -/
theorem beside_at (p0 p1 p2 p3 : Vec Ideal S256x256 .bf16) (l : Fin 1024 → EReal) (r : Fin 256)
(h0 : ∀ j, p0 (ix2 r j) = soft (fun j => l ⟨0 + j.val, by omega⟩) j) (h1 : ∀ j, p1 (ix2 r j) = soft (fun j => l ⟨256 + j.val, by omega⟩) j) (h2 : ∀ j, p2 (ix2 r j) = soft (fun j => l ⟨512 + j.val, by omega⟩) j) (h3 : ∀ j, p3 (ix2 r j) = soft (fun j => l ⟨768 + j.val, by omega⟩) j)
    (e : Fin 1024) : beside p0 p1 p2 p3 (ix2 r e) = probs l e := by
  have he := e.isLt
  have key : ∀ c : ℕ, e.val / 256 = c → ∀ hc : ∀ j : Fin 256, c * 256 + j.val < 1024,
      soft (fun j => l ⟨c * 256 + j.val, hc j⟩) ⟨e.val % 256, Nat.mod_lt _ (by decide)⟩ = probs l e := by
    intro c ec hc
    refine congrArg (fun f => soft f _) (funext fun j => congrArg l (Fin.ext ?_))
    show c * 256 + j.val = 256 * (e.val / 256) + j.val
    omega
  show (if e.val < 256 then p0 (ix2 r ⟨e.val % 256, _⟩) else if e.val < 512 then p1 (ix2 r ⟨e.val % 256, _⟩)
    else if e.val < 768 then p2 (ix2 r ⟨e.val % 256, _⟩) else p3 (ix2 r ⟨e.val % 256, _⟩)) = _
  split_ifs
  · rw [h0]; exact key 0 (by omega) (fun j => by omega)
  · rw [h1]; exact key 1 (by omega) (fun j => by omega)
  · rw [h2]; exact key 2 (by omega) (fun j => by omega)
  · rw [h3]; exact key 3 (by omega) (fun j => by omega)

theorem logitsA_at (X : FVec Ideal S256x1024 .f32) (n : Vec Ideal S1x1024 .f32) (w : Vec Ideal S1x1024x1024 .bf16) (r : Fin 256) (e : Fin 1024) :
    k0_pay35 X n (k0_pay34 X) w (ix2 r e) = times (norm (vec n) (rowOf X r)) (mat3 w) e := by
  pointwise [k0_pay35, k0_pay34]
  rfl

theorem attA_at (X : FVec Ideal S256x1024 .f32) (n : Vec Ideal S1x1024 .f32) (w : Vec Ideal S1x1024x1024 .bf16) (r : Fin 256) (e : Fin 1024) :
    attA X n w (ix2 r e) = probs (times (norm (vec n) (rowOf X r)) (mat3 w)) e := by
  have hl : (fun e => (k0_pay35 X n (k0_pay34 X) w) (ix2 r e)) = times (norm (vec n) (rowOf X r)) (mat3 w) := funext fun e => logitsA_at X n w r e
  rw [← hl]
  exact beside_at _ _ _ _ (fun e => (k0_pay35 X n (k0_pay34 X) w) (ix2 r e)) r (headA0_at X n w r) (headA1_at _ r) (headA2_at _ r) (headA3_at _ r) e

theorem logitsB_at (X : FVec Ideal S256x1024 .f32) (n : Vec Ideal S1x1024 .f32) (w : Vec Ideal S1x1024x1024 .bf16) (r : Fin 256) (e : Fin 1024) :
    k0_pay36 X n w (ix2 r e) = times (norm (vec n) (rowOf X r)) (mat3 w) e := by
  pointwise [k0_pay36]
  rfl

theorem attB_at (X : FVec Ideal S256x1024 .f32) (n : Vec Ideal S1x1024 .f32) (w : Vec Ideal S1x1024x1024 .bf16) (r : Fin 256) (e : Fin 1024) :
    attB X n w (ix2 r e) = probs (times (norm (vec n) (rowOf X r)) (mat3 w)) e := by
  have hl : (fun e => (k0_pay36 X n w) (ix2 r e)) = times (norm (vec n) (rowOf X r)) (mat3 w) := funext fun e => logitsB_at X n w r e
  rw [← hl]
  exact beside_at _ _ _ _ (fun e => (k0_pay36 X n w) (ix2 r e)) r (headB0_at _ r) (headB1_at _ r) (headB2_at _ r) (headB3_at _ r) e

theorem pay51_at (X : FVec Ideal S256x1024 .f32) (A : Vec Ideal S256x1024 .bf16) (w : Vec Ideal S1x1024x1024 .bf16) (r : Fin 256) (e : Fin 1024) :
    k0_pay51 X A w (ix2 r e) = X (ix2 r e) + times (fun k => A (ix2 r k)) (mat3 w) e := by
  pointwise [k0_pay51]
  rfl

theorem pay52_at (X : FVec Ideal S256x1024 .f32) (A : Vec Ideal S256x1024 .bf16) (w : Vec Ideal S1x1024x1024 .bf16) (r : Fin 256) (e : Fin 1024) :
    k0_pay52 X A w (ix2 r e) = X (ix2 r e) + times (fun k => A (ix2 r k)) (mat3 w) e := by
  pointwise [k0_pay52]
  rfl

theorem pay54_at (X : FVec Ideal S256x1024 .f32) (A : Vec Ideal S256x1024 .bf16) (w : Vec Ideal S1x1024x1024 .bf16) (n : Vec Ideal S1x1024 .f32) (r : Fin 256) (e : Fin 1024) :
    k0_pay54 (k0_pay51 X A w) n (k0_pay53 X A w) (ix2 r e) = norm (vec n) (rowOf (k0_pay51 X A w) r) e := by
  pointwise [k0_pay54, k0_pay53]
  rfl

theorem pay55_at (Y : FVec Ideal S256x1024 .f32) (n : Vec Ideal S1x1024 .f32) (r : Fin 256) (e : Fin 1024) :
    k0_pay55 Y n (ix2 r e) = norm (vec n) (rowOf Y r) e := by
  pointwise [k0_pay55]
  rfl

theorem pay56_at (Y : FVec Ideal S256x1024 .f32) (n : Vec Ideal S1x1024 .f32) (m : FVec Ideal S256x1 .f32) (u d : Vec Ideal S1024x1024 .bf16)
    (r : Fin 256) (e : Fin 1024) : k0_pay56 Y n m u d (ix2 r e)
      = Y (ix2 r e) + times (hidden (fun k => k0_pay54 Y n m (ix2 r k)) (mat u)) (mat d) e := by
  pointwise [k0_pay56]
  rfl

theorem pay57_at (Y : FVec Ideal S256x1024 .f32) (n : Vec Ideal S1x1024 .f32) (u d : Vec Ideal S1024x1024 .bf16)
    (r : Fin 256) (e : Fin 1024) : k0_pay57 Y n u d (ix2 r e)
      = Y (ix2 r e) + times (hidden (fun k => k0_pay55 Y n (ix2 r k)) (mat u)) (mat d) e := by
  pointwise [k0_pay57]
  rfl

theorem pay58_at (h : FVec Ideal S256x1024 .bf16) (a : FVec Ideal S256x1024 .f32) (u d : Vec Ideal S1024x1024 .bf16)
    (r : Fin 256) (e : Fin 1024) : k0_pay58 h a u d (ix2 r e)
      = a (ix2 r e) + times (hidden (fun k => h (ix2 r k)) (mat u)) (mat d) e := by
  pointwise [k0_pay58]
  rfl

theorem pay59_at (h : FVec Ideal S256x1024 .bf16) (u : Vec Ideal S1024x1024 .bf16)
    (r : Fin 256) (e : Fin 1024) : k0_pay59 h u (ix2 r e) = hidden (fun k => h (ix2 r k)) (mat u) e := by
  pointwise [k0_pay59]
  rfl

theorem pay60_at (h : FVec Ideal S256x1024 .bf16) (a : FVec Ideal S256x1024 .f32) (u d u' d' : Vec Ideal S1024x1024 .bf16)
    (r : Fin 256) (e : Fin 1024) : k0_pay60 h a u d u' d' (ix2 r e)
      = a (ix2 r e) + times (hidden (fun k => h (ix2 r k)) (mat u)) (mat d) e + times (hidden (fun k => h (ix2 r k)) (mat u')) (mat d') e := by
  pointwise [k0_pay60]
  rfl

theorem pay61_at (h b : FVec Ideal S256x1024 .bf16) (a : FVec Ideal S256x1024 .f32) (d u' d' : Vec Ideal S1024x1024 .bf16)
    (r : Fin 256) (e : Fin 1024) : k0_pay61 h a b d u' d' (ix2 r e)
      = a (ix2 r e) + times (fun k => b (ix2 r k)) (mat d) e + times (hidden (fun k => h (ix2 r k)) (mat u')) (mat d') e := by
  pointwise [k0_pay61]
  rfl

theorem pay62_at (h : FVec Ideal S256x1024 .bf16) (a : FVec Ideal S256x1024 .f32) (u d : Vec Ideal S1024x1024 .bf16) (n : Vec Ideal S1x1024 .f32)
    (r : Fin 256) (e : Fin 1024) : k0_pay62 h a u d n (ix3 0 r e)
      = norm (vec n) (fun e => a (ix2 r e) + times (hidden (fun k => h (ix2 r k)) (mat u)) (mat d) e) e := by
  pointwise [k0_pay62]
  rfl

theorem pay1_at (a : FVec Ideal S256x1024 .f32) (n : Vec Ideal S1x1024 .f32)
    (r : Fin 256) (e : Fin 1024) : k0_pay1 a n (ix3 0 r e) = norm (vec n) (fun e => a (ix2 r e)) e := by
  pointwise [k0_pay1]
  rfl

/-- The columns and rows a quarter of the feed-forward part works on. -/
theorem mat_cols (up : Vec Ideal S1024x4096 .bf16) (o : ℕ) (ho : o + 1024 ≤ 4096) :
    mat (colsOf up o) = fun k (j : Fin 1024) => up (ix2 k ⟨o + j.val, by omega⟩) := by
  funext k j
  exact congrArg (fun z => up (ix2 k z)) (Fin.ext (Nat.mod_eq_of_lt (by have := j.isLt; show o + j.val < 4096; omega)))
theorem mat_rows (dn : Vec Ideal S4096x1024 .bf16) (o : ℕ) (ho : o + 1024 ≤ 4096) :
    mat (rowsOf dn o) = fun (j : Fin 1024) e => dn (ix2 ⟨o + j.val, by omega⟩ e) := by
  funext j e
  exact congrArg (fun z => dn (ix2 z e)) (Fin.ext (Nat.mod_eq_of_lt (by have := j.isLt; show o + j.val < 4096; omega)))

theorem finA_at (X : FVec Ideal S256x1024 .f32) (A : Vec Ideal S256x1024 .bf16) (w : Vec Ideal S1x1024x1024 .bf16) (n : Vec Ideal S1x1024 .f32)
    (up : Vec Ideal S1024x4096 .bf16) (dn : Vec Ideal S4096x1024 .bf16) (nf : Vec Ideal S1x1024 .f32) (r : Fin 256) (e : Fin 1024) :
    finA X A w n up dn nf (ix3 0 r e)
      = norm (vec nf) (feed (fun e => X (ix2 r e) + times (fun k => A (ix2 r k)) (mat3 w) e) (vec n)
          (fun k j => up (ix2 k j)) (fun k j => dn (ix2 k j))) e := by
  have hy : rowOf (k0_pay51 X A w) r = fun e => X (ix2 r e) + times (fun k => A (ix2 r k)) (mat3 w) e := funext fun e => pay51_at X A w r e
  have hn : (fun k => (k0_pay54 (k0_pay51 X A w) n (k0_pay53 X A w)) (ix2 r k)) = norm (vec n) (rowOf (k0_pay51 X A w) r) := funext fun k => pay54_at X A w n r k
  unfold finA
  simp only [pay62_at, pay60_at, pay56_at]
  rw [← hy]
  refine congrArg (fun z => norm (vec nf) z e) (funext fun j => ?_)
  rw [feed_quarters, hn]
  rw [mat_cols up 0 (by decide), mat_cols up 1024 (by decide), mat_cols up 2048 (by decide), mat_cols up 3072 (by decide),
    mat_rows dn 0 (by decide), mat_rows dn 1024 (by decide), mat_rows dn 2048 (by decide), mat_rows dn 3072 (by decide)]

theorem finB_at (X : FVec Ideal S256x1024 .f32) (A : Vec Ideal S256x1024 .bf16) (w : Vec Ideal S1x1024x1024 .bf16) (n : Vec Ideal S1x1024 .f32)
    (up : Vec Ideal S1024x4096 .bf16) (dn : Vec Ideal S4096x1024 .bf16) (nf : Vec Ideal S1x1024 .f32) (r : Fin 256) (e : Fin 1024) :
    finB X A w n up dn nf (ix3 0 r e)
      = norm (vec nf) (feed (fun e => X (ix2 r e) + times (fun k => A (ix2 r k)) (mat3 w) e) (vec n)
          (fun k j => up (ix2 k j)) (fun k j => dn (ix2 k j))) e := by
  have hy : rowOf (k0_pay52 X A w) r = fun e => X (ix2 r e) + times (fun k => A (ix2 r k)) (mat3 w) e := funext fun e => pay52_at X A w r e
  have hn : (fun k => (k0_pay55 (k0_pay52 X A w) n) (ix2 r k)) = norm (vec n) (rowOf (k0_pay52 X A w) r) := funext fun k => pay55_at (k0_pay52 X A w) n r k
  unfold finB
  simp only [pay1_at, pay61_at, pay59_at, pay58_at, pay57_at]
  rw [← hy]
  refine congrArg (fun z => norm (vec nf) z e) (funext fun j => ?_)
  rw [feed_quarters, hn]
  rw [mat_cols up 0 (by decide), mat_cols up 1024 (by decide), mat_cols up 2048 (by decide), mat_cols up 3072 (by decide),
    mat_rows dn 0 (by decide), mat_rows dn 1024 (by decide), mat_rows dn 2048 (by decide), mat_rows dn 3072 (by decide)]

end Cert.TailIdeal.Tail
end
-- ==== Proof.TailBody.lean ====
/-
What one grid point of the last kernel leaves in its output block, in the body's vocabulary.
-/
module

public import proofs.«01_k».proof.Proof.TailBlocks

@[expose] public section

set_option maxRecDepth 16384

noncomputable section

namespace Cert.TailIdeal.Tail

open Cert.TailIdeal Cert.TailIdeal.Gen Idealize.ShloMosaic Idealize.ShloMosaic.TcCoe Idealize.SL.Sem

variable {F : FTy → Type} [FloatOps F]

set_option maxHeartbeats 6400000 in
theorem out0_A_16_eq (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x2x128x1024 .i32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x4096 .bf16) (harg15 : arg15.IsWhole) (arg16 : Memref sig .tc .vmem S4096x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S512x1024 .bf16) (harg19 : arg19.IsWhole) (arg20 : Memref sig .tc .vmem S8x512x128 .f32) (harg20 : arg20.IsWhole)
    (x0 : Vec F S1x512x1024 .f32) (x1 : Vec F S1x512x1024 .bf16) (x2 : Vec F S1x512x1024 .bf16) (x3 : Vec F S1x2x128x1024 .i32) (x4 : Vec F S1x512x1024 .bf16) (x5 : Vec F S1x512x1024 .bf16) (x6 : Vec F S1x1024x1024 .bf16) (x7 : Vec F S1x1024x1024 .bf16) (x8 : Vec F S1024x1024 .bf16) (x9 : Vec F S1024x1024 .bf16) (x10 : Vec F S1024x1024 .bf16) (x11 : Vec F S1x1024 .f32) (x12 : Vec F S1x1024 .f32) (x13 : Vec F S1024x4096 .bf16) (x14 : Vec F S4096x1024 .bf16) (x15 : Vec F S1x1024 .f32)  : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 = tailOut x0 x1 x2 x3 x4 x5 x6 x7 x8 x9 x10 x11 x12 x13 x14 x15 := by
  funext y
  frame_open
  simp (disch := decide) only [↓ View.readCov_skip, ↓ View.readCov_cons_toLoadRect, ↓ View.readCov_fill]
  frame_out
  simp (disch := rfl) only [read_every2_0, read_every2_1, read_beside, ld_half, ld_wordsOf, ld_colsOf, ld_rowsOf]
  canon_tiles x h
  all_goals first
    | refine Eq.trans ?_ (below_at0 _ _ y x (by omega) (by omega)).symm; rfl
    | refine Eq.trans ?_ (below_at1 _ _ y x (by omega) (by omega)).symm; rfl

end Cert.TailIdeal.Tail
end
-- ==== Proof.TailPoints.lean ====
/-
The last kernel's 64 points: point `t` is block `t % 32` of batch `t / 32`.  What its result is, read at an index:
the layer's arithmetic on that token.
-/
module

public import proofs.«01_k».proof.Proof.TailHalf
public import proofs.«01_k».proof.Proof.TailBody
public import Idealize.ShloMosaic.Lib.Pipeline.ValueKit

@[expose] public section

set_option maxRecDepth 16384

noncomputable section

namespace Cert.TailIdeal.Tail

open Cert.TailIdeal Cert.TailIdeal.Gen Idealize.ShloMosaic Idealize.ShloMosaic.TcCoe Idealize.SL.Sem Cert.TailRow

/-- What a point leaves, read on one of its 512 tokens. -/
theorem tailOut_at (x0 : Vec Ideal S1x512x1024 .f32) (x1 x2 : Vec Ideal S1x512x1024 .bf16) (x3 : Vec Ideal S1x2x128x1024 .i32) (x4 x5 : Vec Ideal S1x512x1024 .bf16)
    (x6 x7 : Vec Ideal S1x1024x1024 .bf16) (x8 x9 x10 : Vec Ideal S1024x1024 .bf16) (x11 x12 : Vec Ideal S1x1024 .f32) (x13 : Vec Ideal S1024x4096 .bf16)
    (x14 : Vec Ideal S4096x1024 .bf16) (x15 : Vec Ideal S1x1024 .f32) (l : Fin 512) (e : Fin 1024) :
    tailOut x0 x1 x2 x3 x4 x5 x6 x7 x8 x9 x10 x11 x12 x13 x14 x15 (ix3 0 l e)
      = norm (vec x15) (feed (attend (mix (fun k => x0 (ix3 0 l k)) (fun k => x1 (ix3 0 l k)) (fun k => x2 (ix3 0 l k))
          (fun k => numOf (x3 (ix4 0 ⟨l.val / 256, by omega⟩ ⟨l.val % 128, Nat.mod_lt _ (by decide)⟩ k)) (l.val / 128 % 2))
          (fun k => x4 (ix3 0 l k)) (fun k => x5 (ix3 0 l k)) (mat x8) (mat x9) (mat x10)) (vec x11) (mat3 x6) (mat3 x7)) (vec x12)
          (fun k j => x13 (ix2 k j)) (fun k j => x14 (ix2 k j))) e := by
  have hl := l.isLt
  have hh : ∀ {φ : EltTy} (x : Vec Ideal S1x512x1024 φ) (o : ℕ) (r : Fin 256), o + r.val = l.val →
      (fun k => half x o (ix3 0 r k)) = fun k => x (ix3 0 l k) := by
    intro φ x o r h
    funext k
    exact congrArg (fun z => x (ix3 0 z k)) (Fin.ext (show (o + r.val) % 512 = l.val by omega))
  by_cases h : l.val < 256
  · refine (below_at0 _ _ (ix3 0 l e) (ix3 0 ⟨l.val, h⟩ e) rfl rfl).trans ((finA_at _ _ _ _ _ _ _ _ _).trans ?_)
    refine congrArg (fun z => norm (vec x15) (feed z (vec x12) (fun k j => x13 (ix2 k j)) (fun k j => x14 (ix2 k j))) e) (funext fun i => ?_)
    refine (congrArg (HAdd.hAdd _) (congrArg (fun z => times z (mat3 x7) i) (funext fun k => attA_at _ _ _ _ k))).trans ?_
    unfold attend
    have hm : rowOf (mixA x0 x1 x2 x3 x4 x5 x8 x9 x10) ⟨l.val, h⟩ = mix (fun k => x0 (ix3 0 l k)) (fun k => x1 (ix3 0 l k)) (fun k => x2 (ix3 0 l k))
        (fun k => numOf (x3 (ix4 0 ⟨l.val / 256, by omega⟩ ⟨l.val % 128, Nat.mod_lt _ (by decide)⟩ k)) (l.val / 128 % 2))
        (fun k => x4 (ix3 0 l k)) (fun k => x5 (ix3 0 l k)) (mat x8) (mat x9) (mat x10) := by
      funext j
      refine (mixA_at x0 x1 x2 x3 x4 x5 x8 x9 x10 ⟨l.val, h⟩ j).trans ?_
      rw [hh x0 0 ⟨l.val, h⟩ (Nat.zero_add _), hh x1 0 ⟨l.val, h⟩ (Nat.zero_add _), hh x2 0 ⟨l.val, h⟩ (Nat.zero_add _),
        hh x4 0 ⟨l.val, h⟩ (Nat.zero_add _), hh x5 0 ⟨l.val, h⟩ (Nat.zero_add _)]
      refine congrArg (fun u => mix _ _ _ u _ _ _ _ _ j) (funext fun k => ?_)
      refine congr (congrArg (fun z : Fin 2 => numOf (x3 (ix4 0 z ⟨l.val % 128, Nat.mod_lt _ (by decide)⟩ k))) (Fin.ext ?_)) ?_
      · show 0 % 2 = l.val / 256; omega
      · show l.val / 128 = l.val / 128 % 2; omega
    rw [hm, ← congrFun hm i]
  · refine (below_at1 _ _ (ix3 0 l e) (ix3 0 ⟨l.val - 256, by omega⟩ e) (show l.val = 256 + (l.val - 256) by omega) rfl).trans ((finB_at _ _ _ _ _ _ _ _ _).trans ?_)
    refine congrArg (fun z => norm (vec x15) (feed z (vec x12) (fun k j => x13 (ix2 k j)) (fun k j => x14 (ix2 k j))) e) (funext fun i => ?_)
    refine (congrArg (HAdd.hAdd _) (congrArg (fun z => times z (mat3 x7) i) (funext fun k => attB_at _ _ _ _ k))).trans ?_
    unfold attend
    have ho : 256 + (l.val - 256) = l.val := by omega
    have hm : rowOf (mixB x0 x1 x2 x3 x4 x5 x8 x9 x10) ⟨l.val - 256, by omega⟩ = mix (fun k => x0 (ix3 0 l k)) (fun k => x1 (ix3 0 l k)) (fun k => x2 (ix3 0 l k))
        (fun k => numOf (x3 (ix4 0 ⟨l.val / 256, by omega⟩ ⟨l.val % 128, Nat.mod_lt _ (by decide)⟩ k)) (l.val / 128 % 2))
        (fun k => x4 (ix3 0 l k)) (fun k => x5 (ix3 0 l k)) (mat x8) (mat x9) (mat x10) := by
      funext j
      refine (mixB_at x0 x1 x2 x3 x4 x5 x8 x9 x10 ⟨l.val - 256, by omega⟩ j).trans ?_
      rw [hh x0 256 ⟨l.val - 256, by omega⟩ ho, hh x1 256 ⟨l.val - 256, by omega⟩ ho, hh x2 256 ⟨l.val - 256, by omega⟩ ho,
        hh x4 256 ⟨l.val - 256, by omega⟩ ho, hh x5 256 ⟨l.val - 256, by omega⟩ ho]
      refine congrArg (fun u => mix _ _ _ u _ _ _ _ _ j) (funext fun k => ?_)
      have e1 : (⟨1 % 2, Nat.mod_lt _ (by decide)⟩ : Fin 2) = ⟨l.val / 256, by omega⟩ := Fin.ext (by simp only; omega)
      have e2 : (⟨(l.val - 256) % 128, Nat.mod_lt _ (by decide)⟩ : Fin 128) = ⟨l.val % 128, Nat.mod_lt _ (by decide)⟩ := Fin.ext (by simp only; omega)
      have e3 : (l.val - 256) / 128 = l.val / 128 % 2 := by omega
      show numOf (x3 (ix4 0 ⟨1 % 2, _⟩ ⟨(l.val - 256) % 128, _⟩ k)) ((l.val - 256) / 128) = _
      rw [e3, e1, e2]
    rw [hm, ← congrFun hm i]

variable (m : (ℓ : Loc nD τ sig) → Buf (Elt Ideal) ℓ) (c : Dev nD)

theorem t_lt (t : Fin cfg0.N) : t.val < 64 := lt_of_lt_of_eq t.isLt (show cfg0.N = 64 from N_0)

theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 0, 0]
    ∧ win0_4.index t = ![t.val / 32, t.val % 32, 0] ∧ win0_5.index t = ![t.val / 32, t.val % 32, 0]
    ∧ win0_6.index t = ![t.val / 32, 0, 0] ∧ win0_7.index t = ![t.val / 32, 0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![t.val / 32, t.val % 32, 0] :=
  (by decide +kernel : ∀ t : Fin grid0.N, _)

theorem flushes : ∀ t : Fin cfg0.N, (cfg0.win 16).flush t = true := (by decide +kernel : ∀ t : Fin grid0.N, win0_16.flush t = true)

/-- The arguments, as arrays. -/
def A0 : Vec Ideal S2x16384x1024 .f32 := m ((c.tc : Thread nD τ).loc main_arg0)
def A1 : Vec Ideal S2x16384x1024 .bf16 := m ((c.tc : Thread nD τ).loc main_arg1)
def A2 : Vec Ideal S2x16384x1024 .bf16 := m ((c.tc : Thread nD τ).loc main_arg2)
def A3 : Vec Ideal S2x64x128x1024 .i32 := m ((c.tc : Thread nD τ).loc main_arg3)
def A4 : Vec Ideal S2x16384x1024 .bf16 := m ((c.tc : Thread nD τ).loc main_arg4)
def A5 : Vec Ideal S2x16384x1024 .bf16 := m ((c.tc : Thread nD τ).loc main_arg5)
def A6 : Vec Ideal S2x1024x1024 .bf16 := m ((c.tc : Thread nD τ).loc main_arg6)
def A7 : Vec Ideal S2x1024x1024 .bf16 := m ((c.tc : Thread nD τ).loc main_arg7)
def A8 : Vec Ideal S1024x1024 .bf16 := m ((c.tc : Thread nD τ).loc main_arg8)
def A9 : Vec Ideal S1024x1024 .bf16 := m ((c.tc : Thread nD τ).loc main_arg9)
def A10 : Vec Ideal S1024x1024 .bf16 := m ((c.tc : Thread nD τ).loc main_arg10)
def A11 : Vec Ideal S1x1024 .f32 := m ((c.tc : Thread nD τ).loc main_arg11)
def A12 : Vec Ideal S1x1024 .f32 := m ((c.tc : Thread nD τ).loc main_arg12)
def A13 : Vec Ideal S1024x4096 .bf16 := m ((c.tc : Thread nD τ).loc main_arg13)
def A14 : Vec Ideal S4096x1024 .bf16 := m ((c.tc : Thread nD τ).loc main_arg14)
def A15 : Vec Ideal S1x1024 .f32 := m ((c.tc : Thread nD τ).loc main_arg15)

theorem blk0 (t : Fin cfg0.N) (l : Fin 512) (k : Fin 1024) : iblk m c 0 t (ix3 0 l k)
    = A0 m c (ix3 ⟨t.val / 32, by have := t_lt t; omega⟩ ⟨512 * (t.val % 32) + l.val, by omega⟩ k) := by
  obtain ⟨e0, e1, e2, e3, e4, e5, e6, e7, e8, e9, e10, e11, e12, e13, e14, e15, e16⟩ := idx t
  simp only [A0]
  blk_ext [iblk, V, e0]

theorem blk1 (t : Fin cfg0.N) (l : Fin 512) (k : Fin 1024) : iblk m c 1 t (ix3 0 l k)
    = A1 m c (ix3 ⟨t.val / 32, by have := t_lt t; omega⟩ ⟨512 * (t.val % 32) + l.val, by omega⟩ k) := by
  obtain ⟨e0, e1, e2, e3, e4, e5, e6, e7, e8, e9, e10, e11, e12, e13, e14, e15, e16⟩ := idx t
  simp only [A1]
  blk_ext [iblk, V, e1]

theorem blk2 (t : Fin cfg0.N) (l : Fin 512) (k : Fin 1024) : iblk m c 2 t (ix3 0 l k)
    = A2 m c (ix3 ⟨t.val / 32, by have := t_lt t; omega⟩ ⟨512 * (t.val % 32) + l.val, by omega⟩ k) := by
  obtain ⟨e0, e1, e2, e3, e4, e5, e6, e7, e8, e9, e10, e11, e12, e13, e14, e15, e16⟩ := idx t
  simp only [A2]
  blk_ext [iblk, V, e2]

theorem blk4 (t : Fin cfg0.N) (l : Fin 512) (k : Fin 1024) : iblk m c 4 t (ix3 0 l k)
    = A4 m c (ix3 ⟨t.val / 32, by have := t_lt t; omega⟩ ⟨512 * (t.val % 32) + l.val, by omega⟩ k) := by
  obtain ⟨e0, e1, e2, e3, e4, e5, e6, e7, e8, e9, e10, e11, e12, e13, e14, e15, e16⟩ := idx t
  simp only [A4]
  blk_ext [iblk, V, e4]

theorem blk5 (t : Fin cfg0.N) (l : Fin 512) (k : Fin 1024) : iblk m c 5 t (ix3 0 l k)
    = A5 m c (ix3 ⟨t.val / 32, by have := t_lt t; omega⟩ ⟨512 * (t.val % 32) + l.val, by omega⟩ k) := by
  obtain ⟨e0, e1, e2, e3, e4, e5, e6, e7, e8, e9, e10, e11, e12, e13, e14, e15, e16⟩ := idx t
  simp only [A5]
  blk_ext [iblk, V, e5]

theorem blk3 (t : Fin cfg0.N) (a : Fin 2) (r : Fin 128) (k : Fin 1024) : iblk m c 3 t (ix4 0 a r k)
    = A3 m c (ix4 ⟨t.val / 32, by have := t_lt t; omega⟩ ⟨2 * (t.val % 32) + a.val, by omega⟩ r k) := by
  obtain ⟨e0, e1, e2, e3, e4, e5, e6, e7, e8, e9, e10, e11, e12, e13, e14, e15, e16⟩ := idx t
  simp only [A3]
  blk_ext [iblk, V, e3]

theorem blk6 (t : Fin cfg0.N) (a b : Fin 1024) : iblk m c 6 t (ix3 0 a b)
    = A6 m c (ix3 ⟨t.val / 32, by have := t_lt t; omega⟩ a b) := by
  obtain ⟨e0, e1, e2, e3, e4, e5, e6, e7, e8, e9, e10, e11, e12, e13, e14, e15, e16⟩ := idx t
  simp only [A6]
  blk_ext [iblk, V, e6]

theorem blk7 (t : Fin cfg0.N) (a b : Fin 1024) : iblk m c 7 t (ix3 0 a b)
    = A7 m c (ix3 ⟨t.val / 32, by have := t_lt t; omega⟩ a b) := by
  obtain ⟨e0, e1, e2, e3, e4, e5, e6, e7, e8, e9, e10, e11, e12, e13, e14, e15, e16⟩ := idx t
  simp only [A7]
  blk_ext [iblk, V, e7]

theorem blk8 (t : Fin cfg0.N) : iblk m c 8 t = A8 m c := by
  obtain ⟨e0, e1, e2, e3, e4, e5, e6, e7, e8, e9, e10, e11, e12, e13, e14, e15, e16⟩ := idx t
  funext y
  simp only [A8]
  blk_ext [iblk, V, e8]

theorem blk9 (t : Fin cfg0.N) : iblk m c 9 t = A9 m c := by
  obtain ⟨e0, e1, e2, e3, e4, e5, e6, e7, e8, e9, e10, e11, e12, e13, e14, e15, e16⟩ := idx t
  funext y
  simp only [A9]
  blk_ext [iblk, V, e9]

theorem blk10 (t : Fin cfg0.N) : iblk m c 10 t = A10 m c := by
  obtain ⟨e0, e1, e2, e3, e4, e5, e6, e7, e8, e9, e10, e11, e12, e13, e14, e15, e16⟩ := idx t
  funext y
  simp only [A10]
  blk_ext [iblk, V, e10]

theorem blk11 (t : Fin cfg0.N) : iblk m c 11 t = A11 m c := by
  obtain ⟨e0, e1, e2, e3, e4, e5, e6, e7, e8, e9, e10, e11, e12, e13, e14, e15, e16⟩ := idx t
  funext y
  simp only [A11]
  blk_ext [iblk, V, e11]

theorem blk12 (t : Fin cfg0.N) : iblk m c 12 t = A12 m c := by
  obtain ⟨e0, e1, e2, e3, e4, e5, e6, e7, e8, e9, e10, e11, e12, e13, e14, e15, e16⟩ := idx t
  funext y
  simp only [A12]
  blk_ext [iblk, V, e12]

theorem blk13 (t : Fin cfg0.N) : iblk m c 13 t = A13 m c := by
  obtain ⟨e0, e1, e2, e3, e4, e5, e6, e7, e8, e9, e10, e11, e12, e13, e14, e15, e16⟩ := idx t
  funext y
  simp only [A13]
  blk_ext [iblk, V, e13]

theorem blk14 (t : Fin cfg0.N) : iblk m c 14 t = A14 m c := by
  obtain ⟨e0, e1, e2, e3, e4, e5, e6, e7, e8, e9, e10, e11, e12, e13, e14, e15, e16⟩ := idx t
  funext y
  simp only [A14]
  blk_ext [iblk, V, e14]

theorem blk15 (t : Fin cfg0.N) : iblk m c 15 t = A15 m c := by
  obtain ⟨e0, e1, e2, e3, e4, e5, e6, e7, e8, e9, e10, e11, e12, e13, e14, e15, e16⟩ := idx t
  funext y
  simp only [A15]
  blk_ext [iblk, V, e15]

/-- The layer's end on token `n` of batch `b`, as the arithmetic of its rows. -/
def tokenOut (x0 : Vec Ideal S2x16384x1024 .f32) (x1 : Vec Ideal S2x16384x1024 .bf16) (x2 : Vec Ideal S2x16384x1024 .bf16) (x3 : Vec Ideal S2x64x128x1024 .i32) (x4 : Vec Ideal S2x16384x1024 .bf16) (x5 : Vec Ideal S2x16384x1024 .bf16) (x6 : Vec Ideal S2x1024x1024 .bf16) (x7 : Vec Ideal S2x1024x1024 .bf16) (x8 : Vec Ideal S1024x1024 .bf16) (x9 : Vec Ideal S1024x1024 .bf16) (x10 : Vec Ideal S1024x1024 .bf16) (x11 : Vec Ideal S1x1024 .f32) (x12 : Vec Ideal S1x1024 .f32) (x13 : Vec Ideal S1024x4096 .bf16) (x14 : Vec Ideal S4096x1024 .bf16) (x15 : Vec Ideal S1x1024 .f32) (b : Fin 2) (n : Fin 16384) : Fin 1024 → EReal :=
  norm (fun k => x15 (ix2 0 k)) (feed (attend (mix (fun k => x0 (ix3 b n k)) (fun k => x1 (ix3 b n k)) (fun k => x2 (ix3 b n k))
      (fun k => numOf (x3 (ix4 b ⟨n.val / 256, by omega⟩ ⟨n.val % 128, Nat.mod_lt _ (by decide)⟩ k)) (n.val / 128 % 2))
      (fun k => x4 (ix3 b n k)) (fun k => x5 (ix3 b n k)) (fun k e => x8 (ix2 k e)) (fun k e => x9 (ix2 k e)) (fun k e => x10 (ix2 k e)))
      (fun k => x11 (ix2 0 k)) (fun k e => x6 (ix3 b k e)) (fun k e => x7 (ix3 b k e))) (fun k => x12 (ix2 0 k))
      (fun k j => x13 (ix2 k j)) (fun k j => x14 (ix2 k j)))

/-- The kernel's result, read at an index. -/
theorem out_at (b : Fin 2) (n : Fin 16384) (e : Fin 1024) : (dats m 0 c).arrAt 16 cfg0.N (ix3 b n e)
    = tokenOut (A0 m c) (A1 m c) (A2 m c) (A3 m c) (A4 m c) (A5 m c) (A6 m c) (A7 m c) (A8 m c) (A9 m c) (A10 m c) (A11 m c) (A12 m c) (A13 m c) (A14 m c) (A15 m c) b n e := by
  have ht : b.val * 32 + n.val / 512 < 64 := by omega
  obtain ⟨t, tv⟩ : ∃ t : Fin cfg0.N, t.val = b.val * 32 + n.val / 512 := ⟨⟨b.val * 32 + n.val / 512, lt_of_lt_of_eq ht N_0.symm⟩, rfl⟩
  have h := congrFun (Value.blocks16 m c t (flushes t)) (ix3 0 ⟨n.val % 512, Nat.mod_lt _ (by decide)⟩ e)
  rw [Value.flushed16_A, out0_A_16_eq] at h
  obtain ⟨e0, e1, e2, e3, e4, e5, e6, e7, e8, e9, e10, e11, e12, e13, e14, e15, e16⟩ := idx t
  have hp : ((cfg0.win 16).blk t).view.emb (ix3 0 ⟨n.val % 512, Nat.mod_lt _ (by decide)⟩ e) = ix3 b n e := by
    blk_ext [e16]
  have hL : ((cfg0.win 16).blk t).view.read (Elt Ideal) ((dats m 0 c).arrAt 16 cfg0.N) (ix3 0 ⟨n.val % 512, Nat.mod_lt _ (by decide)⟩ e)
      = (dats m 0 c).arrAt 16 cfg0.N (ix3 b n e) := congrArg ((dats m 0 c).arrAt 16 cfg0.N) hp
  rw [hL] at h
  refine h.trans ?_
  refine (tailOut_at _ _ _ _ _ _ _ _ _ _ _ _ _ _ _ _ ⟨n.val % 512, Nat.mod_lt _ (by decide)⟩ e).trans ?_
  rw [blk8, blk9, blk10, blk11, blk12, blk13, blk14, blk15]
  simp only [blk0, blk1, blk2, blk3, blk4, blk5]
  unfold tokenOut vec mat mat3
  simp only [blk6, blk7]
  have eb : (⟨t.val / 32, by omega⟩ : Fin 2) = b := Fin.ext (by simp only; omega)
  have en : (⟨512 * (t.val % 32) + n.val % 512, by omega⟩ : Fin 16384) = n := Fin.ext (by simp only; omega)
  have ew : (⟨2 * (t.val % 32) + n.val % 512 / 256, by omega⟩ : Fin 64) = ⟨n.val / 256, by omega⟩ := Fin.ext (by simp only; omega)
  have er : (⟨n.val % 512 % 128, Nat.mod_lt _ (by decide)⟩ : Fin 128) = ⟨n.val % 128, Nat.mod_lt _ (by decide)⟩ := Fin.ext (by simp only; omega)
  have eh : n.val % 512 / 128 % 2 = n.val / 128 % 2 := by omega
  simp only [eb, en, ew, er, eh]

end Cert.TailIdeal.Tail
end
-- ==== Proof.TailRef.lean ====
/-
What the reference of the last kernel computes, read at an index: the same arithmetic on a token.
-/
module

public import proofs.«01_k».proof.Proof.Gen.ReferenceTailIdeal.Run
public import proofs.«01_k».proof.Proof.TailPoints
public import Idealize.ShloMosaic.Lib.Pointwise
public import Idealize.ShloMosaic.Lib.BitcastConvert

@[expose] public section

set_option maxRecDepth 16384

noncomputable section

namespace Cert.ReferenceTailIdeal.Tail

open Cert.ReferenceTailIdeal Cert.ReferenceTailIdeal.Gen Cert.ReferenceTailIdeal.Value Idealize.ShloMosaic Idealize.ShloMosaic.TcCoe Idealize.SL.Sem Cert.TailRow

/-- Each head's greatest logit. -/
def maxV (x : FVec Ideal S2x16384x4x256 .f32) : FVec Ideal S2x16384x4 .f32 :=
  (Host.reduce FloatOps.maximumf x (constant S_ .f32 0xFF800000#32) reducesTo_S2x16384x4x256_S2x16384x4_d3 h_S_)

theorem maxV_at (x : FVec Ideal S2x16384x4x256 .f32) (b : Fin 2) (n : Fin 16384) (h : Fin 4) :
    maxV x (ix3 b n h) = Finset.fold max bottom (fun k => x (ix4 b n h k)) Finset.univ := by
  unfold maxV
  have hr : S2x16384x4x256.Reduces [3] S2x16384x4 := by decide
  rw [Host.reduce_eq_fold_single FloatOps.maximumf x _ reducesTo_S2x16384x4x256_S2x16384x4_d3 hr h_S_]
  have e : x ∘ hr.lift (ix3 b n h) = fun k : Fin 256 => x (ix4 b n h k) := by
    funext k
    refine congrArg x (funext fun a => Fin.ext ?_)
    match a with
    | 0 => rfl
    | 1 => rfl
    | 2 => rfl
    | 3 => rfl
  exact congrArg (fun f => Finset.fold max bottom f Finset.univ) e

/-- The exponentials of the softmax, of the logits by heads. -/
def expV (x : FVec Ideal S2x16384x4x256 .f32) (M : FVec Ideal S2x16384x4 .f32) : FVec Ideal S2x16384x4x256 .f32 :=
  Host.exp (subf x (broadcastInDim S2x16384x4x256 ![0, 1, 2, 3] bcast_S2x16384x4x1_S2x16384x4x256_0_1_2_3 (broadcastInDim S2x16384x4x1 ![0, 1, 2] bcast_S2x16384x4_S2x16384x4x1_0_1_2 (maximumf (broadcastInDim S2x16384x4 ![] bcast_S_S2x16384x4 (constant S_ .f32 0xFF800000#32)) M))))

theorem expV_at (x : FVec Ideal S2x16384x4x256 .f32) (M : FVec Ideal S2x16384x4 .f32) (b : Fin 2) (n : Fin 16384) (h : Fin 4) (j : Fin 256) :
    expV x M (ix4 b n h j) = Ideal.exp (x (ix4 b n h j) - max bottom (M (ix3 b n h))) := by
  pointwise [expV]
  rfl

theorem max_bottom (f : Fin 256 → EReal) : max bottom (Finset.fold max bottom f Finset.univ) = Finset.fold max bottom f Finset.univ :=
  max_eq_right ((Finset.le_fold_max bottom).2 (Or.inl le_rfl))

theorem drop_at (b : Fin 2) (p : Fin 64) (r : Fin 128) (k : Fin 1024) (q : Fin 2) :
    splits_S2x64x128x1024_w32_S2x64x128x1024x2_w16.drop (ix5 b p r k q) = ix4 b p r k := by
  funext a
  match a with
  | 0 => rfl
  | 1 => rfl
  | 2 => rfl
  | 3 => rfl

theorem div_logistic (x : EReal) : Ideal.div 1 (1 + Ideal.exp (-x)) = Ideal.logistic x := rfl

variable (V0 : Valuation τ sig (Elt Ideal))

/-- The arguments, as arrays. -/
def B0 : Vec Ideal S2x16384x1024 .f32 := V0 (Proc.devRef .tc main_arg0)
def B1 : Vec Ideal S2x16384x1024 .bf16 := V0 (Proc.devRef .tc main_arg1)
def B2 : Vec Ideal S2x16384x1024 .bf16 := V0 (Proc.devRef .tc main_arg2)
def B3 : Vec Ideal S2x64x128x1024 .i32 := V0 (Proc.devRef .tc main_arg3)
def B4 : Vec Ideal S2x16384x1024 .bf16 := V0 (Proc.devRef .tc main_arg4)
def B5 : Vec Ideal S2x16384x1024 .bf16 := V0 (Proc.devRef .tc main_arg5)
def B6 : Vec Ideal S2x1024x1024 .bf16 := V0 (Proc.devRef .tc main_arg6)
def B7 : Vec Ideal S2x1024x1024 .bf16 := V0 (Proc.devRef .tc main_arg7)
def B8 : Vec Ideal S1024x1024 .bf16 := V0 (Proc.devRef .tc main_arg8)
def B9 : Vec Ideal S1024x1024 .bf16 := V0 (Proc.devRef .tc main_arg9)
def B10 : Vec Ideal S1024x1024 .bf16 := V0 (Proc.devRef .tc main_arg10)
def B11 : Vec Ideal S1x1024 .f32 := V0 (Proc.devRef .tc main_arg11)
def B12 : Vec Ideal S1x1024 .f32 := V0 (Proc.devRef .tc main_arg12)
def B13 : Vec Ideal S1024x4096 .bf16 := V0 (Proc.devRef .tc main_arg13)
def B14 : Vec Ideal S4096x1024 .bf16 := V0 (Proc.devRef .tc main_arg14)
def B15 : Vec Ideal S1x1024 .f32 := V0 (Proc.devRef .tc main_arg15)

/-- A token after the mixing. -/
abbrev mixed (b : Fin 2) (n : Fin 16384) : Fin 1024 → EReal :=
  mix (fun k => B0 V0 (ix3 b n k)) (fun k => B1 V0 (ix3 b n k)) (fun k => B2 V0 (ix3 b n k))
      (fun k => Cert.TailIdeal.Tail.numOf (B3 V0 (ix4 b ⟨n.val / 256, by omega⟩ ⟨n.val % 128, Nat.mod_lt _ (by decide)⟩ k)) (n.val / 128 % 2))
      (fun k => B4 V0 (ix3 b n k)) (fun k => B5 V0 (ix3 b n k)) (fun k e => B8 V0 (ix2 k e)) (fun k e => B9 V0 (ix2 k e)) (fun k e => B10 V0 (ix2 k e))

theorem v35_at (b : Fin 2) (n : Fin 16384) (e : Fin 1024) : res_main_v35 V0 (ix3 b n e) = mixed V0 b n e := by
  pointwise [res_main_v35, res_main_v4]
  simp only [drop_at, div_logistic]
  rfl

theorem v50_at (b : Fin 2) (n : Fin 16384) (h : Fin 4) (j : Fin 256) : res_main_v50 V0 (ix4 b n h j)
    = times (norm (fun k => B11 V0 (ix2 0 k)) (mixed V0 b n)) (fun k e => B6 V0 (ix3 b k e)) ⟨h.val * 256 + j.val, by omega⟩ := by
  pointwise [res_main_v50]
  simp only [v35_at]
  rfl

theorem v57_eq : res_main_v57 V0 = expV (res_main_v50 V0) (maxV (res_main_v50 V0)) := rfl

theorem v57_at (b : Fin 2) (n : Fin 16384) (h : Fin 4) (j : Fin 256) (l : Fin 1024 → EReal)
    (hl : l = times (norm (fun k => B11 V0 (ix2 0 k)) (mixed V0 b n)) (fun k e => B6 V0 (ix3 b k e))) : res_main_v57 V0 (ix4 b n h j)
    = Ideal.exp (l ⟨h.val * 256 + j.val, by omega⟩ - Finset.fold max bottom (fun k : Fin 256 => l ⟨h.val * 256 + k.val, by omega⟩) Finset.univ) := by
  subst hl
  rw [v57_eq, expV_at, maxV_at, max_bottom]
  simp only [v50_at]

/-- A token after the attention. -/
abbrev attended (b : Fin 2) (n : Fin 16384) : Fin 1024 → EReal :=
  attend (mixed V0 b n) (fun k => B11 V0 (ix2 0 k)) (fun k e => B6 V0 (ix3 b k e)) (fun k e => B7 V0 (ix3 b k e))

theorem v64_at (b : Fin 2) (n : Fin 16384) (e : Fin 1024) : res_main_v64 V0 (ix3 b n e) = attended V0 b n e := by
  pointwise [res_main_v64]
  simp only [v35_at, v57_at V0 b n _ _ _ rfl]
  unfold attended attend
  refine congrArg (HAdd.hAdd _) (Finset.sum_congr rfl fun k _ => congrArg (· * _) ?_)
  unfold probs soft
  simp only [Nat.mul_comm 256]

theorem v79_at (b : Fin 2) (n : Fin 16384) (k : Fin 4096) : res_main_v79 V0 (ix3 b n k)
    = max (times (norm (fun k => B12 V0 (ix2 0 k)) (attended V0 b n)) (fun k e => B13 V0 (ix2 k e)) k) 0 := by
  pointwise [res_main_v79]
  simp only [v64_at]
  rfl

theorem v82_at (b : Fin 2) (n : Fin 16384) (e : Fin 1024) : res_main_v82 V0 (ix3 b n e)
    = feed (attended V0 b n) (fun k => B12 V0 (ix2 0 k)) (fun k e => B13 V0 (ix2 k e)) (fun k e => B14 V0 (ix2 k e)) e := by
  pointwise [res_main_v82]
  simp only [v64_at, v79_at]
  rfl

/-- The reference's result. -/
def result : FVec Ideal S2x16384x1024 .f32 :=
  mulf (mulf (res_main_v82 V0) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (res_main_v82 V0) (res_main_v82 V0)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![1, 2] bcast_S1x1024_S1x1x1024_1_2 (V0 (Proc.devRef .tc main_arg15))))

theorem result_at (b : Fin 2) (n : Fin 16384) (e : Fin 1024) : result V0 (ix3 b n e)
    = Cert.TailIdeal.Tail.tokenOut (B0 V0) (B1 V0) (B2 V0) (B3 V0) (B4 V0) (B5 V0) (B6 V0) (B7 V0) (B8 V0) (B9 V0) (B10 V0) (B11 V0) (B12 V0) (B13 V0) (B14 V0) (B15 V0) b n e := by
  pointwise [result]
  simp only [v82_at]
  rfl

end Cert.ReferenceTailIdeal.Tail
end
-- ==== Proof.InBlocks.lean ====
/-
The vocabulary of the projection kernel's body, for any floats.  A block of 512 tokens is worked on as two
halves of 256.  Of each half come seven projections of the normed rows; the first two are rotated head by
head, and the fifth is written to a scratch array with a stride of two rows.
-/
module

public import proofs.«01_k».proof.Proof.Gen.InProjIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InProjIdeal.Inp

open Cert.InProjIdeal Cert.InProjIdeal.Gen Idealize.ShloMosaic Idealize.ShloMosaic.TcCoe Idealize.SL.Sem

variable {F : FTy → Type} [FloatOps F]

/-- The 256 tokens of a block that begin at token `o`. -/
def half {φ : EltTy} (x : Vec F S1x512x1024 φ) (o : ℕ) : Vec F S1x256x1024 φ :=
  fun l => x (ix3 0 ⟨(o + (l 1).val) % 512, Nat.mod_lt _ (by decide)⟩ (l 2))

/-- 1024 of the 7168 columns of the weights, and 256 rows of a rotary table. -/
def colsOf (x : Vec F S1024x7168 .bf16) (o : ℕ) : Vec F S1024x1024 .bf16 :=
  fun l => x (ix2 (l 0) ⟨(o + (l 1).val) % 7168, Nat.mod_lt _ (by decide)⟩)
def tab (x : Vec F S512x128 .f32) (o : ℕ) : Vec F S256x128 .f32 :=
  fun l => x (ix2 ⟨(o + (l 0).val) % 512, Nat.mod_lt _ (by decide)⟩ (l 1))

/-- The 256 by 256 tile of a block at row `r` and column `o`. -/
def tile (x : Vec F S1x512x1024 .bf16) (r o : ℕ) : Vec F S1x256x256 .bf16 :=
  fun l => x (ix3 0 ⟨(r + (l 1).val) % 512, Nat.mod_lt _ (by decide)⟩ ⟨(o + (l 2).val) % 1024, Nat.mod_lt _ (by decide)⟩)

/-- Head `h`'s slab of a scratch array, and its row of the last one. -/
def slab {φ : EltTy} (x : Vec F S4x256x256 φ) (h : ℕ) : Vec F S1x256x256 φ :=
  fun l => x (ix3 ⟨h % 4, Nat.mod_lt _ (by decide)⟩ (l 1) (l 2))
def row {φ : EltTy} (x : Vec F S4x1x256 φ) (h : ℕ) : Vec F S1x1x256 φ :=
  fun l => x (ix3 ⟨h % 4, Nat.mod_lt _ (by decide)⟩ (l 1) (l 2))

/-- Head `h`'s decay parameter. -/
def par (x : Vec F S4 .f32) (h : ℕ) : Elt F .f32 := x (ix1 ⟨h % 4, Nat.mod_lt _ (by decide)⟩)

theorem ld_half {φ : EltTy} (x : Vec F S1x512x1024 φ) (o : ℕ) (inb) :
    View.ld x (Rect.unit ![0, o, 0] ![1, 256, 1024] inb) = half x o := by
  funext l
  refine View.ld_unit_apply_of x _ _ _ l _ fun a => ?_
  have h1 : o + 256 ≤ 512 := by simpa using inb 1
  have l0 : (l 0).val < 1 := (l 0).isLt
  have l1 : (l 1).val < 256 := (l 1).isLt
  match a with
  | 0 => show 0 = 0 + (l 0).val; omega
  | 1 => show (o + (l 1).val) % 512 = o + (l 1).val; omega
  | 2 => show (l 2).val = 0 + (l 2).val; omega

theorem ld_colsOf (x : Vec F S1024x7168 .bf16) (o : ℕ) (inb) :
    View.ld x (Rect.unit ![0, o] ![1024, 1024] inb) = colsOf x o := by
  funext l
  refine View.ld_unit_apply_of x _ _ _ l _ fun a => ?_
  have h1 : o + 1024 ≤ 7168 := by simpa using inb 1
  have l1 : (l 1).val < 1024 := (l 1).isLt
  match a with
  | 0 => show (l 0).val = 0 + (l 0).val; omega
  | 1 => show (o + (l 1).val) % 7168 = o + (l 1).val; omega

theorem ld_tab (x : Vec F S512x128 .f32) (o : ℕ) (inb) :
    View.ld x (Rect.unit ![o, 0] ![256, 128] inb) = tab x o := by
  funext l
  refine View.ld_unit_apply_of x _ _ _ l _ fun a => ?_
  have h1 : o + 256 ≤ 512 := by simpa using inb 0
  have l1 : (l 0).val < 256 := (l 0).isLt
  match a with
  | 0 => show (o + (l 0).val) % 512 = o + (l 0).val; omega
  | 1 => show (l 1).val = 0 + (l 1).val; omega

theorem ld_slab {φ : EltTy} (x : Vec F S4x256x256 φ) (h : ℕ) (inb) :
    View.ld x (Rect.unit ![h, 0, 0] ![1, 256, 256] inb) = slab x h := by
  funext l
  refine View.ld_unit_apply_of x _ _ _ l _ fun a => ?_
  have h1 : h + 1 ≤ 4 := by simpa using inb 0
  have l0 : (l 0).val < 1 := (l 0).isLt
  match a with
  | 0 => show h % 4 = h + (l 0).val; omega
  | 1 => show (l 1).val = 0 + (l 1).val; omega
  | 2 => show (l 2).val = 0 + (l 2).val; omega

theorem ld_row {φ : EltTy} (x : Vec F S4x1x256 φ) (h : ℕ) (inb) :
    View.ld x (Rect.unit ![h, 0, 0] ![1, 1, 256] inb) = row x h := by
  funext l
  refine View.ld_unit_apply_of x _ _ _ l _ fun a => ?_
  have h1 : h + 1 ≤ 4 := by simpa using inb 0
  have l0 : (l 0).val < 1 := (l 0).isLt
  match a with
  | 0 => show h % 4 = h + (l 0).val; omega
  | 1 => show (l 1).val = 0 + (l 1).val; omega
  | 2 => show (l 2).val = 0 + (l 2).val; omega

theorem ld_par (x : Vec F S4 .f32) (h : ℕ) (inb) (l : (Rect.unit (s := S4) ![h] ![1] inb).shape.Idx) :
    View.ld x (Rect.unit ![h] ![1] inb) l = par x h := by
  refine View.ld_unit_apply_of x _ _ _ l _ fun a => ?_
  have h1 : h + 1 ≤ 4 := by simpa using inb 0
  have l0 : (l 0).val < 1 := (l 0).isLt
  match a with
  | 0 => show h % 4 = h + (l 0).val; omega

theorem ld_par_first (x : Vec F S4 .f32) (h : ℕ) (inb) (l : (Rect.unit (s := S4) ![h] ![1] inb).toLoadRect.shape.Idx) :
    View.ld x (Rect.unit ![h] ![1] inb) l = par x h := ld_par x h inb _

/-- The normed rows of a half, and a projection of them. -/
def xbV (x : Vec F S1x256x1024 .f32) (w : Vec F S1x1024 .f32) : FVec F S256x1024 .bf16 := k0_pay16 x w
def projV (xb : FVec F S256x1024 .bf16) (w : Vec F S1024x1024 .bf16) : FVec F S256x1024 .f32 := k0_pay19 xb w

/-- 128 columns of a projection, and a head's two rotated halves. -/
def lanes (p : FVec F S256x1024 .f32) (o : ℕ) : FVec F S256x128 .f32 :=
  fun l => p (ix2 (l 0) ⟨(o + (l 1).val) % 1024, Nat.mod_lt _ (by decide)⟩)
def rotLo (p : FVec F S256x1024 .f32) (C S : Vec F S256x128 .f32) (o : ℕ) : FVec F S256x128 .f32 :=
  subf (mulf (lanes p o) C) (mulf (lanes p (o + 128)) S)
def rotHi (p : FVec F S256x1024 .f32) (C S : Vec F S256x128 .f32) (o : ℕ) : FVec F S256x128 .f32 :=
  addf (mulf (lanes p (o + 128)) C) (mulf (lanes p o) S)
/-- Queries are scaled besides. -/
def scaled (e : FVec F S256x128 .f32) : FVec F S256x128 .f32 :=
  mulf e (broadcast S256x128 (Scalar.ofBits .f32 0x3D800000#32))

/-- Of two functions giving a head's two halves, the rounded row of all heads. -/
def joined (lo hi : ℕ → FVec F S256x128 .f32) : Vec F S256x1024 .bf16 := fun i =>
  if (i 1).val % 256 < 128 then
    truncf .bf16 (lo (256 * ((i 1).val / 256))) bitsLt_bf16_f32 (ix2 (i 0) ⟨(i 1).val % 128, Nat.mod_lt _ (by decide)⟩)
  else truncf .bf16 (hi (256 * ((i 1).val / 256))) bitsLt_bf16_f32 (ix2 (i 0) ⟨(i 1).val % 128, Nat.mod_lt _ (by decide)⟩)
def kHalf (p : FVec F S256x1024 .f32) (C S : Vec F S256x128 .f32) : Vec F S256x1024 .bf16 :=
  joined (rotLo p C S) (rotHi p C S)
def qHalf (p : FVec F S256x1024 .f32) (C S : Vec F S256x128 .f32) : Vec F S256x1024 .bf16 :=
  joined (fun o => scaled (rotLo p C S o)) (fun o => scaled (rotHi p C S o))
/-- A projection that is only rounded. -/
def plain (p : FVec F S256x1024 .f32) : Vec F S256x1024 .bf16 := truncf .bf16 p bitsLt_bf16_f32

/-- Two halves of a block, one below the other. -/
def both (f : ℕ → Vec F S256x1024 .bf16) : Vec F S1x512x1024 .bf16 := fun y =>
  f (256 * ((y 1).val / 256)) (ix2 ⟨(y 1).val % 256, Nat.mod_lt _ (by decide)⟩ (y 2))

theorem both_at (f : ℕ → Vec F S256x1024 .bf16) (y : S1x512x1024.Idx) (r : Fin 256) (c : Fin 1024) (o : ℕ) (ho : o % 256 = 0)
    (h1 : (y 1).val = o + r.val) (h2 : (y 2).val = c.val) : both f y = f o (ix2 r c) := by
  have hr := r.isLt
  have e : 256 * ((y 1).val / 256) = o := by omega
  simp only [both, e]
  congr 1
  funext a
  apply Fin.ext
  match a with
  | 0 => show (y 1).val % 256 = r.val; omega
  | 1 => exact h2

theorem slice_lanes (p : FVec F S256x1024 .f32) (o : ℕ) (h) : extractStridedSlice S256x128 ![0, o] p h = lanes p o := by
  funext l
  have hh : o + 128 ≤ 1024 := by obtain ⟨_, hf⟩ := h; simpa using hf 1
  have l1 : (l 1).val < 128 := (l 1).isLt
  simp only [extractStridedSlice, lanes]
  congr 1
  funext a
  apply Fin.ext
  match a with
  | 0 => show 0 + (l 0).val = (l 0).val; omega
  | 1 => show o + (l 1).val = (o + (l 1).val) % 1024; omega

theorem wrap_at (w : FVec F S256x128 .bf16) (h) (l : S1x256x128.Idx) : shapeCast S1x256x128 w h l = w (ix2 (l 1) (l 2)) := by
  pointwise

theorem wrapAll_at (w : FVec F S256x1024 .bf16) (h) (l : S1x256x1024.Idx) : shapeCast S1x256x1024 w h l = w (ix2 (l 1) (l 2)) := by
  pointwise

theorem joined_lo (lo hi : ℕ → FVec F S256x128 .f32) (r : Fin 256) (c : Fin 128) (C : Fin 1024) (o : ℕ) (ho : o % 256 = 0) (hC : C.val = o + c.val) :
    joined lo hi (ix2 r C) = truncf .bf16 (lo o) bitsLt_bf16_f32 (ix2 r c) := by
  have hc := c.isLt
  have e : 256 * (C.val / 256) = o := by omega
  have e' : (⟨C.val % 128, Nat.mod_lt _ (by decide)⟩ : Fin 128) = c := Fin.ext (by show C.val % 128 = c.val; omega)
  show (if C.val % 256 < 128 then _ else _) = _
  rw [if_pos (by omega)]
  show truncf .bf16 (lo (256 * (C.val / 256))) bitsLt_bf16_f32 (ix2 r ⟨C.val % 128, _⟩) = _
  rw [e, e']

theorem joined_hi (lo hi : ℕ → FVec F S256x128 .f32) (r : Fin 256) (c : Fin 128) (C : Fin 1024) (o : ℕ) (ho : o % 256 = 0) (hC : C.val = o + 128 + c.val) :
    joined lo hi (ix2 r C) = truncf .bf16 (hi o) bitsLt_bf16_f32 (ix2 r c) := by
  have hc := c.isLt
  have e : 256 * (C.val / 256) = o := by omega
  have e' : (⟨C.val % 128, Nat.mod_lt _ (by decide)⟩ : Fin 128) = c := Fin.ext (by show C.val % 128 = c.val; omega)
  show (if C.val % 256 < 128 then _ else _) = _
  rw [if_neg (by omega)]
  show truncf .bf16 (hi (256 * (C.val / 256))) bitsLt_bf16_f32 (ix2 r ⟨C.val % 128, _⟩) = _
  rw [e, e']

theorem k_lo (f : ℕ → Vec F S256x1024 .bf16) (p : FVec F S256x1024 .f32) (C S : Vec F S256x128 .f32) (o o' b : ℕ) (s s') (hs)
    (hf : f b = kHalf p C S) (ho' : o' = o + 128) (hb : b % 256 = 0) (ho : o % 256 = 0)
    (l : S1x256x128.Idx) (y : S1x512x1024.Idx) (h1 : (y 1).val = b + (l 1).val) (h2 : (y 2).val = o + (l 2).val) :
    shapeCast S1x256x128 (truncf .bf16 (subf (mulf (extractStridedSlice S256x128 ![0, o] p s) C) (mulf (extractStridedSlice S256x128 ![0, o'] p s') S)) bitsLt_bf16_f32) hs l
      = both f y := by
  have hy : (y 2).val < 1024 := (y 2).isLt
  refine (wrap_at _ _ _).trans ?_
  rw [both_at f y (l 1) (y 2) b hb h1 rfl, hf, kHalf, joined_lo _ _ (l 1) (l 2) (y 2) o ho h2, slice_lanes, slice_lanes, ho']
  rfl

theorem k_hi (f : ℕ → Vec F S256x1024 .bf16) (p : FVec F S256x1024 .f32) (C S : Vec F S256x128 .f32) (o o' b : ℕ) (s s') (hs)
    (hf : f b = kHalf p C S) (ho' : o' = o + 128) (hb : b % 256 = 0) (ho : o % 256 = 0)
    (l : S1x256x128.Idx) (y : S1x512x1024.Idx) (h1 : (y 1).val = b + (l 1).val) (h2 : (y 2).val = o + 128 + (l 2).val) :
    shapeCast S1x256x128 (truncf .bf16 (addf (mulf (extractStridedSlice S256x128 ![0, o'] p s') C) (mulf (extractStridedSlice S256x128 ![0, o] p s) S)) bitsLt_bf16_f32) hs l
      = both f y := by
  have hy : (y 2).val < 1024 := (y 2).isLt
  refine (wrap_at _ _ _).trans ?_
  rw [both_at f y (l 1) (y 2) b hb h1 rfl, hf, kHalf, joined_hi _ _ (l 1) (l 2) (y 2) o ho h2, slice_lanes, slice_lanes, ho']
  rfl

theorem q_lo (f : ℕ → Vec F S256x1024 .bf16) (p : FVec F S256x1024 .f32) (C S : Vec F S256x128 .f32) (o o' b : ℕ) (s s') (hs)
    (hf : f b = qHalf p C S) (ho' : o' = o + 128) (hb : b % 256 = 0) (ho : o % 256 = 0)
    (l : S1x256x128.Idx) (y : S1x512x1024.Idx) (h1 : (y 1).val = b + (l 1).val) (h2 : (y 2).val = o + (l 2).val) :
    shapeCast S1x256x128 (truncf .bf16 (scaled (subf (mulf (extractStridedSlice S256x128 ![0, o] p s) C) (mulf (extractStridedSlice S256x128 ![0, o'] p s') S))) bitsLt_bf16_f32) hs l
      = both f y := by
  have hy : (y 2).val < 1024 := (y 2).isLt
  refine (wrap_at _ _ _).trans ?_
  rw [both_at f y (l 1) (y 2) b hb h1 rfl, hf, qHalf, joined_lo _ _ (l 1) (l 2) (y 2) o ho h2, slice_lanes, slice_lanes, ho']
  rfl

theorem q_hi (f : ℕ → Vec F S256x1024 .bf16) (p : FVec F S256x1024 .f32) (C S : Vec F S256x128 .f32) (o o' b : ℕ) (s s') (hs)
    (hf : f b = qHalf p C S) (ho' : o' = o + 128) (hb : b % 256 = 0) (ho : o % 256 = 0)
    (l : S1x256x128.Idx) (y : S1x512x1024.Idx) (h1 : (y 1).val = b + (l 1).val) (h2 : (y 2).val = o + 128 + (l 2).val) :
    shapeCast S1x256x128 (truncf .bf16 (scaled (addf (mulf (extractStridedSlice S256x128 ![0, o'] p s') C) (mulf (extractStridedSlice S256x128 ![0, o] p s) S))) bitsLt_bf16_f32) hs l
      = both f y := by
  have hy : (y 2).val < 1024 := (y 2).isLt
  refine (wrap_at _ _ _).trans ?_
  rw [both_at f y (l 1) (y 2) b hb h1 rfl, hf, qHalf, joined_hi _ _ (l 1) (l 2) (y 2) o ho h2, slice_lanes, slice_lanes, ho']
  rfl

theorem plain_at (f : ℕ → Vec F S256x1024 .bf16) (p : FVec F S256x1024 .f32) (b : ℕ) (hs)
    (hf : f b = plain p) (hb : b % 256 = 0)
    (l : S1x256x1024.Idx) (y : S1x512x1024.Idx) (h1 : (y 1).val = b + (l 1).val) (h2 : (y 2).val = (l 2).val) :
    shapeCast S1x256x1024 (truncf .bf16 p bitsLt_bf16_f32) hs l = both f y := by
  refine (wrapAll_at _ _ _).trans ?_
  rw [both_at f y (l 1) (l 2) b hb h1 h2, hf]; rfl

/-- Reading back a tile that was written as two neighbouring pieces, or as part of one. -/
theorem read_two (v : View sig .tc .vmem S1x512x1024 .bf16) (g : Vec F S1x512x1024 .bf16) (o c c' : ℕ) (a b : Vec F S1x256x128 .bf16)
    (i0 i1 inb) (L : List (View.Piece (Elt F) S1x512x1024 .bf16)) (hc : c' = c + 128)
    (ha : ∀ (l : S1x256x128.Idx) (y : S1x512x1024.Idx), (y 1).val = o + (l 1).val → (y 2).val = c + (l 2).val → a l = g y)
    (hb : ∀ (l : S1x256x128.Idx) (y : S1x512x1024.Idx), (y 1).val = o + (l 1).val → (y 2).val = c + 128 + (l 2).val → b l = g y) :
    v.readCov (⟨Rect.unit (s := S1x512x1024) ![0, o, c'] ![1, 256, 128] i1, b⟩ :: ⟨Rect.unit (s := S1x512x1024) ![0, o, c] ![1, 256, 128] i0, a⟩ :: L)
      (Rect.unit (s := S1x512x1024) ![0, o, c] ![1, 256, 256] inb).toLoadRect = tile g o c := by
  subst hc
  rw [View.readCov_eq_canon']
  funext j
  have hh1 : o + 256 ≤ 512 := by simpa using inb 1
  have hh2 : c + 256 ≤ 1024 := by simpa using inb 2
  have j0 : (j 0).val < 1 := (j 0).isLt
  have j1 : (j 1).val < 256 := (j 1).isLt
  have j2 : (j 2).val < 256 := (j 2).isLt
  by_cases hj : (j 2).val < 128
  · rw [View.canon_cons_of_not_mem (⟨Rect.unit (s := S1x512x1024) ![0, o, c + 128] ![1, 256, 128] i1, b⟩ : View.Piece (Elt F) S1x512x1024 .bf16) _ fun hm => by
      have hm' := (Rect.mem_set_unit (inb := i1).1 hm) 2
      have e : c + 128 ≤ c + 1 * (j 2).val ∧ c + 1 * (j 2).val < c + 128 + 128 := hm'
      omega]
    have ee : (Rect.unit (s := S1x512x1024) ![0, o, c] ![1, 256, 256] inb).toLoadRect.idx j
        = (Rect.unit (s := S1x512x1024) ![0, o, c] ![1, 256, 128] i0).emb (ix3 0 (j 1) ⟨(j 2).val % 128, Nat.mod_lt _ (by decide)⟩) := by
      funext a
      refine Fin.ext ?_
      match a with
      | 0 => show 0 + 1 * (j 0).val = 0 + 1 * 0; omega
      | 1 => show o + 1 * (j 1).val = o + 1 * (j 1).val; rfl
      | 2 => show c + 1 * (j 2).val = c + 1 * ((j 2).val % 128); omega
    rw [ee]
    refine (View.canon_cons_emb (Rect.unit (s := S1x512x1024) ![0, o, c] ![1, 256, 128] i0) a L _).trans ?_
    refine ha _ _ ?_ ?_
    · show (o + (j 1).val) % 512 = o + (j 1).val; omega
    · show (c + (j 2).val) % 1024 = c + (j 2).val % 128; omega
  · have ee : (Rect.unit (s := S1x512x1024) ![0, o, c] ![1, 256, 256] inb).toLoadRect.idx j
        = (Rect.unit (s := S1x512x1024) ![0, o, c + 128] ![1, 256, 128] i1).emb (ix3 0 (j 1) ⟨(j 2).val % 128, Nat.mod_lt _ (by decide)⟩) := by
      funext a
      refine Fin.ext ?_
      match a with
      | 0 => show 0 + 1 * (j 0).val = 0 + 1 * 0; omega
      | 1 => show o + 1 * (j 1).val = o + 1 * (j 1).val; rfl
      | 2 => show c + 1 * (j 2).val = c + 128 + 1 * ((j 2).val % 128); omega
    rw [ee]
    refine (View.canon_cons_emb (Rect.unit (s := S1x512x1024) ![0, o, c + 128] ![1, 256, 128] i1) b _ _).trans ?_
    refine hb _ _ ?_ ?_
    · show (o + (j 1).val) % 512 = o + (j 1).val; omega
    · show (c + (j 2).val) % 1024 = c + 128 + (j 2).val % 128; omega

theorem read_part (v : View sig .tc .vmem S1x512x1024 .bf16) (g : Vec F S1x512x1024 .bf16) (o c : ℕ) (a : Vec F S1x256x1024 .bf16)
    (i0 inb) (L : List (View.Piece (Elt F) S1x512x1024 .bf16))
    (ha : ∀ (l : S1x256x1024.Idx) (y : S1x512x1024.Idx), (y 1).val = o + (l 1).val → (y 2).val = (l 2).val → a l = g y) :
    v.readCov (⟨Rect.unit (s := S1x512x1024) ![0, o, 0] ![1, 256, 1024] i0, a⟩ :: L)
      (Rect.unit (s := S1x512x1024) ![0, o, c] ![1, 256, 256] inb).toLoadRect = tile g o c := by
  rw [View.readCov_eq_canon']
  funext j
  have hh1 : o + 256 ≤ 512 := by simpa using inb 1
  have hh2 : c + 256 ≤ 1024 := by simpa using inb 2
  have j0 : (j 0).val < 1 := (j 0).isLt
  have j1 : (j 1).val < 256 := (j 1).isLt
  have j2 : (j 2).val < 256 := (j 2).isLt
  have ee : (Rect.unit (s := S1x512x1024) ![0, o, c] ![1, 256, 256] inb).toLoadRect.idx j
      = (Rect.unit (s := S1x512x1024) ![0, o, 0] ![1, 256, 1024] i0).emb (ix3 0 (j 1) ⟨(c + (j 2).val) % 1024, Nat.mod_lt _ (by decide)⟩) := by
    funext a
    refine Fin.ext ?_
    match a with
    | 0 => show 0 + 1 * (j 0).val = 0 + 1 * 0; omega
    | 1 => show o + 1 * (j 1).val = o + 1 * (j 1).val; rfl
    | 2 => show c + 1 * (j 2).val = 0 + 1 * ((c + (j 2).val) % 1024); omega
  rw [ee]
  refine (View.canon_cons_emb (Rect.unit (s := S1x512x1024) ![0, o, 0] ![1, 256, 1024] i0) a L _).trans ?_
  refine ha _ _ ?_ ?_
  · show (o + (j 1).val) % 512 = o + (j 1).val; omega
  · rfl

/-- A lane of the scratch array: rows 128 apart of a half lie side by side. -/
def weave (P Q : FVec F S256x1024 .f32) (c : ℕ) : Vec F S1x512x128 .f32 := fun l =>
  (if (l 1).val < 256 then P else Q)
    (ix2 ⟨(128 * ((l 1).val % 2) + (l 1).val % 256 / 2) % 256, Nat.mod_lt _ (by decide)⟩ ⟨(c + (l 2).val) % 1024, Nat.mod_lt _ (by decide)⟩)

/-- 128 by 128 entries of a projection. -/
def piece (p : FVec F S256x1024 .f32) (r c : ℕ) : Vec F S1x128x128 .f32 := fun l =>
  p (ix2 ⟨(r + (l 1).val) % 256, Nat.mod_lt _ (by decide)⟩ ⟨(c + (l 2).val) % 1024, Nat.mod_lt _ (by decide)⟩)

theorem slice_piece (p : FVec F S256x1024 .f32) (r c : ℕ) (h) (hs) :
    shapeCast S1x128x128 (extractStridedSlice S128x128 ![r, c] p h) hs = piece p r c := by
  have e : ∀ (w : FVec F S128x128 .f32) (l : S1x128x128.Idx), shapeCast S1x128x128 w hs l = w (ix2 (l 1) (l 2)) := by
    intro w l; pointwise
  funext l
  refine (e _ l).trans ?_
  have hh : r + 128 ≤ 256 := by obtain ⟨_, hf⟩ := h; simpa using hf 0
  have hh' : c + 128 ≤ 1024 := by obtain ⟨_, hf⟩ := h; simpa using hf 1
  have l1 : (l 1).val < 128 := (l 1).isLt
  have l2 : (l 2).val < 128 := (l 2).isLt
  simp only [extractStridedSlice, piece]
  congr 1
  funext a
  apply Fin.ext
  match a with
  | 0 => show r + (l 1).val = (r + (l 1).val) % 256; omega
  | 1 => show c + (l 2).val = (c + (l 2).val) % 1024; omega

theorem read_weave (v : View sig .tc .vmem S8x512x128 .f32) (P Q : FVec F S256x1024 .f32) (k c : ℕ) (a0 a1 a2 a3 : Vec F S1x128x128 .f32)
    (i0 i1 i2 i3 inb s0 s1 s2 s3) (L : List (View.Piece (Elt F) S8x512x128 .f32))
    (h0 : a0 = piece P 0 c) (h1 : a1 = piece P 128 c) (h2 : a2 = piece Q 0 c) (h3 : a3 = piece Q 128 c) :
    v.readCov (⟨{ off := ![k, 257, 0], size := ![1, 128, 128], stride := ![1, 2, 1], inb := i3, stride_pos := s3 }, a3⟩ ::
        ⟨{ off := ![k, 256, 0], size := ![1, 128, 128], stride := ![1, 2, 1], inb := i2, stride_pos := s2 }, a2⟩ ::
        ⟨{ off := ![k, 1, 0], size := ![1, 128, 128], stride := ![1, 2, 1], inb := i1, stride_pos := s1 }, a1⟩ ::
        ⟨{ off := ![k, 0, 0], size := ![1, 128, 128], stride := ![1, 2, 1], inb := i0, stride_pos := s0 }, a0⟩ :: L)
      (Rect.unit (s := S8x512x128) ![k, 0, 0] ![1, 512, 128] inb).toLoadRect = weave P Q c := by
  subst h0 h1 h2 h3
  rw [View.readCov_eq_canon']
  funext j
  have j0 : (j 0).val < 1 := (j 0).isLt
  have j1 : (j 1).val < 512 := (j 1).isLt
  have j2 : (j 2).val < 128 := (j 2).isLt
  have hit : ∀ (o : ℕ) (ic) (sp) (p : Vec F S1x128x128 .f32) (L' : List (View.Piece (Elt F) S8x512x128 .f32)),
      o ≤ (j 1).val → (j 1).val < o + 256 → (j 1).val % 2 = o % 2 → o % 256 < 2 →
      View.canon (⟨({ off := ![k, o, 0], size := ![1, 128, 128], stride := ![1, 2, 1], inb := ic, stride_pos := sp } : Rect S8x512x128), p⟩ :: L')
        ((Rect.unit (s := S8x512x128) ![k, 0, 0] ![1, 512, 128] inb).toLoadRect.idx j)
      = p (ix3 0 ⟨(j 1).val % 256 / 2, by omega⟩ (j 2)) := by
    intro o ic sp p L' h1 h2 h3 h4
    have ee : (Rect.unit (s := S8x512x128) ![k, 0, 0] ![1, 512, 128] inb).toLoadRect.idx j
        = ({ off := ![k, o, 0], size := ![1, 128, 128], stride := ![1, 2, 1], inb := ic, stride_pos := sp } : Rect S8x512x128).emb
            (ix3 0 ⟨(j 1).val % 256 / 2, by omega⟩ (j 2)) := by
      funext a
      refine Fin.ext ?_
      match a with
      | 0 => show k + 1 * (j 0).val = k + 1 * 0; omega
      | 1 => show 0 + 1 * (j 1).val = o + 2 * ((j 1).val % 256 / 2); omega
      | 2 => show 0 + 1 * (j 2).val = 0 + 1 * (j 2).val; rfl
    rw [ee]
    exact View.canon_cons_emb ({ off := ![k, o, 0], size := ![1, 128, 128], stride := ![1, 2, 1], inb := ic, stride_pos := sp } : Rect S8x512x128) p L' _
  have miss : ∀ (o : ℕ) (ic) (sp) (p : Vec F S1x128x128 .f32) (L' : List (View.Piece (Elt F) S8x512x128 .f32)),
      ((j 1).val < o ∨ (j 1).val % 2 ≠ o % 2) →
      View.canon (⟨({ off := ![k, o, 0], size := ![1, 128, 128], stride := ![1, 2, 1], inb := ic, stride_pos := sp } : Rect S8x512x128), p⟩ :: L')
        ((Rect.unit (s := S8x512x128) ![k, 0, 0] ![1, 512, 128] inb).toLoadRect.idx j)
      = View.canon L' ((Rect.unit (s := S8x512x128) ![k, 0, 0] ![1, 512, 128] inb).toLoadRect.idx j) := by
    intro o ic sp p L' h
    refine View.canon_cons_of_not_mem (⟨({ off := ![k, o, 0], size := ![1, 128, 128], stride := ![1, 2, 1], inb := ic, stride_pos := sp } : Rect S8x512x128), p⟩ : View.Piece (Elt F) S8x512x128 .f32) L' fun hm => ?_
    obtain ⟨t, ht, e⟩ := (LoadRect.mem_set _).1 hm 1
    have e' : 0 + 1 * (j 1).val = o + 2 * t := e
    omega
  have fin : ∀ (P : FVec F S256x1024 .f32) (r : ℕ), r = 128 * ((j 1).val % 2) →
      piece P r c (ix3 0 ⟨(j 1).val % 256 / 2, by omega⟩ (j 2))
        = P (ix2 ⟨(128 * ((j 1).val % 2) + (j 1).val % 256 / 2) % 256, Nat.mod_lt _ (by decide)⟩ ⟨(c + (j 2).val) % 1024, Nat.mod_lt _ (by decide)⟩) := by
    intro P r hr; subst hr; rfl
  by_cases hq : (j 1).val < 256
  · have e : weave P Q c j = P (ix2 ⟨(128 * ((j 1).val % 2) + (j 1).val % 256 / 2) % 256, Nat.mod_lt _ (by decide)⟩ ⟨(c + (j 2).val) % 1024, Nat.mod_lt _ (by decide)⟩) := by
      simp only [weave, if_pos hq]
    rw [e]
    refine (miss 257 i3 s3 _ _ (by omega)).trans ((miss 256 i2 s2 _ _ (by omega)).trans ?_)
    by_cases hp : (j 1).val % 2 = 0
    · exact (miss 1 i1 s1 _ _ (by omega)).trans ((hit 0 i0 s0 _ _ (by omega) (by omega) (by omega) (by omega)).trans (fin P 0 (by omega)))
    · exact (hit 1 i1 s1 _ _ (by omega) (by omega) (by omega) (by omega)).trans (fin P 128 (by omega))
  · have e : weave P Q c j = Q (ix2 ⟨(128 * ((j 1).val % 2) + (j 1).val % 256 / 2) % 256, Nat.mod_lt _ (by decide)⟩ ⟨(c + (j 2).val) % 1024, Nat.mod_lt _ (by decide)⟩) := by
      simp only [weave, if_neg hq]
    rw [e]
    by_cases hp : (j 1).val % 2 = 0
    · exact (miss 257 i3 s3 _ _ (by omega)).trans ((hit 256 i2 s2 _ _ (by omega) (by omega) (by omega) (by omega)).trans (fin Q 0 (by omega)))
    · exact (hit 257 i3 s3 _ _ (by omega) (by omega) (by omega) (by omega)).trans (fin Q 128 (by omega))

/-- The lane as it is stored: rounded. -/
def lane (w : Vec F S1x512x128 .f32) : Vec F S1x512x128 .f32 := k0_pay165 w

/-- The block of the fifth projection's rows, of both halves. -/
def woven (P Q : FVec F S256x1024 .f32) : Vec F S1x512x1024 .f32 := fun y =>
  lane (weave P Q (128 * ((y 2).val / 128))) (ix3 0 (y 1) ⟨(y 2).val % 128, Nat.mod_lt _ (by decide)⟩)

theorem woven_at (P Q : FVec F S256x1024 .f32) (y : S1x512x1024.Idx) (l : S1x512x128.Idx) (c : ℕ) (hc : c % 128 = 0)
    (h1 : (y 1).val = (l 1).val) (h2 : (y 2).val = c + (l 2).val) : lane (weave P Q c) l = woven P Q y := by
  have l0 : (l 0).val < 1 := (l 0).isLt
  have l2 : (l 2).val < 128 := (l 2).isLt
  have e : 128 * ((y 2).val / 128) = c := by omega
  simp only [woven, e]
  congr 1
  funext a
  apply Fin.ext
  match a with
  | 0 => show (l 0).val = 0; omega
  | 1 => exact h1.symm
  | 2 => show (l 2).val = (y 2).val % 128; omega

/-- The next state of a head, of its keys, values and tables; a slab as a matrix, and back. -/
def stV (st : FVec F S256x256 .f32) (k v Z : Vec F S1x256x256 .bf16) (gc : Vec F S1x1x256 .f32) : FVec F S256x256 .f32 :=
  addf (mulf st (broadcastTo S256x256 (shapeCast S1x256 gc shapeCasts_S1x1x256_S1x256) broadcasts_S1x256_S256x256))
    (matmul dot_S256x256_S256x256_S256x256_0_0_1_1_n_n none (shapeCast S256x256 k shapeCasts_S1x256x256_S256x256)
      (mulf (shapeCast S256x256 v shapeCasts_S1x256x256_S256x256 : FVec F S256x256 .bf16) (shapeCast S256x256 Z shapeCasts_S1x256x256_S256x256))
      (constant S256x256 .f32 0x00000000#32))
def unwrap (x : Vec F S1x256x256 .f32) : FVec F S256x256 .f32 := k0_pay100 x
def wrap (x : FVec F S256x256 .f32) : FVec F S1x256x256 .f32 := shapeCast S1x256x256 x shapeCasts_S256x256_S1x256x256
/-- A state as it is stored for the other kernel. -/
def shown (x : FVec F S256x256 .f32) : FVec F S1x1x1x256x256 .bf16 :=
  shapeCast S1x1x1x256x256 (truncf .bf16 x bitsLt_bf16_f32 : FVec F S256x256 .bf16) shapeCasts_S256x256_S1x1x1x256x256
/-- The tables, of the decay parameter. -/
def tZ (a : Elt F .f32) : Vec F S1x256x256 .bf16 := k0_pay5 a
def tG (a : Elt F .f32) : Vec F S1x1x256 .f32 := k0_pay7 (k0_pay6 a)

/-- A head's state after the last `n` of a block's two chunks. -/
def stN (st : FVec F S256x256 .f32) (k v : Vec F S1x512x1024 .bf16) (Z : Vec F S1x256x256 .bf16) (gc : Vec F S1x1x256 .f32)
    (h : ℕ) : ℕ → FVec F S256x256 .f32
  | 0 => st
  | n + 1 => stV (stN st k v Z gc h n) (tile k (256 * (1 - n)) (256 * h)) (tile v (256 * (1 - n)) (256 * h)) Z gc

/-- The block of the states before each chunk, of each head's state and tables. -/
def behindOut (st : ℕ → FVec F S256x256 .f32) (Z : ℕ → Vec F S1x256x256 .bf16) (gc : ℕ → Vec F S1x1x256 .f32)
    (k v : Vec F S1x512x1024 .bf16) : Vec F S1x2x4x256x256 .bf16 := fun y =>
  shown (stN (st (y 2).val) k v (Z (y 2).val) (gc (y 2).val) (y 2).val (1 - (y 1).val)) (ix5 0 0 0 (y 3) (y 4))

theorem behindOut_at (st : ℕ → FVec F S256x256 .f32) (Z : ℕ → Vec F S1x256x256 .bf16) (gc : ℕ → Vec F S1x1x256 .f32)
    (k v : Vec F S1x512x1024 .bf16) (y : S1x2x4x256x256.Idx) (l : S1x1x1x256x256.Idx) (n h : ℕ)
    (h1 : 1 - (y 1).val = n) (h2 : (y 2).val = h) (h3 : (y 3).val = (l 3).val) (h4 : (y 4).val = (l 4).val) :
    behindOut st Z gc k v y = shown (stN (st h) k v (Z h) (gc h) h n) l := by
  have l0 : (l 0).val < 1 := (l 0).isLt
  have l1 : (l 1).val < 1 := (l 1).isLt
  have l2 : (l 2).val < 1 := (l 2).isLt
  simp only [behindOut, h1, h2]
  congr 1
  funext a
  apply Fin.ext
  match a with
  | 0 => show 0 = (l 0).val; omega
  | 1 => show 0 = (l 1).val; omega
  | 2 => show 0 = (l 2).val; omega
  | 3 => exact h3
  | 4 => exact h4

/-- An array of four slabs, and of four rows. -/
def slabs {φ : EltTy} (f : ℕ → Vec F S1x256x256 φ) : Vec F S4x256x256 φ := fun y => f (y 0).val (ix3 0 (y 1) (y 2))
def rows {φ : EltTy} (f : ℕ → Vec F S1x1x256 φ) : Vec F S4x1x256 φ := fun y => f (y 0).val (ix3 0 (y 1) (y 2))

theorem slabs_at {φ : EltTy} (f : ℕ → Vec F S1x256x256 φ) (y : S4x256x256.Idx) (l : S1x256x256.Idx) (h : ℕ)
    (h0 : (y 0).val = h) (h1 : (y 1).val = (l 1).val) (h2 : (y 2).val = (l 2).val) : slabs f y = f h l := by
  have l0 : (l 0).val < 1 := (l 0).isLt
  simp only [slabs, h0]
  congr 1
  funext a
  apply Fin.ext
  match a with
  | 0 => show 0 = (l 0).val; omega
  | 1 => exact h1
  | 2 => exact h2

theorem rows_at {φ : EltTy} (f : ℕ → Vec F S1x1x256 φ) (y : S4x1x256.Idx) (l : S1x1x256.Idx) (h : ℕ)
    (h0 : (y 0).val = h) (h2 : (y 2).val = (l 2).val) : rows f y = f h l := by
  have l0 : (l 0).val < 1 := (l 0).isLt
  have l1 : (l 1).val < 1 := (l 1).isLt
  have y1 : (y 1).val < 1 := (y 1).isLt
  simp only [rows, h0]
  congr 1
  funext a
  apply Fin.ext
  match a with
  | 0 => show 0 = (l 0).val; omega
  | 1 => show (y 1).val = (l 1).val; omega
  | 2 => exact h2

theorem slab_slabs {φ : EltTy} (f : ℕ → Vec F S1x256x256 φ) (h : ℕ) (hh : h < 4) : slab (slabs f) h = f h := by
  funext l
  exact slabs_at f _ l h (Nat.mod_eq_of_lt hh) rfl rfl

theorem row_rows {φ : EltTy} (f : ℕ → Vec F S1x1x256 φ) (h : ℕ) (hh : h < 4) : row (rows f) h = f h := by
  funext l
  exact rows_at f _ l h (Nat.mod_eq_of_lt hh) rfl

/-- The results of a block: the projection `j` of the half at token `o`, and the blocks made of it. -/
def pr (x1 : Vec F S1x512x1024 .f32) (x2 : Vec F S1x1024 .f32) (x3 : Vec F S1024x7168 .bf16) (j o : ℕ) : FVec F S256x1024 .f32 :=
  projV (xbV (half x1 o) x2) (colsOf x3 (1024 * j))
def qBlk (x1 : Vec F S1x512x1024 .f32) (x2 : Vec F S1x1024 .f32) (x3 : Vec F S1024x7168 .bf16) (x4 x5 : Vec F S512x128 .f32) : Vec F S1x512x1024 .bf16 :=
  both fun o => qHalf (pr x1 x2 x3 0 o) (tab x4 o) (tab x5 o)
def kBlk (x1 : Vec F S1x512x1024 .f32) (x2 : Vec F S1x1024 .f32) (x3 : Vec F S1024x7168 .bf16) (x4 x5 : Vec F S512x128 .f32) : Vec F S1x512x1024 .bf16 :=
  both fun o => kHalf (pr x1 x2 x3 1 o) (tab x4 o) (tab x5 o)
def pBlk (x1 : Vec F S1x512x1024 .f32) (x2 : Vec F S1x1024 .f32) (x3 : Vec F S1024x7168 .bf16) (j : ℕ) : Vec F S1x512x1024 .bf16 :=
  both fun o => plain (pr x1 x2 x3 j o)
def zBlk (x1 : Vec F S1x512x1024 .f32) (x2 : Vec F S1x1024 .f32) (x3 : Vec F S1024x7168 .bf16) : Vec F S1x512x1024 .f32 :=
  woven (pr x1 x2 x3 4 0) (pr x1 x2 x3 4 256)

end Cert.InProjIdeal.Inp
end
-- ==== Proof.InBodyA.lean ====
/-
What the projection kernel's body writes at the first point of a batch, where the state starts at zero and the tables are written.
-/
module

public import proofs.«01_k».proof.Proof.InBlocks

@[expose] public section

set_option maxRecDepth 16384

noncomputable section

namespace Cert.InProjIdeal.Inp

open Cert.InProjIdeal Cert.InProjIdeal.Gen Idealize.ShloMosaic Idealize.ShloMosaic.TcCoe Idealize.SL.Sem

variable {F : FTy → Type} [FloatOps F]

set_option maxHeartbeats 6400000 in
theorem out0_A_6_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = qBlk x1 x2 x3 x4 x5 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact q_lo (fun o => qHalf (pr x1 x2 x3 0 o) (tab x4 o) (tab x5 o)) (pr x1 x2 x3 0 0) (tab x4 0) (tab x5 0) 0 128 0 slices_S256x1024_o0_0_S256x128 slices_S256x1024_o0_128_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 0 128 0 slices_S256x1024_o0_0_S256x128 slices_S256x1024_o0_128_S256x128 shapeCasts_S256x128_S1x256x128 rfl rfl rfl rfl x y (by omega) (by omega)
    | exact q_lo (fun o => qHalf (pr x1 x2 x3 0 o) (tab x4 o) (tab x5 o)) (pr x1 x2 x3 0 0) (tab x4 0) (tab x5 0) 256 384 0 slices_S256x1024_o0_256_S256x128 slices_S256x1024_o0_384_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 256 384 0 slices_S256x1024_o0_256_S256x128 slices_S256x1024_o0_384_S256x128 shapeCasts_S256x128_S1x256x128 rfl rfl rfl rfl x y (by omega) (by omega)
    | exact q_lo (fun o => qHalf (pr x1 x2 x3 0 o) (tab x4 o) (tab x5 o)) (pr x1 x2 x3 0 0) (tab x4 0) (tab x5 0) 512 640 0 slices_S256x1024_o0_512_S256x128 slices_S256x1024_o0_640_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 512 640 0 slices_S256x1024_o0_512_S256x128 slices_S256x1024_o0_640_S256x128 shapeCasts_S256x128_S1x256x128 rfl rfl rfl rfl x y (by omega) (by omega)
    | exact q_lo (fun o => qHalf (pr x1 x2 x3 0 o) (tab x4 o) (tab x5 o)) (pr x1 x2 x3 0 0) (tab x4 0) (tab x5 0) 768 896 0 slices_S256x1024_o0_768_S256x128 slices_S256x1024_o0_896_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 768 896 0 slices_S256x1024_o0_768_S256x128 slices_S256x1024_o0_896_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 0 128 256 slices_S256x1024_o0_0_S256x128 slices_S256x1024_o0_128_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 0 128 256 slices_S256x1024_o0_0_S256x128 slices_S256x1024_o0_128_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 256 384 256 slices_S256x1024_o0_256_S256x128 slices_S256x1024_o0_384_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 256 384 256 slices_S256x1024_o0_256_S256x128 slices_S256x1024_o0_384_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 512 640 256 slices_S256x1024_o0_512_S256x128 slices_S256x1024_o0_640_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 512 640 256 slices_S256x1024_o0_512_S256x128 slices_S256x1024_o0_640_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 768 896 256 slices_S256x1024_o0_768_S256x128 slices_S256x1024_o0_896_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 768 896 256 slices_S256x1024_o0_768_S256x128 slices_S256x1024_o0_896_S256x128 shapeCasts_S256x128_S1x256x128 rfl rfl rfl rfl x y (by omega) (by omega)

set_option maxHeartbeats 6400000 in
theorem out0_A_7_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = kBlk x1 x2 x3 x4 x5 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact k_lo (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl x y (by omega) (by omega)
    | exact k_lo (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl x y (by omega) (by omega)
    | exact k_lo (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl x y (by omega) (by omega)
    | exact k_lo (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl x y (by omega) (by omega)

set_option maxHeartbeats 6400000 in
theorem out0_A_8_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = pBlk x1 x2 x3 2 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 2 o)) (pr x1 x2 x3 2 0) 0 shapeCasts_S256x1024_S1x256x1024 rfl rfl x y (by omega) (by omega)
    | exact plain_at (fun o => plain (pr x1 x2 x3 2 o)) (pr x1 x2 x3 2 256) 256 shapeCasts_S256x1024_S1x256x1024 rfl rfl x y (by omega) (by omega)

set_option maxHeartbeats 6400000 in
theorem out0_A_9_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = pBlk x1 x2 x3 3 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 3 o)) (pr x1 x2 x3 3 0) 0 shapeCasts_S256x1024_S1x256x1024 rfl rfl x y (by omega) (by omega)
    | exact plain_at (fun o => plain (pr x1 x2 x3 3 o)) (pr x1 x2 x3 3 256) 256 shapeCasts_S256x1024_S1x256x1024 rfl rfl x y (by omega) (by omega)

set_option maxHeartbeats 6400000 in
theorem out0_A_10_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = zBlk x1 x2 x3 := by
  funext y
  frame_open
  simp (disch := decide) only [↓ View.readCov_skip, ↓ View.readCov_cons_toLoadRect, ↓ View.readCov_fill]
  frame_out
  try simp only [ld_half, ld_colsOf, ld_tab, ld_slab, ld_row]
  rw [read_weave _ (pr x1 x2 x3 4 0) (pr x1 x2 x3 4 256) 0 0 _ _ _ _ _ _ _ _ _ _ _ _ _ _ ?_ ?_ ?_ ?_]
  rotate_left
  · exact slice_piece _ 0 0 slices_S256x1024_o0_0_S128x128 shapeCasts_S128x128_S1x128x128
  · exact slice_piece _ 128 0 slices_S256x1024_o128_0_S128x128 shapeCasts_S128x128_S1x128x128
  · exact slice_piece _ 0 0 slices_S256x1024_o0_0_S128x128 shapeCasts_S128x128_S1x128x128
  · exact slice_piece _ 128 0 slices_S256x1024_o128_0_S128x128 shapeCasts_S128x128_S1x128x128
  rw [read_weave _ (pr x1 x2 x3 4 0) (pr x1 x2 x3 4 256) 1 128 _ _ _ _ _ _ _ _ _ _ _ _ _ _ ?_ ?_ ?_ ?_]
  rotate_left
  · exact slice_piece _ 0 128 slices_S256x1024_o0_128_S128x128 shapeCasts_S128x128_S1x128x128
  · exact slice_piece _ 128 128 slices_S256x1024_o128_128_S128x128 shapeCasts_S128x128_S1x128x128
  · exact slice_piece _ 0 128 slices_S256x1024_o0_128_S128x128 shapeCasts_S128x128_S1x128x128
  · exact slice_piece _ 128 128 slices_S256x1024_o128_128_S128x128 shapeCasts_S128x128_S1x128x128
  rw [read_weave _ (pr x1 x2 x3 4 0) (pr x1 x2 x3 4 256) 2 256 _ _ _ _ _ _ _ _ _ _ _ _ _ _ ?_ ?_ ?_ ?_]
  rotate_left
  · exact slice_piece _ 0 256 slices_S256x1024_o0_256_S128x128 shapeCasts_S128x128_S1x128x128
  · exact slice_piece _ 128 256 slices_S256x1024_o128_256_S128x128 shapeCasts_S128x128_S1x128x128
  · exact slice_piece _ 0 256 slices_S256x1024_o0_256_S128x128 shapeCasts_S128x128_S1x128x128
  · exact slice_piece _ 128 256 slices_S256x1024_o128_256_S128x128 shapeCasts_S128x128_S1x128x128
  rw [read_weave _ (pr x1 x2 x3 4 0) (pr x1 x2 x3 4 256) 3 384 _ _ _ _ _ _ _ _ _ _ _ _ _ _ ?_ ?_ ?_ ?_]
  rotate_left
  · exact slice_piece _ 0 384 slices_S256x1024_o0_384_S128x128 shapeCasts_S128x128_S1x128x128
  · exact slice_piece _ 128 384 slices_S256x1024_o128_384_S128x128 shapeCasts_S128x128_S1x128x128
  · exact slice_piece _ 0 384 slices_S256x1024_o0_384_S128x128 shapeCasts_S128x128_S1x128x128
  · exact slice_piece _ 128 384 slices_S256x1024_o128_384_S128x128 shapeCasts_S128x128_S1x128x128
  rw [read_weave _ (pr x1 x2 x3 4 0) (pr x1 x2 x3 4 256) 4 512 _ _ _ _ _ _ _ _ _ _ _ _ _ _ ?_ ?_ ?_ ?_]
  rotate_left
  · exact slice_piece _ 0 512 slices_S256x1024_o0_512_S128x128 shapeCasts_S128x128_S1x128x128
  · exact slice_piece _ 128 512 slices_S256x1024_o128_512_S128x128 shapeCasts_S128x128_S1x128x128
  · exact slice_piece _ 0 512 slices_S256x1024_o0_512_S128x128 shapeCasts_S128x128_S1x128x128
  · exact slice_piece _ 128 512 slices_S256x1024_o128_512_S128x128 shapeCasts_S128x128_S1x128x128
  rw [read_weave _ (pr x1 x2 x3 4 0) (pr x1 x2 x3 4 256) 5 640 _ _ _ _ _ _ _ _ _ _ _ _ _ _ ?_ ?_ ?_ ?_]
  rotate_left
  · exact slice_piece _ 0 640 slices_S256x1024_o0_640_S128x128 shapeCasts_S128x128_S1x128x128
  · exact slice_piece _ 128 640 slices_S256x1024_o128_640_S128x128 shapeCasts_S128x128_S1x128x128
  · exact slice_piece _ 0 640 slices_S256x1024_o0_640_S128x128 shapeCasts_S128x128_S1x128x128
  · exact slice_piece _ 128 640 slices_S256x1024_o128_640_S128x128 shapeCasts_S128x128_S1x128x128
  rw [read_weave _ (pr x1 x2 x3 4 0) (pr x1 x2 x3 4 256) 6 768 _ _ _ _ _ _ _ _ _ _ _ _ _ _ ?_ ?_ ?_ ?_]
  rotate_left
  · exact slice_piece _ 0 768 slices_S256x1024_o0_768_S128x128 shapeCasts_S128x128_S1x128x128
  · exact slice_piece _ 128 768 slices_S256x1024_o128_768_S128x128 shapeCasts_S128x128_S1x128x128
  · exact slice_piece _ 0 768 slices_S256x1024_o0_768_S128x128 shapeCasts_S128x128_S1x128x128
  · exact slice_piece _ 128 768 slices_S256x1024_o128_768_S128x128 shapeCasts_S128x128_S1x128x128
  rw [read_weave _ (pr x1 x2 x3 4 0) (pr x1 x2 x3 4 256) 7 896 _ _ _ _ _ _ _ _ _ _ _ _ _ _ ?_ ?_ ?_ ?_]
  rotate_left
  · exact slice_piece _ 0 896 slices_S256x1024_o0_896_S128x128 shapeCasts_S128x128_S1x128x128
  · exact slice_piece _ 128 896 slices_S256x1024_o128_896_S128x128 shapeCasts_S128x128_S1x128x128
  · exact slice_piece _ 0 896 slices_S256x1024_o0_896_S128x128 shapeCasts_S128x128_S1x128x128
  · exact slice_piece _ 128 896 slices_S256x1024_o128_896_S128x128 shapeCasts_S128x128_S1x128x128
  canon_tiles x h
  all_goals first
    | exact woven_at (pr x1 x2 x3 4 0) (pr x1 x2 x3 4 256) y x 0 rfl (by omega) (by omega)
    | exact woven_at (pr x1 x2 x3 4 0) (pr x1 x2 x3 4 256) y x 128 rfl (by omega) (by omega)
    | exact woven_at (pr x1 x2 x3 4 0) (pr x1 x2 x3 4 256) y x 256 rfl (by omega) (by omega)
    | exact woven_at (pr x1 x2 x3 4 0) (pr x1 x2 x3 4 256) y x 384 rfl (by omega) (by omega)
    | exact woven_at (pr x1 x2 x3 4 0) (pr x1 x2 x3 4 256) y x 512 rfl (by omega) (by omega)
    | exact woven_at (pr x1 x2 x3 4 0) (pr x1 x2 x3 4 256) y x 640 rfl (by omega) (by omega)
    | exact woven_at (pr x1 x2 x3 4 0) (pr x1 x2 x3 4 256) y x 768 rfl (by omega) (by omega)
    | exact woven_at (pr x1 x2 x3 4 0) (pr x1 x2 x3 4 256) y x 896 rfl (by omega) (by omega)

set_option maxHeartbeats 6400000 in
theorem out0_A_11_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = pBlk x1 x2 x3 5 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 5 o)) (pr x1 x2 x3 5 0) 0 shapeCasts_S256x1024_S1x256x1024 rfl rfl x y (by omega) (by omega)
    | exact plain_at (fun o => plain (pr x1 x2 x3 5 o)) (pr x1 x2 x3 5 256) 256 shapeCasts_S256x1024_S1x256x1024 rfl rfl x y (by omega) (by omega)

set_option maxHeartbeats 6400000 in
theorem out0_A_12_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = pBlk x1 x2 x3 6 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 6 o)) (pr x1 x2 x3 6 0) 0 shapeCasts_S256x1024_S1x256x1024 rfl rfl x y (by omega) (by omega)
    | exact plain_at (fun o => plain (pr x1 x2 x3 6 o)) (pr x1 x2 x3 6 256) 256 shapeCasts_S256x1024_S1x256x1024 rfl rfl x y (by omega) (by omega)

set_option maxHeartbeats 6400000 in
theorem out0_A_13_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = behindOut (fun h => unwrap (slab (k0_pay4 (F := F)) h)) (fun h => tZ (par x0 h)) (fun h => tG (par x0 h)) (kBlk x1 x2 x3 x4 x5) (pBlk x1 x2 x3 2) := by
  funext y
  frame_open
  simp (disch := decide) only [↓ View.readCov_skip, ↓ View.readCov_cons_toLoadRect, ↓ View.readCov_fill]
  frame_out
  try simp only [ld_half, ld_colsOf, ld_tab, ld_slab, ld_row]
  repeat rw [ld_par_first]
  rw [read_two _ (kBlk x1 x2 x3 x4 x5) 256 0 128 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  rw [read_part _ (pBlk x1 x2 x3 2) 256 0 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 256 384 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  rw [read_part _ (pBlk x1 x2 x3 2) 256 256 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 512 640 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  rw [read_part _ (pBlk x1 x2 x3 2) 256 512 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 768 896 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  rw [read_part _ (pBlk x1 x2 x3 2) 256 768 _ _ _ _ ?_]
  rotate_left
  · exact fun l y h1 h2 => plain_at (fun o => plain (pr x1 x2 x3 2 o)) (pr x1 x2 x3 2 256) 256 shapeCasts_S256x1024_S1x256x1024 rfl rfl l y h1 h2
  canon_tiles x h
  all_goals first
    | refine Eq.trans ?_ (behindOut_at _ _ _ _ _ y x 0 0 (by omega) (by omega) (by omega) (by omega)).symm; rfl
    | refine Eq.trans ?_ (behindOut_at _ _ _ _ _ y x 0 1 (by omega) (by omega) (by omega) (by omega)).symm; rfl
    | refine Eq.trans ?_ (behindOut_at _ _ _ _ _ y x 0 2 (by omega) (by omega) (by omega) (by omega)).symm; rfl
    | refine Eq.trans ?_ (behindOut_at _ _ _ _ _ y x 0 3 (by omega) (by omega) (by omega) (by omega)).symm; rfl
    | refine Eq.trans ?_ (behindOut_at _ _ _ _ _ y x 1 0 (by omega) (by omega) (by omega) (by omega)).symm; rfl
    | refine Eq.trans ?_ (behindOut_at _ _ _ _ _ y x 1 1 (by omega) (by omega) (by omega) (by omega)).symm; rfl
    | refine Eq.trans ?_ (behindOut_at _ _ _ _ _ y x 1 2 (by omega) (by omega) (by omega) (by omega)).symm; rfl
    | refine Eq.trans ?_ (behindOut_at _ _ _ _ _ y x 1 3 (by omega) (by omega) (by omega) (by omega)).symm; rfl

set_option maxHeartbeats 6400000 in
theorem sout0_A_1_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = slabs (φ := .f32) fun h => wrap (stN ((fun h => unwrap (slab (k0_pay4 (F := F)) h)) h) (kBlk x1 x2 x3 x4 x5) (pBlk x1 x2 x3 2) ((fun h => tZ (par x0 h)) h) ((fun h => tG (par x0 h)) h) h 2) := by
  funext y
  frame_open
  simp (disch := decide) only [↓ View.readCov_skip, ↓ View.readCov_cons_toLoadRect, ↓ View.readCov_fill]
  frame_out
  try simp only [ld_half, ld_colsOf, ld_tab, ld_slab, ld_row]
  repeat rw [ld_par_first]
  rw [read_two _ (kBlk x1 x2 x3 x4 x5) 256 0 128 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  rw [read_part _ (pBlk x1 x2 x3 2) 256 0 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 256 384 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  rw [read_part _ (pBlk x1 x2 x3 2) 256 256 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 512 640 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  rw [read_part _ (pBlk x1 x2 x3 2) 256 512 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 768 896 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  rw [read_part _ (pBlk x1 x2 x3 2) 256 768 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 0 0 128 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl l y h1 h2
  rw [read_part _ (pBlk x1 x2 x3 2) 0 0 _ _ _ _ ?_]
  rotate_left
  · exact fun l y h1 h2 => plain_at (fun o => plain (pr x1 x2 x3 2 o)) (pr x1 x2 x3 2 0) 0 shapeCasts_S256x1024_S1x256x1024 rfl rfl l y h1 h2
  rw [read_two _ (kBlk x1 x2 x3 x4 x5) 0 256 384 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl l y h1 h2
  rw [read_part _ (pBlk x1 x2 x3 2) 0 256 _ _ _ _ ?_]
  rotate_left
  · exact fun l y h1 h2 => plain_at (fun o => plain (pr x1 x2 x3 2 o)) (pr x1 x2 x3 2 0) 0 shapeCasts_S256x1024_S1x256x1024 rfl rfl l y h1 h2
  rw [read_two _ (kBlk x1 x2 x3 x4 x5) 0 512 640 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl l y h1 h2
  rw [read_part _ (pBlk x1 x2 x3 2) 0 512 _ _ _ _ ?_]
  rotate_left
  · exact fun l y h1 h2 => plain_at (fun o => plain (pr x1 x2 x3 2 o)) (pr x1 x2 x3 2 0) 0 shapeCasts_S256x1024_S1x256x1024 rfl rfl l y h1 h2
  rw [read_two _ (kBlk x1 x2 x3 x4 x5) 0 768 896 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl l y h1 h2
  rw [read_part _ (pBlk x1 x2 x3 2) 0 768 _ _ _ _ ?_]
  rotate_left
  · exact fun l y h1 h2 => plain_at (fun o => plain (pr x1 x2 x3 2 o)) (pr x1 x2 x3 2 0) 0 shapeCasts_S256x1024_S1x256x1024 rfl rfl l y h1 h2
  refine View.canon_append_of_piecesOf (slabs (φ := .f32) fun h => wrap (stN ((fun h => unwrap (slab (k0_pay4 (F := F)) h)) h) (kBlk x1 x2 x3 x4 x5) (pBlk x1 x2 x3 2) ((fun h => tZ (par x0 h)) h) ((fun h => tG (par x0 h)) h) h 2)) [_] [_, _, _, _] ⟨?_, ?_, ?_, ?_, trivial⟩ y
    (View.cover_of_tiledL (s := S4x256x256) _ ![1, 256, 256] (by sl_kernel_rfl) y)
  all_goals
    intro (x : S1x256x256.Idx)
    have x0 : (x 0).val < 1 := (x 0).isLt
  all_goals first
    | refine Eq.trans ?_ (slabs_at _ _ x 0 (by show 0 + 1 * (x 0).val = 0; omega) (by show 0 + 1 * (x 1).val = (x 1).val; omega) (by show 0 + 1 * (x 2).val = (x 2).val; omega)).symm; rfl
    | refine Eq.trans ?_ (slabs_at _ _ x 1 (by show 1 + 1 * (x 0).val = 1; omega) (by show 0 + 1 * (x 1).val = (x 1).val; omega) (by show 0 + 1 * (x 2).val = (x 2).val; omega)).symm; rfl
    | refine Eq.trans ?_ (slabs_at _ _ x 2 (by show 2 + 1 * (x 0).val = 2; omega) (by show 0 + 1 * (x 1).val = (x 1).val; omega) (by show 0 + 1 * (x 2).val = (x 2).val; omega)).symm; rfl
    | refine Eq.trans ?_ (slabs_at _ _ x 3 (by show 3 + 1 * (x 0).val = 3; omega) (by show 0 + 1 * (x 1).val = (x 1).val; omega) (by show 0 + 1 * (x 2).val = (x 2).val; omega)).symm; rfl

set_option maxHeartbeats 6400000 in
theorem sout0_A_2_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = slabs (φ := .bf16) (fun h => tZ (par x0 h)) := by
  funext y
  frame_open
  simp (disch := decide) only [↓ View.readCov_skip, ↓ View.readCov_cons_toLoadRect, ↓ View.readCov_fill]
  frame_out
  try simp only [ld_half, ld_colsOf, ld_tab, ld_slab, ld_row]
  repeat rw [ld_par_first]
  canon_tiles x h
  all_goals first
    | refine Eq.trans ?_ (slabs_at _ y x 0 (by omega) (by omega) (by omega)).symm; rfl
    | refine Eq.trans ?_ (slabs_at _ y x 1 (by omega) (by omega) (by omega)).symm; rfl
    | refine Eq.trans ?_ (slabs_at _ y x 2 (by omega) (by omega) (by omega)).symm; rfl
    | refine Eq.trans ?_ (slabs_at _ y x 3 (by omega) (by omega) (by omega)).symm; rfl

set_option maxHeartbeats 6400000 in
theorem sout0_A_3_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : cond0_0 i)
    (x0 : Vec F S4 .f32) (x1 : Vec F S1x512x1024 .f32) (x2 : Vec F S1x1024 .f32) (x3 : Vec F S1024x7168 .bf16) (x4 : Vec F S512x128 .f32) (x5 : Vec F S512x128 .f32)  : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = rows (φ := .f32) (fun h => tG (par x0 h)) := by
  funext y
  frame_open
  simp (disch := decide) only [↓ View.readCov_skip, ↓ View.readCov_cons_toLoadRect, ↓ View.readCov_fill]
  frame_out
  try simp only [ld_half, ld_colsOf, ld_tab, ld_slab, ld_row]
  repeat rw [ld_par_first]
  canon_tiles x h
  all_goals first
    | refine Eq.trans ?_ (rows_at _ y x 0 (by omega) (by omega)).symm; rfl
    | refine Eq.trans ?_ (rows_at _ y x 1 (by omega) (by omega)).symm; rfl
    | refine Eq.trans ?_ (rows_at _ y x 2 (by omega) (by omega)).symm; rfl
    | refine Eq.trans ?_ (rows_at _ y x 3 (by omega) (by omega)).symm; rfl

end Cert.InProjIdeal.Inp
end
-- ==== Proof.InBodyB.lean ====
/-
What the projection kernel's body writes at the later points of a batch, where the state and the tables are those carried.
-/
module

public import proofs.«01_k».proof.Proof.InBlocks

@[expose] public section

set_option maxRecDepth 16384

noncomputable section

namespace Cert.InProjIdeal.Inp

open Cert.InProjIdeal Cert.InProjIdeal.Gen Idealize.ShloMosaic Idealize.ShloMosaic.TcCoe Idealize.SL.Sem

variable {F : FTy → Type} [FloatOps F]

set_option maxHeartbeats 6400000 in
theorem out0_B_6_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = qBlk x1 x2 x3 x4 x5 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact q_lo (fun o => qHalf (pr x1 x2 x3 0 o) (tab x4 o) (tab x5 o)) (pr x1 x2 x3 0 0) (tab x4 0) (tab x5 0) 0 128 0 slices_S256x1024_o0_0_S256x128 slices_S256x1024_o0_128_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 0 128 0 slices_S256x1024_o0_0_S256x128 slices_S256x1024_o0_128_S256x128 shapeCasts_S256x128_S1x256x128 rfl rfl rfl rfl x y (by omega) (by omega)
    | exact q_lo (fun o => qHalf (pr x1 x2 x3 0 o) (tab x4 o) (tab x5 o)) (pr x1 x2 x3 0 0) (tab x4 0) (tab x5 0) 256 384 0 slices_S256x1024_o0_256_S256x128 slices_S256x1024_o0_384_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 256 384 0 slices_S256x1024_o0_256_S256x128 slices_S256x1024_o0_384_S256x128 shapeCasts_S256x128_S1x256x128 rfl rfl rfl rfl x y (by omega) (by omega)
    | exact q_lo (fun o => qHalf (pr x1 x2 x3 0 o) (tab x4 o) (tab x5 o)) (pr x1 x2 x3 0 0) (tab x4 0) (tab x5 0) 512 640 0 slices_S256x1024_o0_512_S256x128 slices_S256x1024_o0_640_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 512 640 0 slices_S256x1024_o0_512_S256x128 slices_S256x1024_o0_640_S256x128 shapeCasts_S256x128_S1x256x128 rfl rfl rfl rfl x y (by omega) (by omega)
    | exact q_lo (fun o => qHalf (pr x1 x2 x3 0 o) (tab x4 o) (tab x5 o)) (pr x1 x2 x3 0 0) (tab x4 0) (tab x5 0) 768 896 0 slices_S256x1024_o0_768_S256x128 slices_S256x1024_o0_896_S256x128 shapeCasts_S256x128_S1x256x128 rfl rfl rfl rfl x y (by omega) (by omega)
    | exact q_hi (fun o => qHalf (pr x1 x2 x3 0 o) (tab x4 o) (tab x5 o)) (pr x1 x2 x3 0 0) (tab x4 0) (tab x5 0) 768 896 0 slices_S256x1024_o0_768_S256x128 slices_S256x1024_o0_896_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 0 128 256 slices_S256x1024_o0_0_S256x128 slices_S256x1024_o0_128_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 0 128 256 slices_S256x1024_o0_0_S256x128 slices_S256x1024_o0_128_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 256 384 256 slices_S256x1024_o0_256_S256x128 slices_S256x1024_o0_384_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 256 384 256 slices_S256x1024_o0_256_S256x128 slices_S256x1024_o0_384_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 512 640 256 slices_S256x1024_o0_512_S256x128 slices_S256x1024_o0_640_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 512 640 256 slices_S256x1024_o0_512_S256x128 slices_S256x1024_o0_640_S256x128 shapeCasts_S256x128_S1x256x128 rfl rfl rfl rfl x y (by omega) (by omega)
    | exact q_lo (fun o => qHalf (pr x1 x2 x3 0 o) (tab x4 o) (tab x5 o)) (pr x1 x2 x3 0 256) (tab x4 256) (tab x5 256) 768 896 256 slices_S256x1024_o0_768_S256x128 slices_S256x1024_o0_896_S256x128 shapeCasts_S256x128_S1x256x128 rfl rfl rfl rfl x y (by omega) (by omega)
    | exact q_hi (fun o => qHalf (pr x1 x2 x3 0 o) (tab x4 o) (tab x5 o)) (pr x1 x2 x3 0 256) (tab x4 256) (tab x5 256) 768 896 256 slices_S256x1024_o0_768_S256x128 slices_S256x1024_o0_896_S256x128 shapeCasts_S256x128_S1x256x128 rfl rfl rfl rfl x y (by omega) (by omega)

set_option maxHeartbeats 6400000 in
theorem out0_B_7_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = kBlk x1 x2 x3 x4 x5 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact k_lo (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl x y (by omega) (by omega)
    | exact k_lo (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl x y (by omega) (by omega)
    | exact k_lo (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl x y (by omega) (by omega)
    | exact k_lo (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl x y (by omega) (by omega)
    | exact k_hi (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl x y (by omega) (by omega)
    | exact k_lo (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl x y (by omega) (by omega)
    | exact k_hi (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl x y (by omega) (by omega)

set_option maxHeartbeats 6400000 in
theorem out0_B_8_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = pBlk x1 x2 x3 2 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 2 o)) (pr x1 x2 x3 2 0) 0 shapeCasts_S256x1024_S1x256x1024 rfl rfl x y (by omega) (by omega)
    | exact plain_at (fun o => plain (pr x1 x2 x3 2 o)) (pr x1 x2 x3 2 256) 256 shapeCasts_S256x1024_S1x256x1024 rfl rfl x y (by omega) (by omega)

set_option maxHeartbeats 6400000 in
theorem out0_B_9_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = pBlk x1 x2 x3 3 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 3 o)) (pr x1 x2 x3 3 0) 0 shapeCasts_S256x1024_S1x256x1024 rfl rfl x y (by omega) (by omega)
    | exact plain_at (fun o => plain (pr x1 x2 x3 3 o)) (pr x1 x2 x3 3 256) 256 shapeCasts_S256x1024_S1x256x1024 rfl rfl x y (by omega) (by omega)

set_option maxHeartbeats 6400000 in
theorem out0_B_10_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = zBlk x1 x2 x3 := by
  funext y
  frame_open
  simp (disch := decide) only [↓ View.readCov_skip, ↓ View.readCov_cons_toLoadRect, ↓ View.readCov_fill]
  frame_out
  try simp only [ld_half, ld_colsOf, ld_tab, ld_slab, ld_row]
  rw [read_weave _ (pr x1 x2 x3 4 0) (pr x1 x2 x3 4 256) 0 0 _ _ _ _ _ _ _ _ _ _ _ _ _ _ ?_ ?_ ?_ ?_]
  rotate_left
  · exact slice_piece _ 0 0 slices_S256x1024_o0_0_S128x128 shapeCasts_S128x128_S1x128x128
  · exact slice_piece _ 128 0 slices_S256x1024_o128_0_S128x128 shapeCasts_S128x128_S1x128x128
  · exact slice_piece _ 0 0 slices_S256x1024_o0_0_S128x128 shapeCasts_S128x128_S1x128x128
  · exact slice_piece _ 128 0 slices_S256x1024_o128_0_S128x128 shapeCasts_S128x128_S1x128x128
  rw [read_weave _ (pr x1 x2 x3 4 0) (pr x1 x2 x3 4 256) 1 128 _ _ _ _ _ _ _ _ _ _ _ _ _ _ ?_ ?_ ?_ ?_]
  rotate_left
  · exact slice_piece _ 0 128 slices_S256x1024_o0_128_S128x128 shapeCasts_S128x128_S1x128x128
  · exact slice_piece _ 128 128 slices_S256x1024_o128_128_S128x128 shapeCasts_S128x128_S1x128x128
  · exact slice_piece _ 0 128 slices_S256x1024_o0_128_S128x128 shapeCasts_S128x128_S1x128x128
  · exact slice_piece _ 128 128 slices_S256x1024_o128_128_S128x128 shapeCasts_S128x128_S1x128x128
  rw [read_weave _ (pr x1 x2 x3 4 0) (pr x1 x2 x3 4 256) 2 256 _ _ _ _ _ _ _ _ _ _ _ _ _ _ ?_ ?_ ?_ ?_]
  rotate_left
  · exact slice_piece _ 0 256 slices_S256x1024_o0_256_S128x128 shapeCasts_S128x128_S1x128x128
  · exact slice_piece _ 128 256 slices_S256x1024_o128_256_S128x128 shapeCasts_S128x128_S1x128x128
  · exact slice_piece _ 0 256 slices_S256x1024_o0_256_S128x128 shapeCasts_S128x128_S1x128x128
  · exact slice_piece _ 128 256 slices_S256x1024_o128_256_S128x128 shapeCasts_S128x128_S1x128x128
  rw [read_weave _ (pr x1 x2 x3 4 0) (pr x1 x2 x3 4 256) 3 384 _ _ _ _ _ _ _ _ _ _ _ _ _ _ ?_ ?_ ?_ ?_]
  rotate_left
  · exact slice_piece _ 0 384 slices_S256x1024_o0_384_S128x128 shapeCasts_S128x128_S1x128x128
  · exact slice_piece _ 128 384 slices_S256x1024_o128_384_S128x128 shapeCasts_S128x128_S1x128x128
  · exact slice_piece _ 0 384 slices_S256x1024_o0_384_S128x128 shapeCasts_S128x128_S1x128x128
  · exact slice_piece _ 128 384 slices_S256x1024_o128_384_S128x128 shapeCasts_S128x128_S1x128x128
  rw [read_weave _ (pr x1 x2 x3 4 0) (pr x1 x2 x3 4 256) 4 512 _ _ _ _ _ _ _ _ _ _ _ _ _ _ ?_ ?_ ?_ ?_]
  rotate_left
  · exact slice_piece _ 0 512 slices_S256x1024_o0_512_S128x128 shapeCasts_S128x128_S1x128x128
  · exact slice_piece _ 128 512 slices_S256x1024_o128_512_S128x128 shapeCasts_S128x128_S1x128x128
  · exact slice_piece _ 0 512 slices_S256x1024_o0_512_S128x128 shapeCasts_S128x128_S1x128x128
  · exact slice_piece _ 128 512 slices_S256x1024_o128_512_S128x128 shapeCasts_S128x128_S1x128x128
  rw [read_weave _ (pr x1 x2 x3 4 0) (pr x1 x2 x3 4 256) 5 640 _ _ _ _ _ _ _ _ _ _ _ _ _ _ ?_ ?_ ?_ ?_]
  rotate_left
  · exact slice_piece _ 0 640 slices_S256x1024_o0_640_S128x128 shapeCasts_S128x128_S1x128x128
  · exact slice_piece _ 128 640 slices_S256x1024_o128_640_S128x128 shapeCasts_S128x128_S1x128x128
  · exact slice_piece _ 0 640 slices_S256x1024_o0_640_S128x128 shapeCasts_S128x128_S1x128x128
  · exact slice_piece _ 128 640 slices_S256x1024_o128_640_S128x128 shapeCasts_S128x128_S1x128x128
  rw [read_weave _ (pr x1 x2 x3 4 0) (pr x1 x2 x3 4 256) 6 768 _ _ _ _ _ _ _ _ _ _ _ _ _ _ ?_ ?_ ?_ ?_]
  rotate_left
  · exact slice_piece _ 0 768 slices_S256x1024_o0_768_S128x128 shapeCasts_S128x128_S1x128x128
  · exact slice_piece _ 128 768 slices_S256x1024_o128_768_S128x128 shapeCasts_S128x128_S1x128x128
  · exact slice_piece _ 0 768 slices_S256x1024_o0_768_S128x128 shapeCasts_S128x128_S1x128x128
  · exact slice_piece _ 128 768 slices_S256x1024_o128_768_S128x128 shapeCasts_S128x128_S1x128x128
  rw [read_weave _ (pr x1 x2 x3 4 0) (pr x1 x2 x3 4 256) 7 896 _ _ _ _ _ _ _ _ _ _ _ _ _ _ ?_ ?_ ?_ ?_]
  rotate_left
  · exact slice_piece _ 0 896 slices_S256x1024_o0_896_S128x128 shapeCasts_S128x128_S1x128x128
  · exact slice_piece _ 128 896 slices_S256x1024_o128_896_S128x128 shapeCasts_S128x128_S1x128x128
  · exact slice_piece _ 0 896 slices_S256x1024_o0_896_S128x128 shapeCasts_S128x128_S1x128x128
  · exact slice_piece _ 128 896 slices_S256x1024_o128_896_S128x128 shapeCasts_S128x128_S1x128x128
  canon_tiles x h
  all_goals first
    | exact woven_at (pr x1 x2 x3 4 0) (pr x1 x2 x3 4 256) y x 0 rfl (by omega) (by omega)
    | exact woven_at (pr x1 x2 x3 4 0) (pr x1 x2 x3 4 256) y x 128 rfl (by omega) (by omega)
    | exact woven_at (pr x1 x2 x3 4 0) (pr x1 x2 x3 4 256) y x 256 rfl (by omega) (by omega)
    | exact woven_at (pr x1 x2 x3 4 0) (pr x1 x2 x3 4 256) y x 384 rfl (by omega) (by omega)
    | exact woven_at (pr x1 x2 x3 4 0) (pr x1 x2 x3 4 256) y x 512 rfl (by omega) (by omega)
    | exact woven_at (pr x1 x2 x3 4 0) (pr x1 x2 x3 4 256) y x 640 rfl (by omega) (by omega)
    | exact woven_at (pr x1 x2 x3 4 0) (pr x1 x2 x3 4 256) y x 768 rfl (by omega) (by omega)
    | exact woven_at (pr x1 x2 x3 4 0) (pr x1 x2 x3 4 256) y x 896 rfl (by omega) (by omega)

set_option maxHeartbeats 6400000 in
theorem out0_B_11_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = pBlk x1 x2 x3 5 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 5 o)) (pr x1 x2 x3 5 0) 0 shapeCasts_S256x1024_S1x256x1024 rfl rfl x y (by omega) (by omega)
    | exact plain_at (fun o => plain (pr x1 x2 x3 5 o)) (pr x1 x2 x3 5 256) 256 shapeCasts_S256x1024_S1x256x1024 rfl rfl x y (by omega) (by omega)

set_option maxHeartbeats 6400000 in
theorem out0_B_12_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = pBlk x1 x2 x3 6 := by
  funext y
  frame_open
  simp (disch := decide) only [↓ View.readCov_skip, ↓ View.readCov_cons_toLoadRect, ↓ View.readCov_fill]
  frame_out
  try simp only [ld_half, ld_colsOf, ld_tab, ld_slab, ld_row]
  canon_tiles x h
  all_goals first
    | exact plain_at (fun o => plain (pr x1 x2 x3 6 o)) (pr x1 x2 x3 6 0) 0 shapeCasts_S256x1024_S1x256x1024 rfl rfl x y (by omega) (by omega)
    | exact plain_at (fun o => plain (pr x1 x2 x3 6 o)) (pr x1 x2 x3 6 256) 256 shapeCasts_S256x1024_S1x256x1024 rfl rfl x y (by omega) (by omega)

set_option maxHeartbeats 6400000 in
theorem out0_B_13_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = behindOut (fun h => unwrap (slab xs1 h)) (fun h => slab xs2 h) (fun h => row xs3 h) (kBlk x1 x2 x3 x4 x5) (pBlk x1 x2 x3 2) := by
  funext y
  frame_open
  simp (disch := decide) only [↓ View.readCov_skip, ↓ View.readCov_cons_toLoadRect, ↓ View.readCov_fill]
  frame_out
  try simp only [ld_half, ld_colsOf, ld_tab, ld_slab, ld_row]
  rw [read_two _ (kBlk x1 x2 x3 x4 x5) 256 0 128 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  rw [read_part _ (pBlk x1 x2 x3 2) 256 0 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 256 384 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  rw [read_part _ (pBlk x1 x2 x3 2) 256 256 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 512 640 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  rw [read_part _ (pBlk x1 x2 x3 2) 256 512 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 768 896 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  rw [read_part _ (pBlk x1 x2 x3 2) 256 768 _ _ _ _ ?_]
  rotate_left
  · exact fun l y h1 h2 => plain_at (fun o => plain (pr x1 x2 x3 2 o)) (pr x1 x2 x3 2 256) 256 shapeCasts_S256x1024_S1x256x1024 rfl rfl l y h1 h2
  canon_tiles x h
  all_goals first
    | refine Eq.trans ?_ (behindOut_at _ _ _ _ _ y x 0 0 (by omega) (by omega) (by omega) (by omega)).symm; rfl
    | refine Eq.trans ?_ (behindOut_at _ _ _ _ _ y x 0 1 (by omega) (by omega) (by omega) (by omega)).symm; rfl
    | refine Eq.trans ?_ (behindOut_at _ _ _ _ _ y x 0 2 (by omega) (by omega) (by omega) (by omega)).symm; rfl
    | refine Eq.trans ?_ (behindOut_at _ _ _ _ _ y x 0 3 (by omega) (by omega) (by omega) (by omega)).symm; rfl
    | refine Eq.trans ?_ (behindOut_at _ _ _ _ _ y x 1 0 (by omega) (by omega) (by omega) (by omega)).symm; rfl
    | refine Eq.trans ?_ (behindOut_at _ _ _ _ _ y x 1 1 (by omega) (by omega) (by omega) (by omega)).symm; rfl
    | refine Eq.trans ?_ (behindOut_at _ _ _ _ _ y x 1 2 (by omega) (by omega) (by omega) (by omega)).symm; rfl
    | refine Eq.trans ?_ (behindOut_at _ _ _ _ _ y x 1 3 (by omega) (by omega) (by omega) (by omega)).symm; rfl

set_option maxHeartbeats 6400000 in
theorem sout0_B_1_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x2x4x256x256 .bf16) (harg15 : arg15.IsWhole) (arg16 : Memref sig .tc .vmem S8x512x128 .f32) (harg16 : arg16.IsWhole) (arg17 : Memref sig .tc .vmem S4x256x256 .f32) (harg17 : arg17.IsWhole) (arg18 : Memref sig .tc .vmem S4x256x256 .bf16) (harg18 : arg18.IsWhole) (arg19 : Memref sig .tc .vmem S4x1x256 .f32) (harg19 : arg19.IsWhole) (hc0 : ¬cond0_0 i)
    (x0 : Vec F S4 .f32) (x1 : Vec F S1x512x1024 .f32) (x2 : Vec F S1x1024 .f32) (x3 : Vec F S1024x7168 .bf16) (x4 : Vec F S512x128 .f32) (x5 : Vec F S512x128 .f32) (xs1 : Vec F S4x256x256 .f32) (xs2 : Vec F S4x256x256 .bf16) (xs3 : Vec F S4x1x256 .f32)  : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs1 xs2 xs3 = slabs (φ := .f32) fun h => wrap (stN ((fun h => unwrap (slab xs1 h)) h) (kBlk x1 x2 x3 x4 x5) (pBlk x1 x2 x3 2) ((fun h => slab xs2 h) h) ((fun h => row xs3 h) h) h 2) := by
  funext y
  frame_open
  simp (disch := decide) only [↓ View.readCov_skip, ↓ View.readCov_cons_toLoadRect, ↓ View.readCov_fill]
  frame_out
  try simp only [ld_half, ld_colsOf, ld_tab, ld_slab, ld_row]
  rw [read_two _ (kBlk x1 x2 x3 x4 x5) 256 0 128 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 0 128 256 slices_S256x1024_o0_0_S256x128 slices_S256x1024_o0_128_S256x128 shapeCasts_S256x128_S1x256x128 rfl rfl rfl rfl l y h1 h2
  rw [read_part _ (pBlk x1 x2 x3 2) 256 0 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 256 384 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 256 384 256 slices_S256x1024_o0_256_S256x128 slices_S256x1024_o0_384_S256x128 shapeCasts_S256x128_S1x256x128 rfl rfl rfl rfl l y h1 h2
  rw [read_part _ (pBlk x1 x2 x3 2) 256 256 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 512 640 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 512 640 256 slices_S256x1024_o0_512_S256x128 slices_S256x1024_o0_640_S256x128 shapeCasts_S256x128_S1x256x128 rfl rfl rfl rfl l y h1 h2
  rw [read_part _ (pBlk x1 x2 x3 2) 256 512 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 256 768 896 _ _ _ _ _ _ rfl ?_ ?_]
  rotate_left
  · exact fun l y h1 h2 => k_lo (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  · exact fun l y h1 h2 => k_hi (fun o => kHalf (pr x1 x2 x3 1 o) (tab x4 o) (tab x5 o)) (pr x1 x2 x3 1 256) (tab x4 256) (tab x5 256) 768 896 256 slices_S256x1024_o0_768_S256x128 slices_S256x1024_o0_896_S256x128 shapeCasts_S256x128_S1x256x128 rfl rfl rfl rfl l y h1 h2
  rw [read_part _ (pBlk x1 x2 x3 2) 256 768 _ _ _ _ ?_]
  rotate_left
  · exact fun l y h1 h2 => plain_at (fun o => plain (pr x1 x2 x3 2 o)) (pr x1 x2 x3 2 256) 256 shapeCasts_S256x1024_S1x256x1024 rfl rfl l y h1 h2
  rw [read_two _ (kBlk x1 x2 x3 x4 x5) 0 0 128 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 0 128 0 slices_S256x1024_o0_0_S256x128 slices_S256x1024_o0_128_S256x128 shapeCasts_S256x128_S1x256x128 rfl rfl rfl rfl l y h1 h2
  rw [read_part _ (pBlk x1 x2 x3 2) 0 0 _ _ _ _ ?_]
  rotate_left
  · exact fun l y h1 h2 => plain_at (fun o => plain (pr x1 x2 x3 2 o)) (pr x1 x2 x3 2 0) 0 shapeCasts_S256x1024_S1x256x1024 rfl rfl l y h1 h2
  rw [read_two _ (kBlk x1 x2 x3 x4 x5) 0 256 384 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 256 384 0 slices_S256x1024_o0_256_S256x128 slices_S256x1024_o0_384_S256x128 shapeCasts_S256x128_S1x256x128 rfl rfl rfl rfl l y h1 h2
  rw [read_part _ (pBlk x1 x2 x3 2) 0 256 _ _ _ _ ?_]
  rotate_left
  · exact fun l y h1 h2 => plain_at (fun o => plain (pr x1 x2 x3 2 o)) (pr x1 x2 x3 2 0) 0 shapeCasts_S256x1024_S1x256x1024 rfl rfl l y h1 h2
  rw [read_two _ (kBlk x1 x2 x3 x4 x5) 0 512 640 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 512 640 0 slices_S256x1024_o0_512_S256x128 slices_S256x1024_o0_640_S256x128 shapeCasts_S256x128_S1x256x128 rfl rfl rfl rfl l y h1 h2
  rw [read_part _ (pBlk x1 x2 x3 2) 0 512 _ _ _ _ ?_]
  rotate_left
  · exact fun l y h1 h2 => plain_at (fun o => plain (pr x1 x2 x3 2 o)) (pr x1 x2 x3 2 0) 0 shapeCasts_S256x1024_S1x256x1024 rfl rfl l y h1 h2
  rw [read_two _ (kBlk x1 x2 x3 x4 x5) 0 768 896 _ _ _ _ _ _ rfl ?_ ?_]
  rotate_left
  · exact fun l y h1 h2 => k_lo (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl l y h1 h2
  · exact fun l y h1 h2 => k_hi (fun o => kHalf (pr x1 x2 x3 1 o) (tab x4 o) (tab x5 o)) (pr x1 x2 x3 1 0) (tab x4 0) (tab x5 0) 768 896 0 slices_S256x1024_o0_768_S256x128 slices_S256x1024_o0_896_S256x128 shapeCasts_S256x128_S1x256x128 rfl rfl rfl rfl l y h1 h2
  rw [read_part _ (pBlk x1 x2 x3 2) 0 768 _ _ _ _ ?_]
  rotate_left
  · exact fun l y h1 h2 => plain_at (fun o => plain (pr x1 x2 x3 2 o)) (pr x1 x2 x3 2 0) 0 shapeCasts_S256x1024_S1x256x1024 rfl rfl l y h1 h2
  canon_tiles x h
  all_goals first
    | refine Eq.trans ?_ (slabs_at _ y x 0 (by omega) (by omega) (by omega)).symm; rfl
    | refine Eq.trans ?_ (slabs_at _ y x 1 (by omega) (by omega) (by omega)).symm; rfl
    | refine Eq.trans ?_ (slabs_at _ y x 2 (by omega) (by omega) (by omega)).symm; rfl
    | refine Eq.trans ?_ (slabs_at _ y x 3 (by omega) (by omega) (by omega)).symm; rfl

end Cert.InProjIdeal.Inp
end
-- ==== Proof.InPoints.lean ====
/-
The projection kernel's 64 points: point `t` is block `31 - t % 32` of batch `t / 32`, so a batch's blocks
come last to first.  What the windows hold at a point, and what each point leaves, over any floats.
-/
module

public import proofs.«01_k».proof.Proof.InBodyA
public import proofs.«01_k».proof.Proof.InBodyB

@[expose] public section

set_option maxRecDepth 16384

noncomputable section

namespace Cert.InProjIdeal.Inp

open Cert.InProjIdeal Cert.InProjIdeal.Gen Idealize.ShloMosaic Idealize.ShloMosaic.TcCoe Idealize.SL.Sem

variable {F : FTy → Type} [FloatOps F]
variable (m : (ℓ : Loc nD τ sig) → Buf (Elt F) ℓ) (c : Dev nD)

theorem idx : ∀ t : Fin cfg0.N, win0_0.index t = ![0] ∧ win0_1.index t = ![t.val / 32, 31 - t.val % 32, 0] ∧ win0_2.index t = ![0, 0]
    ∧ win0_3.index t = ![0, 0] ∧ win0_4.index t = ![31 - t.val % 32, 0] ∧ win0_5.index t = ![31 - t.val % 32, 0]
    ∧ win0_6.index t = ![t.val / 32, 31 - t.val % 32, 0] ∧ win0_7.index t = ![t.val / 32, 31 - t.val % 32, 0] ∧ win0_8.index t = ![t.val / 32, 31 - t.val % 32, 0] ∧ win0_9.index t = ![t.val / 32, 31 - t.val % 32, 0]
    ∧ win0_10.index t = ![t.val / 32, 31 - t.val % 32, 0] ∧ win0_11.index t = ![t.val / 32, 31 - t.val % 32, 0] ∧ win0_12.index t = ![t.val / 32, 31 - t.val % 32, 0]
    ∧ win0_13.index t = ![t.val / 32, 31 - t.val % 32, 0, 0, 0] :=
  (by decide +kernel : ∀ t : Fin grid0.N, _)

theorem flushes : ∀ t : Fin cfg0.N, (cfg0.win 6).flush t = true ∧ (cfg0.win 7).flush t = true ∧ (cfg0.win 8).flush t = true
    ∧ (cfg0.win 9).flush t = true ∧ (cfg0.win 10).flush t = true ∧ (cfg0.win 11).flush t = true ∧ (cfg0.win 12).flush t = true
    ∧ (cfg0.win 13).flush t = true :=
  (by decide +kernel : ∀ t : Fin grid0.N, win0_6.flush t = true ∧ win0_7.flush t = true ∧ win0_8.flush t = true
    ∧ win0_9.flush t = true ∧ win0_10.flush t = true ∧ win0_11.flush t = true ∧ win0_12.flush t = true ∧ win0_13.flush t = true)

theorem t_lt (t : Fin cfg0.N) : t.val < 64 := lt_of_lt_of_eq t.isLt (show cfg0.N = 64 from N_0)

/-- The arguments, as arrays. -/
def xA : Vec F S2x16384x1024 .f32 := m ((c.tc : Thread nD τ).loc main_arg0)
def nA : Vec F S1x1024 .f32 := m ((c.tc : Thread nD τ).loc main_arg1)
def wA : Vec F S1024x7168 .bf16 := m ((c.tc : Thread nD τ).loc main_arg2)
def cA : Vec F S16384x128 .f32 := m ((c.tc : Thread nD τ).loc main_arg3)
def sA : Vec F S16384x128 .f32 := m ((c.tc : Thread nD τ).loc main_arg4)
def dA : Vec F S4 .f32 := m ((c.tc : Thread nD τ).loc main_arg5)

theorem blk0 (t : Fin cfg0.N) : iblk m c 0 t = dA m c := by
  obtain ⟨e0, e1, e2, e3, e4, e5, e6, e7, e8, e9, e10, e11, e12, e13⟩ := idx t
  funext y
  simp only [dA]
  blk_ext [iblk, V, e0]

theorem blk2 (t : Fin cfg0.N) : iblk m c 2 t = nA m c := by
  obtain ⟨e0, e1, e2, e3, e4, e5, e6, e7, e8, e9, e10, e11, e12, e13⟩ := idx t
  funext y
  simp only [nA]
  blk_ext [iblk, V, e2]

theorem blk3 (t : Fin cfg0.N) : iblk m c 3 t = wA m c := by
  obtain ⟨e0, e1, e2, e3, e4, e5, e6, e7, e8, e9, e10, e11, e12, e13⟩ := idx t
  funext y
  simp only [wA]
  blk_ext [iblk, V, e3]

theorem blk1 (t : Fin cfg0.N) (r : Fin 512) (o : Fin 1024) : iblk m c 1 t (ix3 0 r o)
    = xA m c (ix3 ⟨t.val / 32, by have := t_lt t; omega⟩ ⟨512 * (31 - t.val % 32) + r.val, by omega⟩ o) := by
  obtain ⟨e0, e1, e2, e3, e4, e5, e6, e7, e8, e9, e10, e11, e12, e13⟩ := idx t
  simp only [xA]
  blk_ext [iblk, V, e1]

theorem blk4 (t : Fin cfg0.N) (r : Fin 512) (o : Fin 128) : iblk m c 4 t (ix2 r o)
    = cA m c (ix2 ⟨512 * (31 - t.val % 32) + r.val, by omega⟩ o) := by
  obtain ⟨e0, e1, e2, e3, e4, e5, e6, e7, e8, e9, e10, e11, e12, e13⟩ := idx t
  simp only [cA]
  blk_ext [iblk, V, e4]

theorem blk5 (t : Fin cfg0.N) (r : Fin 512) (o : Fin 128) : iblk m c 5 t (ix2 r o)
    = sA m c (ix2 ⟨512 * (31 - t.val % 32) + r.val, by omega⟩ o) := by
  obtain ⟨e0, e1, e2, e3, e4, e5, e6, e7, e8, e9, e10, e11, e12, e13⟩ := idx t
  simp only [sA]
  blk_ext [iblk, V, e5]

/-- The tables of head `h`. -/
def Z (h : ℕ) : Vec F S1x256x256 .bf16 := tZ (par (dA m c) h)
def G (h : ℕ) : Vec F S1x1x256 .f32 := tG (par (dA m c) h)

/-- The states before point `t`, and after it. -/
def before (t : Fin cfg0.N) (h : ℕ) : FVec F S256x256 .f32 :=
  if t.val % 32 = 0 then unwrap (slab (k0_pay4 (F := F)) h)
  else unwrap (slab (outsAt0 m c (t.val - 1) (Nat.lt_of_le_of_lt (Nat.sub_le _ _) t.isLt)).2.2.2.2.2.2.2.2.1 h)
def after (t : Fin cfg0.N) : Vec F S4x256x256 .f32 :=
  slabs (φ := .f32) fun h => wrap (stN (before m c t h) (kBlk (iblk m c 1 t) (iblk m c 2 t) (iblk m c 3 t) (iblk m c 4 t) (iblk m c 5 t)) (pBlk (iblk m c 1 t) (iblk m c 2 t) (iblk m c 3 t) 2) (Z m c h) (G m c h) h 2)

/-- The two tables after every point, and the point's blocks and states. -/
structure At (t : Fin cfg0.N) : Prop where
  q : (outsAt0 m c t.val t.isLt).1 = qBlk (iblk m c 1 t) (iblk m c 2 t) (iblk m c 3 t) (iblk m c 4 t) (iblk m c 5 t)
  k : (outsAt0 m c t.val t.isLt).2.1 = kBlk (iblk m c 1 t) (iblk m c 2 t) (iblk m c 3 t) (iblk m c 4 t) (iblk m c 5 t)
  v : (outsAt0 m c t.val t.isLt).2.2.1 = pBlk (iblk m c 1 t) (iblk m c 2 t) (iblk m c 3 t) 2
  g : (outsAt0 m c t.val t.isLt).2.2.2.1 = pBlk (iblk m c 1 t) (iblk m c 2 t) (iblk m c 3 t) 3
  z : (outsAt0 m c t.val t.isLt).2.2.2.2.1 = zBlk (iblk m c 1 t) (iblk m c 2 t) (iblk m c 3 t)
  r : (outsAt0 m c t.val t.isLt).2.2.2.2.2.1 = pBlk (iblk m c 1 t) (iblk m c 2 t) (iblk m c 3 t) 5
  f : (outsAt0 m c t.val t.isLt).2.2.2.2.2.2.1 = pBlk (iblk m c 1 t) (iblk m c 2 t) (iblk m c 3 t) 6
  b : (outsAt0 m c t.val t.isLt).2.2.2.2.2.2.2.1 = behindOut (before m c t) (Z m c) (G m c) (kBlk (iblk m c 1 t) (iblk m c 2 t) (iblk m c 3 t) (iblk m c 4 t) (iblk m c 5 t)) (pBlk (iblk m c 1 t) (iblk m c 2 t) (iblk m c 3 t) 2)
  st : (outsAt0 m c t.val t.isLt).2.2.2.2.2.2.2.2.1 = after m c t
  tz : (outsAt0 m c t.val t.isLt).2.2.2.2.2.2.2.2.2.1 = slabs (Z m c)
  tg : (outsAt0 m c t.val t.isLt).2.2.2.2.2.2.2.2.2.2 = rows (G m c)

theorem at_A (t : Fin cfg0.N) (h0 : t.val % 32 = 0) : At m c t := by
  have hb : before m c t = fun h => unwrap (slab (k0_pay4 (F := F)) h) := funext fun h => if_pos h0
  constructor <;> rw [outsAt0_A m c t h0] <;> dsimp only
  · rw [out0_A_6_eq]
  · rw [out0_A_7_eq]
  · rw [out0_A_8_eq]
  · rw [out0_A_9_eq]
  · rw [out0_A_10_eq]
  · rw [out0_A_11_eq]
  · rw [out0_A_12_eq]
  · rw [out0_A_13_eq, hb, blk0]; rfl
  · rw [sout0_A_1_eq, blk0]; simp only [after, hb]; rfl
  · rw [sout0_A_2_eq, blk0]; rfl
  · rw [sout0_A_3_eq, blk0]; rfl

theorem behindOut_congr {st st' : ℕ → FVec F S256x256 .f32} {Z Z' : ℕ → Vec F S1x256x256 .bf16} {G G' : ℕ → Vec F S1x1x256 .f32}
    (k v : Vec F S1x512x1024 .bf16) (e1 : ∀ h < 4, st h = st' h) (e2 : ∀ h < 4, Z h = Z' h) (e3 : ∀ h < 4, G h = G' h) :
    behindOut st Z G k v = behindOut st' Z' G' k v := by
  funext y
  have hh : (y 2).val < 4 := (y 2).isLt
  simp only [behindOut, e1 _ hh, e2 _ hh, e3 _ hh]

theorem slabs_congr {φ : EltTy} {f g : ℕ → Vec F S1x256x256 φ} (e : ∀ h < 4, f h = g h) : slabs f = slabs g := by
  funext y
  have hy : (y 0).val < 4 := (y 0).isLt
  simp only [slabs, e _ hy]

theorem at_B (t : Fin cfg0.N) (h0 : ¬t.val % 32 = 0)
    (P : At m c ⟨t.val - 1, Nat.lt_of_le_of_lt (Nat.sub_le _ _) t.isLt⟩) : At m c t := by
  have hb : before m c t = fun h => unwrap (slab (outsAt0 m c (t.val - 1) (Nat.lt_of_le_of_lt (Nat.sub_le _ _) t.isLt)).2.2.2.2.2.2.2.2.1 h) := funext fun h => if_neg h0
  have tz := P.tz
  have tg := P.tg
  constructor <;> rw [outsAt0_B m c t h0] <;> dsimp only
  · rw [out0_B_6_eq]
  · rw [out0_B_7_eq]
  · rw [out0_B_8_eq]
  · rw [out0_B_9_eq]
  · rw [out0_B_10_eq]
  · rw [out0_B_11_eq]
  · rw [out0_B_12_eq]
  · rw [out0_B_13_eq, hb, tz, tg]
    exact behindOut_congr _ _ (fun h hh => rfl) (fun h hh => slab_slabs _ h hh) (fun h hh => row_rows _ h hh)
  · rw [sout0_B_1_eq, tz, tg, after, hb]
    exact slabs_congr fun h hh => by dsimp only; rw [slab_slabs _ h hh, row_rows _ h hh]
  · exact tz
  · exact tg

theorem at_all : ∀ (n : ℕ) (hn : n < cfg0.N), At m c ⟨n, hn⟩
  | 0, hn => at_A m c ⟨0, hn⟩ (Nat.zero_mod _)
  | n + 1, hn => by
    by_cases h0 : (n + 1) % 32 = 0
    · exact at_A m c ⟨n + 1, hn⟩ h0
    · exact at_B m c ⟨n + 1, hn⟩ h0 (at_all n (by omega))

end Cert.InProjIdeal.Inp
end
-- ==== Proof.InRow.lean ====
/-
The arithmetic of one row of the layer's first projection, free of any program: the normed row against a
column of the weights, and the rotation of a head's two halves.
-/
module

public import Idealize.ShloMosaic.Lib.Pointwise

@[expose] public section

set_option maxRecDepth 16384

noncomputable section

namespace Cert.InRow

open Idealize.ShloMosaic

/-- The normed row, against a column of the weights. -/
def normed (x w : Fin 1024 → EReal) (k : Fin 1024) : EReal :=
  x k * Ideal.rsqrt (Ideal.div (∑ i, x i * x i) (Ideal.ofBits FTy.f32 0x44800000#32) + Ideal.ofBits FTy.f32 0x358637BD#32) * w k
def proj (x w col : Fin 1024 → EReal) : EReal := ∑ k, normed x w k * col k

/-- The column of the weights where entry `c` of projection `j` stands. -/
def colAt (j c : ℕ) : Fin 7168 := ⟨(1024 * j + c % 1024) % 7168, Nat.mod_lt _ (by decide)⟩

/-- The rotation of a row, head by head: each head's 256 entries are two halves. -/
def rot (p : ℕ → EReal) (C S : ℕ → EReal) (o : ℕ) : EReal :=
  if o % 256 < 128 then p o * C (o % 128) - p (o + 128) * S (o % 128) else p o * C (o % 128) + p (o - 128) * S (o % 128)

/-- A row of a table of 128 columns, at any column. -/
def wide (x : Fin 128 → EReal) (d : ℕ) : EReal := x ⟨d % 128, Nat.mod_lt _ (by decide)⟩

end Cert.InRow
end
-- ==== Proof.InStep.lean ====
/-
What the projection kernel's blocks hold at an index, at the ideal numbers.
-/
module

public import proofs.«01_k».proof.Proof.InBlocks
public import proofs.«01_k».proof.Proof.InRow

@[expose] public section

set_option maxRecDepth 16384

noncomputable section

namespace Cert.InProjIdeal.Inp

open Cert.InProjIdeal Cert.InProjIdeal.Gen Idealize.ShloMosaic Idealize.ShloMosaic.TcCoe Idealize.SL.Sem Cert.InRow

theorem projV_at (x : Vec Ideal S1x256x1024 .f32) (n : Vec Ideal S1x1024 .f32) (w : Vec Ideal S1024x1024 .bf16) (r : Fin 256) (e : Fin 1024) :
    projV (xbV x n) w (ix2 r e) = proj (fun k => x (ix3 0 r k)) (fun k => n (ix2 0 k)) (fun k => w (ix2 k e)) := by
  simp only [projV, xbV, proj, normed]
  pointwise [k0_pay16, k0_pay19]

/-- Projection `j` of token `r` of a block, at column `e`. -/
def P (x1 : Vec Ideal S1x512x1024 .f32) (x2 : Vec Ideal S1x1024 .f32) (x3 : Vec Ideal S1024x7168 .bf16) (j r : ℕ) (e : ℕ) : EReal :=
  proj (fun k => x1 (ix3 0 ⟨r % 512, Nat.mod_lt _ (by decide)⟩ k)) (fun k => x2 (ix2 0 k)) (fun k => x3 (ix2 k (colAt j e)))

theorem pr_at (x1 : Vec Ideal S1x512x1024 .f32) (x2 : Vec Ideal S1x1024 .f32) (x3 : Vec Ideal S1024x7168 .bf16) (j o : ℕ) (r : Fin 256) (e : Fin 1024) :
    pr x1 x2 x3 j o (ix2 r e) = P x1 x2 x3 j (o + r) e := by
  refine (projV_at _ _ _ r e).trans ?_
  simp only [P, half, colsOf, colAt]
  refine congrArg (proj _ _) (funext fun k => congrArg (fun z => x3 (ix2 k z)) (Fin.ext ?_))
  show (1024 * j + e.val) % 7168 = (1024 * j + e.val % 1024) % 7168
  rw [Nat.mod_eq_of_lt e.isLt]

theorem plainBlk_at (x1 : Vec Ideal S1x512x1024 .f32) (x2 : Vec Ideal S1x1024 .f32) (x3 : Vec Ideal S1024x7168 .bf16) (j : ℕ) (r : Fin 512) (e : Fin 1024) :
    pBlk x1 x2 x3 j (ix3 0 r e) = P x1 x2 x3 j r e := by
  have hr := r.isLt
  refine (pr_at x1 x2 x3 j (256 * (r.val / 256)) ⟨r.val % 256, Nat.mod_lt _ (by decide)⟩ e).trans ?_
  show P x1 x2 x3 j (256 * (r.val / 256) + r.val % 256) e = _
  rw [show 256 * (r.val / 256) + r.val % 256 = r.val by omega]

theorem lanes_at (x1 : Vec Ideal S1x512x1024 .f32) (x2 : Vec Ideal S1x1024 .f32) (x3 : Vec Ideal S1024x7168 .bf16) (j b o : ℕ) (r : Fin 256) (l : Fin 128)
    (n c : ℕ) (hn : b + r.val = n) (hc : o + l.val = c) (hlt : c < 1024) :
    lanes (pr x1 x2 x3 j b) o (ix2 r l) = P x1 x2 x3 j n c := by
  refine (pr_at x1 x2 x3 j b r ⟨(o + l.val) % 1024, Nat.mod_lt _ (by decide)⟩).trans ?_
  show P x1 x2 x3 j (b + r.val) ((o + l.val) % 1024) = _
  rw [hn, hc, Nat.mod_eq_of_lt hlt]

theorem tab_at (x : Vec Ideal S512x128 .f32) (b : ℕ) (r : Fin 256) (l : Fin 128) (n : Fin 512) (hn : b + r.val = n.val) :
    tab x b (ix2 r l) = wide (fun k => x (ix2 n k)) l.val := by
  have hl := l.isLt
  have hn' := n.isLt
  show x (ix2 ⟨(b + r.val) % 512, _⟩ l) = x (ix2 n ⟨l.val % 128, _⟩)
  congr 2
  · exact Fin.ext (by show (b + r.val) % 512 = n.val; omega)
  · exact Fin.ext (by show l.val = l.val % 128; omega)

theorem rotLo_at (p : FVec Ideal S256x1024 .f32) (C S : Vec Ideal S256x128 .f32) (o : ℕ) (i : S256x128.Idx) (h) :
    (truncf .bf16 (rotLo p C S o) h : FVec Ideal S256x128 .bf16) i = (show EReal from lanes p o i) * (show EReal from C i) - (show EReal from lanes p (o + 128) i) * (show EReal from S i) := rfl
theorem rotHi_at (p : FVec Ideal S256x1024 .f32) (C S : Vec Ideal S256x128 .f32) (o : ℕ) (i : S256x128.Idx) (h) :
    (truncf .bf16 (rotHi p C S o) h : FVec Ideal S256x128 .bf16) i = (show EReal from lanes p (o + 128) i) * (show EReal from C i) + (show EReal from lanes p o i) * (show EReal from S i) := rfl
theorem scaled_at (e : FVec Ideal S256x128 .f32) (i : S256x128.Idx) (h) :
    (truncf .bf16 (scaled e) h : FVec Ideal S256x128 .bf16) i = (show EReal from (truncf .bf16 e h : FVec Ideal S256x128 .bf16) i) * Ideal.ofBits FTy.f32 0x3D800000#32 := rfl

theorem kBlk_at (x1 : Vec Ideal S1x512x1024 .f32) (x2 : Vec Ideal S1x1024 .f32) (x3 : Vec Ideal S1024x7168 .bf16) (x4 x5 : Vec Ideal S512x128 .f32)
    (r : Fin 512) (e : Fin 1024) : kBlk x1 x2 x3 x4 x5 (ix3 0 r e)
      = rot (P x1 x2 x3 1 r) (wide fun k => x4 (ix2 r k)) (wide fun k => x5 (ix2 r k)) e := by
  have hr := r.isLt
  have he := e.isLt
  have hn : 256 * (r.val / 256) + r.val % 256 = r.val := by omega
  show kHalf (pr x1 x2 x3 1 (256 * (r.val / 256))) (tab x4 (256 * (r.val / 256))) (tab x5 (256 * (r.val / 256))) (ix2 ⟨r.val % 256, Nat.mod_lt _ (by decide)⟩ e) = _
  unfold kHalf joined
  show (if e.val % 256 < 128 then _ else _) = _
  unfold rot
  by_cases h : e.val % 256 < 128
  · rw [if_pos h, if_pos h]
    show (truncf .bf16 _ _ : FVec Ideal S256x128 .bf16) (ix2 ⟨r.val % 256, Nat.mod_lt _ (by decide)⟩ ⟨e.val % 128, Nat.mod_lt _ (by decide)⟩) = _
    rw [rotLo_at]
    dsimp only
    rw [lanes_at x1 x2 x3 1 _ _ _ _ r.val e.val hn (by show 256 * (e.val / 256) + e.val % 128 = e.val; omega) he,
      lanes_at x1 x2 x3 1 _ _ _ _ r.val (e.val + 128) hn (by show 256 * (e.val / 256) + 128 + e.val % 128 = e.val + 128; omega) (by omega),
      tab_at x4 _ _ _ r hn, tab_at x5 _ _ _ r hn]
  · rw [if_neg h, if_neg h]
    show (truncf .bf16 _ _ : FVec Ideal S256x128 .bf16) (ix2 ⟨r.val % 256, Nat.mod_lt _ (by decide)⟩ ⟨e.val % 128, Nat.mod_lt _ (by decide)⟩) = _
    rw [rotHi_at]
    dsimp only
    rw [lanes_at x1 x2 x3 1 _ _ _ _ r.val e.val hn (by show 256 * (e.val / 256) + 128 + e.val % 128 = e.val; omega) he,
      lanes_at x1 x2 x3 1 _ _ _ _ r.val (e.val - 128) hn (by show 256 * (e.val / 256) + e.val % 128 = e.val - 128; omega) (by omega),
      tab_at x4 _ _ _ r hn, tab_at x5 _ _ _ r hn]

theorem qBlk_at (x1 : Vec Ideal S1x512x1024 .f32) (x2 : Vec Ideal S1x1024 .f32) (x3 : Vec Ideal S1024x7168 .bf16) (x4 x5 : Vec Ideal S512x128 .f32)
    (r : Fin 512) (e : Fin 1024) : qBlk x1 x2 x3 x4 x5 (ix3 0 r e)
      = rot (P x1 x2 x3 0 r) (wide fun k => x4 (ix2 r k)) (wide fun k => x5 (ix2 r k)) e * Ideal.ofBits FTy.f32 0x3D800000#32 := by
  have hr := r.isLt
  have he := e.isLt
  have hn : 256 * (r.val / 256) + r.val % 256 = r.val := by omega
  show qHalf (pr x1 x2 x3 0 (256 * (r.val / 256))) (tab x4 (256 * (r.val / 256))) (tab x5 (256 * (r.val / 256))) (ix2 ⟨r.val % 256, Nat.mod_lt _ (by decide)⟩ e) = _
  unfold qHalf joined
  show (if e.val % 256 < 128 then _ else _) = _
  unfold rot
  by_cases h : e.val % 256 < 128
  · rw [if_pos h, if_pos h]
    show (truncf .bf16 _ _ : FVec Ideal S256x128 .bf16) (ix2 ⟨r.val % 256, Nat.mod_lt _ (by decide)⟩ ⟨e.val % 128, Nat.mod_lt _ (by decide)⟩) = _
    rw [scaled_at, rotLo_at]
    dsimp only
    rw [lanes_at x1 x2 x3 0 _ _ _ _ r.val e.val hn (by show 256 * (e.val / 256) + e.val % 128 = e.val; omega) he,
      lanes_at x1 x2 x3 0 _ _ _ _ r.val (e.val + 128) hn (by show 256 * (e.val / 256) + 128 + e.val % 128 = e.val + 128; omega) (by omega),
      tab_at x4 _ _ _ r hn, tab_at x5 _ _ _ r hn]
  · rw [if_neg h, if_neg h]
    show (truncf .bf16 _ _ : FVec Ideal S256x128 .bf16) (ix2 ⟨r.val % 256, Nat.mod_lt _ (by decide)⟩ ⟨e.val % 128, Nat.mod_lt _ (by decide)⟩) = _
    rw [scaled_at, rotHi_at]
    dsimp only
    rw [lanes_at x1 x2 x3 0 _ _ _ _ r.val e.val hn (by show 256 * (e.val / 256) + 128 + e.val % 128 = e.val; omega) he,
      lanes_at x1 x2 x3 0 _ _ _ _ r.val (e.val - 128) hn (by show 256 * (e.val / 256) + e.val % 128 = e.val - 128; omega) (by omega),
      tab_at x4 _ _ _ r hn, tab_at x5 _ _ _ r hn]

theorem lane_at (w : Vec Ideal S1x512x128 .f32) (r : Fin 512) (l : Fin 128) : lane w (ix3 0 r l) = w (ix3 0 r l) := by
  simp only [lane]
  pointwise [k0_pay165]

theorem zBlk_at (x1 : Vec Ideal S1x512x1024 .f32) (x2 : Vec Ideal S1x1024 .f32) (x3 : Vec Ideal S1024x7168 .bf16) (r : Fin 512) (e : Fin 1024) :
    zBlk x1 x2 x3 (ix3 0 r e) = P x1 x2 x3 4 (256 * (r.val / 256) + 128 * (r.val % 2) + r.val % 256 / 2) e := by
  have hr := r.isLt
  have he := e.isLt
  refine (lane_at _ r ⟨e.val % 128, Nat.mod_lt _ (by decide)⟩).trans ?_
  show (if r.val < 256 then pr x1 x2 x3 4 0 else pr x1 x2 x3 4 256) (ix2 ⟨(128 * (r.val % 2) + r.val % 256 / 2) % 256, Nat.mod_lt _ (by decide)⟩ ⟨(128 * (e.val / 128) + e.val % 128) % 1024, Nat.mod_lt _ (by decide)⟩) = _
  have e1 : (⟨(128 * (e.val / 128) + e.val % 128) % 1024, Nat.mod_lt _ (by decide)⟩ : Fin 1024) = e := Fin.ext (by show (128 * (e.val / 128) + e.val % 128) % 1024 = e.val; omega)
  rw [e1]
  by_cases h : r.val < 256
  · rw [if_pos h, pr_at]
    show P x1 x2 x3 4 (0 + (128 * (r.val % 2) + r.val % 256 / 2) % 256) e = _
    rw [show 0 + (128 * (r.val % 2) + r.val % 256 / 2) % 256 = 256 * (r.val / 256) + 128 * (r.val % 2) + r.val % 256 / 2 by omega]
  · rw [if_neg h, pr_at]
    show P x1 x2 x3 4 (256 + (128 * (r.val % 2) + r.val % 256 / 2) % 256) e = _
    rw [show 256 + (128 * (r.val % 2) + r.val % 256 / 2) % 256 = 256 * (r.val / 256) + 128 * (r.val % 2) + r.val % 256 / 2 by omega]

end Cert.InProjIdeal.Inp
end
-- ==== Proof.InMath.lean ====
/-
The real mathematics of the states of what lies behind each chunk, and that a finite row's projection and
rotation are real.
-/
module

public import proofs.«01_k».proof.Proof.Chunks
public import proofs.«01_k».proof.Proof.InRow

@[expose] public section

set_option maxRecDepth 16384

noncomputable section

namespace Cert.InRow

open Idealize.ShloMosaic Cert.Ret

/-- Keys against values of all positions from chunk `j` on, decayed by their distance from the chunk's start. -/
def behind (g : ℝ) (k : ℕ → ℕ → ℝ) (v : ℕ → ℝ) (j d : ℕ) : ℝ :=
  ∑ x ∈ Finset.range (16384 - 256 * j), g ^ x * k (256 * j + x) d * v (256 * j + x)

theorem behind_end (g : ℝ) (k : ℕ → ℕ → ℝ) (v : ℕ → ℝ) (d : ℕ) : behind g k v 64 d = 0 := by simp [behind]

/-- One chunk further to the front. -/
theorem behind_step (g : ℝ) (k : ℕ → ℕ → ℝ) (v : ℕ → ℝ) (j d : ℕ) (hj : j < 64) :
    behind g k v (j + 1) d * g ^ 256 + ∑ x ∈ Finset.range 256, k (256 * j + x) d * (v (256 * j + x) * g ^ x)
      = behind g k v j d := by
  simp only [behind]
  rw [show 16384 - 256 * j = 256 + (16384 - 256 * (j + 1)) by omega, Finset.sum_range_add, Finset.sum_mul, add_comm]
  congr 1
  · exact Finset.sum_congr rfl fun x _ => by ring
  · refine Finset.sum_congr rfl fun x _ => ?_
    rw [show 256 * j + (256 + x) = 256 * (j + 1) + x by ring, pow_add]; ring

/-- The same as a sum over all positions. -/
theorem behind_all (g : ℝ) (k : ℕ → ℕ → ℝ) (v : ℕ → ℝ) (j d : ℕ) (hj : j ≤ 64) :
    ∑ m ∈ Finset.range 16384, k m d * (if 256 * j ≤ m then g ^ (m - 256 * j) else 0) * v m = behind g k v j d := by
  have h : ∑ m ∈ Finset.range (256 * j + (16384 - 256 * j)), k m d * (if 256 * j ≤ m then g ^ (m - 256 * j) else 0) * v m
      = behind g k v j d := by
    rw [Finset.sum_range_add, Finset.sum_eq_zero, zero_add, behind]
    · refine Finset.sum_congr rfl fun x _ => ?_
      rw [if_pos (by omega), Nat.add_sub_cancel_left]; ring
    · intro m hm
      have hm := Finset.mem_range.1 hm
      rw [if_neg (by omega)]; ring
  rwa [show 256 * j + (16384 - 256 * j) = 16384 by omega] at h

/-- A real number among the extended reals. -/
def IsReal (x : EReal) : Prop := ∃ r : ℝ, x = (r : EReal)

theorem IsReal.eq {x : EReal} (h : IsReal x) : x = ((x.toReal : ℝ) : EReal) := by
  obtain ⟨r, rfl⟩ := h; rfl
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.sub {x y : EReal} (hx : IsReal x) (hy : IsReal y) : IsReal (x - y) := by
  obtain ⟨r, rfl⟩ := hx; obtain ⟨s, rfl⟩ := hy; exact ⟨r - s, (EReal.coe_sub r s).symm⟩
theorem IsReal.sum {n : ℕ} {f : Fin n → EReal} (h : ∀ i, IsReal (f i)) : IsReal (∑ i, f i) := by
  choose r hr using h
  exact ⟨∑ i, r i, by rw [coe_sum]; exact Finset.sum_congr rfl fun i _ => hr i⟩

theorem width_word : Ideal.ofBits FTy.f32 0x44800000#32 = ((1024 : ℝ) : EReal) := by
  simp [Ideal.ofBits, Ideal.ieee]; rw [← EReal.coe_mul]; norm_num
theorem tiny_word : ∃ e : ℝ, 0 < e ∧ Ideal.ofBits FTy.f32 0x358637BD#32 = (e : EReal) := by
  refine ⟨_, ?_, by simp [Ideal.ofBits, Ideal.ieee]; rw [← EReal.coe_mul]⟩
  positivity

theorem root_real (x : Fin 1024 → EReal) (hx : ∀ i, IsReal (x i)) :
    IsReal (Ideal.rsqrt (Ideal.div (∑ i, x i * x i) (Ideal.ofBits FTy.f32 0x44800000#32) + Ideal.ofBits FTy.f32 0x358637BD#32)) := by
  choose r hr using hx
  obtain ⟨e, he, hw⟩ := tiny_word
  have hs : ∑ i, x i * x i = ((∑ i, r i * r i : ℝ) : EReal) := by
    rw [coe_sum]; exact Finset.sum_congr rfl fun i _ => by rw [hr i, EReal.coe_mul]
  have hp : 0 ≤ ∑ i, r i * r i := Finset.sum_nonneg fun i _ => mul_self_nonneg _
  have h0 : 0 < (∑ i, r i * r i) * (1 / 1024) + e := by positivity
  rw [hs, width_word, Ideal.div_coe (by norm_num), hw, ← EReal.coe_mul, ← EReal.coe_add, Ideal.rsqrt_coe,
    if_neg (not_lt.2 h0.le), if_neg h0.ne']
  exact ⟨_, rfl⟩

theorem proj_real (x w col : Fin 1024 → EReal) (hx : ∀ i, IsReal (x i)) (hw : ∀ i, IsReal (w i)) (hc : ∀ i, IsReal (col i)) :
    IsReal (proj x w col) :=
  IsReal.sum fun k => (((hx k).mul (root_real x hx)).mul (hw k)).mul (hc k)

theorem rot_real (p C S : ℕ → EReal) (o : ℕ) (hp : ∀ i, IsReal (p i)) (hC : ∀ i, IsReal (C i)) (hS : ∀ i, IsReal (S i)) :
    IsReal (rot p C S o) := by
  unfold rot
  split
  · exact ((hp _).mul (hC _)).sub ((hp _).mul (hS _))
  · exact ((hp _).mul (hC _)).add ((hp _).mul (hS _))

end Cert.InRow
end
-- ==== Proof.InState.lean ====
/-
What the projection kernel computes, as functions of its arrays; and that the states it carries from block to
block, last block first, are those of what lies behind each chunk.
-/
module

public import proofs.«01_k».proof.Proof.InPoints
public import proofs.«01_k».proof.Proof.InStep
public import proofs.«01_k».proof.Proof.InMath
public import proofs.«01_k».proof.Proof.Step

@[expose] public section

set_option maxRecDepth 16384

noncomputable section

namespace Cert.InProjIdeal.Inp

open Cert.InProjIdeal Cert.InProjIdeal.Gen Idealize.ShloMosaic Idealize.ShloMosaic.TcCoe Idealize.SL.Sem Cert.Ret Cert.InRow

open Cert.KernelIdeal.Ret (sitofp_ofNat exp_lg_of c256 lg_eq)

/-- Projection `j` of token `i` of batch `b`, at column `e`. -/
def projOf (x : Vec Ideal S2x16384x1024 .f32) (n : Vec Ideal S1x1024 .f32) (w : Vec Ideal S1024x7168 .bf16) (b i j e : ℕ) : EReal :=
  proj (fun k => x (ix3 ⟨b % 2, Nat.mod_lt _ (by decide)⟩ ⟨i % 16384, Nat.mod_lt _ (by decide)⟩ k)) (fun k => n (ix2 0 k))
    (fun k => w (ix2 k (colAt j e)))
/-- The same, rotated by the token's angles. -/
def rotOf (x : Vec Ideal S2x16384x1024 .f32) (n : Vec Ideal S1x1024 .f32) (w : Vec Ideal S1024x7168 .bf16) (C S : Vec Ideal S16384x128 .f32)
    (b i j e : ℕ) : EReal :=
  rot (projOf x n w b i j) (wide fun k => C (ix2 ⟨i % 16384, Nat.mod_lt _ (by decide)⟩ k)) (wide fun k => S (ix2 ⟨i % 16384, Nat.mod_lt _ (by decide)⟩ k)) e
/-- The state of what lies behind chunk `j`: of keys and values as reals. -/
def behindOf (x : Vec Ideal S2x16384x1024 .f32) (n : Vec Ideal S1x1024 .f32) (w : Vec Ideal S1024x7168 .bf16) (C S : Vec Ideal S16384x128 .f32)
    (a : Vec Ideal S4 .f32) (b h j d e : ℕ) : ℝ :=
  behind (gam (par a h)) (fun m d => (rotOf x n w C S b m 1 (256 * h + d)).toReal) (fun m => (projOf x n w b m 2 (256 * h + e)).toReal) j d

/-- A tile, or a matrix, holds these reals. -/
def Holds (x : Vec Ideal S1x256x256 .bf16) (f : ℕ → ℕ → ℝ) : Prop := ∀ i e : Fin 256, x (ix3 0 i e) = ((f i e : ℝ) : EReal)
def HoldsM (x : FVec Ideal S256x256 .f32) (f : ℕ → ℕ → ℝ) : Prop := ∀ i e : Fin 256, x (ix2 i e) = ((f i e : ℝ) : EReal)

theorem stV_holds (st : FVec Ideal S256x256 .f32) (k v Z : Vec Ideal S1x256x256 .bf16) (gc : Vec Ideal S1x1x256 .f32)
    (fs fk fv fZ : ℕ → ℕ → ℝ) (g : ℝ) (hs : HoldsM st fs) (hk : Holds k fk) (hv : Holds v fv) (hZ : Holds Z fZ)
    (hg : ∀ e : Fin 256, gc (ix3 0 0 e) = (g : EReal)) :
    HoldsM (stV st k v Z gc) fun d e => fs d e * g + ∑ x ∈ Finset.range 256, fk x d * (fv x e * fZ x e) := by
  intro i e
  simp only [stV]
  pointwise
  simp only [hs i e, hk _ _, hv _ _, hZ _ _, hg e, ← EReal.coe_mul, ← EReal.coe_add, ← coe_sum, Finset.sum_range]

theorem unwrap_at (x : Vec Ideal S1x256x256 .f32) (i e : Fin 256) : unwrap x (ix2 i e) = x (ix3 0 i e) := by
  simp only [unwrap]; pointwise [k0_pay100]
theorem wrapped_at (x : FVec Ideal S256x256 .f32) (i e : Fin 256) : wrap x (ix3 0 i e) = x (ix2 i e) := by
  simp only [wrap]; pointwise
theorem shown_at (x : FVec Ideal S256x256 .f32) (i e : Fin 256) : shown x (ix5 0 0 0 i e) = x (ix2 i e) := by
  simp only [shown]; pointwise
theorem tZ_holds (a : Elt Ideal .f32) : Holds (tZ a) fun i _ => gam a ^ i := by
  intro i e
  simp only [tZ]
  pointwise [k0_pay5]
  rw [lg_eq, sitofp_ofNat _ (by omega)]
  exact exp_lg_of a _ _ (by simp)
theorem tG_at (a : Elt Ideal .f32) (e : Fin 256) : tG a (ix3 0 0 e) = ((gam a ^ 256 : ℝ) : EReal) := by
  simp only [tG]
  pointwise [k0_pay7, k0_pay6]
  rw [lg_eq, c256]
  exact exp_lg_of a _ _ (by norm_num)

variable (m : (ℓ : Loc nD τ sig) → Buf (Elt Ideal) ℓ) (c : Dev nD)

theorem P_at (t : Fin cfg0.N) (j r e : ℕ) (hr : r < 512) : P (iblk m c 1 t) (iblk m c 2 t) (iblk m c 3 t) j r e
    = projOf (xA m c) (nA m c) (wA m c) (t.val / 32) (512 * (31 - t.val % 32) + r) j e := by
  have ht := t_lt t
  unfold P projOf
  rw [blk2, blk3]
  refine congrArg (fun f => proj f _ _) (funext fun k => (blk1 m c t _ k).trans (congrArg (xA m c) ?_))
  congr 1 <;> apply Fin.ext <;> dsimp only <;> omega

theorem tabs_at (t : Fin cfg0.N) (r : Fin 512) :
    (fun k => iblk m c 4 t (ix2 r k)) = (fun k => cA m c (ix2 ⟨(512 * (31 - t.val % 32) + r.val) % 16384, Nat.mod_lt _ (by decide)⟩ k))
    ∧ (fun k => iblk m c 5 t (ix2 r k)) = (fun k => sA m c (ix2 ⟨(512 * (31 - t.val % 32) + r.val) % 16384, Nat.mod_lt _ (by decide)⟩ k)) := by
  constructor <;> funext k
  · refine (blk4 m c t r k).trans (congrArg (cA m c) ?_)
    congr 1; apply Fin.ext; dsimp only; omega
  · refine (blk5 m c t r k).trans (congrArg (sA m c) ?_)
    congr 1; apply Fin.ext; dsimp only; omega

theorem rot_at (t : Fin cfg0.N) (j : ℕ) (r : Fin 512) (e : ℕ) :
    rot (P (iblk m c 1 t) (iblk m c 2 t) (iblk m c 3 t) j r) (wide fun k => iblk m c 4 t (ix2 r k)) (wide fun k => iblk m c 5 t (ix2 r k)) e
      = rotOf (xA m c) (nA m c) (wA m c) (cA m c) (sA m c) (t.val / 32) (512 * (31 - t.val % 32) + r.val) j e := by
  unfold rotOf
  rw [(tabs_at m c t r).1, (tabs_at m c t r).2]
  refine congrArg (fun p => rot p _ _ e) (funext fun i => ?_)
  exact P_at m c t j r i r.isLt

variable (hk : ∀ b i e, IsReal (rotOf (xA m c) (nA m c) (wA m c) (cA m c) (sA m c) b i 1 e))
  (hv : ∀ b i e, IsReal (projOf (xA m c) (nA m c) (wA m c) b i 2 e))

include hk in
theorem tileK (t : Fin cfg0.N) (ci h : ℕ) (hci : ci < 2) (hh : h < 4) :
    Holds (tile (kBlk (iblk m c 1 t) (iblk m c 2 t) (iblk m c 3 t) (iblk m c 4 t) (iblk m c 5 t)) (256 * ci) (256 * h)) fun i d =>
      (rotOf (xA m c) (nA m c) (wA m c) (cA m c) (sA m c) (t.val / 32) (256 * (2 * (31 - t.val % 32) + ci) + i) 1 (256 * h + d)).toReal := by
  intro i d
  have ht := t_lt t
  refine (kBlk_at _ _ _ _ _ ⟨(256 * ci + i.val) % 512, Nat.mod_lt _ (by decide)⟩ ⟨(256 * h + d.val) % 1024, Nat.mod_lt _ (by decide)⟩).trans ?_
  refine (rot_at m c t 1 _ _).trans ?_
  refine (hk _ _ _).eq.trans ?_
  dsimp only
  rw [show 512 * (31 - t.val % 32) + (256 * ci + i.val) % 512 = 256 * (2 * (31 - t.val % 32) + ci) + i.val by omega,
    show (256 * h + d.val) % 1024 = 256 * h + d.val by omega]

include hv in
theorem tileV (t : Fin cfg0.N) (ci h : ℕ) (hci : ci < 2) (hh : h < 4) :
    Holds (tile (pBlk (iblk m c 1 t) (iblk m c 2 t) (iblk m c 3 t) 2) (256 * ci) (256 * h)) fun i e =>
      (projOf (xA m c) (nA m c) (wA m c) (t.val / 32) (256 * (2 * (31 - t.val % 32) + ci) + i) 2 (256 * h + e)).toReal := by
  intro i d
  have ht := t_lt t
  refine (plainBlk_at _ _ _ 2 ⟨(256 * ci + i.val) % 512, Nat.mod_lt _ (by decide)⟩ ⟨(256 * h + d.val) % 1024, Nat.mod_lt _ (by decide)⟩).trans ?_
  refine (P_at m c t 2 _ _ (Nat.mod_lt _ (by decide))).trans ?_
  refine (hv _ _ _).eq.trans ?_
  dsimp only
  rw [show 512 * (31 - t.val % 32) + (256 * ci + i.val) % 512 = 256 * (2 * (31 - t.val % 32) + ci) + i.val by omega,
    show (256 * h + d.val) % 1024 = 256 * h + d.val by omega]

/-- What lies behind, of the kernel's own arrays. -/
def bSpec (b h j d e : ℕ) : ℝ := behindOf (xA m c) (nA m c) (wA m c) (cA m c) (sA m c) (dA m c) b h j d e

include hk hv in
theorem stN_holds (t : Fin cfg0.N) (h : ℕ) (hh : h < 4) (st : FVec Ideal S256x256 .f32)
    (h0 : HoldsM st fun d e => bSpec m c (t.val / 32) h (64 - 2 * (t.val % 32)) d e) :
    ∀ ci ≤ 2, HoldsM (stN st (kBlk (iblk m c 1 t) (iblk m c 2 t) (iblk m c 3 t) (iblk m c 4 t) (iblk m c 5 t)) (pBlk (iblk m c 1 t) (iblk m c 2 t) (iblk m c 3 t) 2) (Z m c h) (G m c h) h ci)
      fun d e => bSpec m c (t.val / 32) h (64 - 2 * (t.val % 32) - ci) d e
  | 0, _ => h0
  | ci + 1, hci => by
    intro d e
    have step := stV_holds _ _ _ (Z m c h) (G m c h) _ _ _ _ (gam (par (dA m c) h) ^ 256)
      (stN_holds t h hh st h0 ci (by omega))
      (tileK m c hk t (1 - ci) h (by omega) hh) (tileV m c hv t (1 - ci) h (by omega) hh) (tZ_holds (par (dA m c) h))
      (fun e => tG_at (par (dA m c) h) e) d e
    refine step.trans ?_
    congr 1
    have hj : 2 * (31 - t.val % 32) + (1 - ci) = 64 - 2 * (t.val % 32) - (ci + 1) := by omega
    have hj' : 64 - 2 * (t.val % 32) - ci = (64 - 2 * (t.val % 32) - (ci + 1)) + 1 := by omega
    rw [hj, hj']
    exact behind_step (gam (par (dA m c) h)) (fun n d => (rotOf (xA m c) (nA m c) (wA m c) (cA m c) (sA m c) (t.val / 32) n 1 (256 * h + d)).toReal)
      (fun n => (projOf (xA m c) (nA m c) (wA m c) (t.val / 32) n 2 (256 * h + e)).toReal) (64 - 2 * (t.val % 32) - (ci + 1)) d (by omega)

include hk hv in
/-- The states before every point are those of what lies behind. -/
theorem before_holds : ∀ (n : ℕ) (hn : n < cfg0.N) (h : ℕ), h < 4 →
    HoldsM (before m c ⟨n, hn⟩ h) fun d e => bSpec m c (n / 32) h (64 - 2 * (n % 32)) d e := by
  intro n
  induction n with
  | zero =>
    intro hn h hh d e
    rw [before, if_pos (Nat.zero_mod _), unwrap_at]
    simp only [bSpec, behindOf, Nat.zero_mod, Nat.mul_zero, Nat.sub_zero, behind_end, EReal.coe_zero, slab]
    pointwise [k0_pay4]
  | succ n ih =>
    intro hn h hh d e
    by_cases h0 : (n + 1) % 32 = 0
    · rw [before, if_pos h0, unwrap_at]
      simp only [bSpec, behindOf, h0, Nat.mul_zero, Nat.sub_zero, behind_end, EReal.coe_zero, slab]
      pointwise [k0_pay4]
    · have hn' : n < cfg0.N := by omega
      rw [before, if_neg h0, unwrap_at]
      have e1 : (outsAt0 m c ((⟨n + 1, hn⟩ : Fin cfg0.N).val - 1) (Nat.lt_of_le_of_lt (Nat.sub_le _ _) hn)).2.2.2.2.2.2.2.2.1 = after m c ⟨n, hn'⟩ :=
        (at_all m c n hn').st
      rw [e1, after, slab_slabs _ h hh, wrapped_at]
      rw [show (n + 1) / 32 = n / 32 by omega, show 64 - 2 * ((n + 1) % 32) = 64 - 2 * (n % 32) - 2 by omega]
      exact stN_holds m c hk hv ⟨n, hn'⟩ h hh _ (ih hn' h hh) 2 le_rfl d e

end Cert.InProjIdeal.Inp
end
-- ==== Proof.InOut.lean ====
/-
The projection kernel's eight results, read at an index.
-/
module

public import proofs.«01_k».proof.Proof.InState
public import proofs.«01_k».proof.Proof.Gen.InProjIdeal.Value

@[expose] public section

set_option maxRecDepth 16384

noncomputable section

namespace Cert.InProjIdeal.Inp

open Cert.InProjIdeal Cert.InProjIdeal.Gen Idealize.ShloMosaic Idealize.ShloMosaic.TcCoe Idealize.SL.Sem Cert.Ret Cert.InRow

variable (m : (ℓ : Loc nD τ sig) → Buf (Elt Ideal) ℓ) (c : Dev nD)

theorem q_at (b : Fin 2) (n : Fin 16384) (e : Fin 1024) : (dats m 0 c).arrAt 6 cfg0.N (ix3 b n e) = rotOf (xA m c) (nA m c) (wA m c) (cA m c) (sA m c) b n 0 e * Ideal.ofBits FTy.f32 0x3D800000#32 := by
  have ht : b.val * 32 + (31 - n.val / 512) < 64 := by omega
  obtain ⟨t, tv⟩ : ∃ t : Fin cfg0.N, t.val = b.val * 32 + (31 - n.val / 512) := ⟨⟨b.val * 32 + (31 - n.val / 512), lt_of_lt_of_eq ht N_0.symm⟩, rfl⟩
  have h := congrFun (Value.blocks6 m c t (flushes t).1) (ix3 0 ⟨n.val % 512, Nat.mod_lt _ (by decide)⟩ e)
  have hb : (outsAt0 m c t.val t.isLt).1 = qBlk (iblk m c 1 t) (iblk m c 2 t) (iblk m c 3 t) (iblk m c 4 t) (iblk m c 5 t) := (at_all m c t.val t.isLt).q
  rw [Value.flushed6, hb] at h
  obtain ⟨e0, e1, e2, e3, e4, e5, e6, e7, e8, e9, e10, e11, e12, e13⟩ := idx t
  have hp : ((cfg0.win 6).blk t).view.emb (ix3 0 ⟨n.val % 512, Nat.mod_lt _ (by decide)⟩ e) = ix3 b n e := by
    blk_ext [e6]
  have hL : ((cfg0.win 6).blk t).view.read (Elt Ideal) ((dats m 0 c).arrAt 6 cfg0.N) (ix3 0 ⟨n.val % 512, Nat.mod_lt _ (by decide)⟩ e)
      = (dats m 0 c).arrAt 6 cfg0.N (ix3 b n e) := congrArg ((dats m 0 c).arrAt 6 cfg0.N) hp
  rw [hL] at h
  refine h.trans ?_
  refine (qBlk_at _ _ _ _ _ ⟨n.val % 512, Nat.mod_lt _ (by decide)⟩ e).trans ?_
  rw [rot_at]
  have eb : t.val / 32 = b.val := by omega
  have en : 512 * (31 - t.val % 32) + n.val % 512 = n.val := by omega
  simp only [eb, en]

theorem k_at (b : Fin 2) (n : Fin 16384) (e : Fin 1024) : (dats m 0 c).arrAt 7 cfg0.N (ix3 b n e) = rotOf (xA m c) (nA m c) (wA m c) (cA m c) (sA m c) b n 1 e := by
  have ht : b.val * 32 + (31 - n.val / 512) < 64 := by omega
  obtain ⟨t, tv⟩ : ∃ t : Fin cfg0.N, t.val = b.val * 32 + (31 - n.val / 512) := ⟨⟨b.val * 32 + (31 - n.val / 512), lt_of_lt_of_eq ht N_0.symm⟩, rfl⟩
  have h := congrFun (Value.blocks7 m c t (flushes t).2.1) (ix3 0 ⟨n.val % 512, Nat.mod_lt _ (by decide)⟩ e)
  have hb : (outsAt0 m c t.val t.isLt).2.1 = kBlk (iblk m c 1 t) (iblk m c 2 t) (iblk m c 3 t) (iblk m c 4 t) (iblk m c 5 t) := (at_all m c t.val t.isLt).k
  rw [Value.flushed7, hb] at h
  obtain ⟨e0, e1, e2, e3, e4, e5, e6, e7, e8, e9, e10, e11, e12, e13⟩ := idx t
  have hp : ((cfg0.win 7).blk t).view.emb (ix3 0 ⟨n.val % 512, Nat.mod_lt _ (by decide)⟩ e) = ix3 b n e := by
    blk_ext [e7]
  have hL : ((cfg0.win 7).blk t).view.read (Elt Ideal) ((dats m 0 c).arrAt 7 cfg0.N) (ix3 0 ⟨n.val % 512, Nat.mod_lt _ (by decide)⟩ e)
      = (dats m 0 c).arrAt 7 cfg0.N (ix3 b n e) := congrArg ((dats m 0 c).arrAt 7 cfg0.N) hp
  rw [hL] at h
  refine h.trans ?_
  refine (kBlk_at _ _ _ _ _ ⟨n.val % 512, Nat.mod_lt _ (by decide)⟩ e).trans ?_
  rw [rot_at]
  have eb : t.val / 32 = b.val := by omega
  have en : 512 * (31 - t.val % 32) + n.val % 512 = n.val := by omega
  simp only [eb, en]

theorem v_at (b : Fin 2) (n : Fin 16384) (e : Fin 1024) : (dats m 0 c).arrAt 8 cfg0.N (ix3 b n e) = projOf (xA m c) (nA m c) (wA m c) b n 2 e := by
  have ht : b.val * 32 + (31 - n.val / 512) < 64 := by omega
  obtain ⟨t, tv⟩ : ∃ t : Fin cfg0.N, t.val = b.val * 32 + (31 - n.val / 512) := ⟨⟨b.val * 32 + (31 - n.val / 512), lt_of_lt_of_eq ht N_0.symm⟩, rfl⟩
  have h := congrFun (Value.blocks8 m c t (flushes t).2.2.1) (ix3 0 ⟨n.val % 512, Nat.mod_lt _ (by decide)⟩ e)
  have hb : (outsAt0 m c t.val t.isLt).2.2.1 = pBlk (iblk m c 1 t) (iblk m c 2 t) (iblk m c 3 t) 2 := (at_all m c t.val t.isLt).v
  rw [Value.flushed8, hb] at h
  obtain ⟨e0, e1, e2, e3, e4, e5, e6, e7, e8, e9, e10, e11, e12, e13⟩ := idx t
  have hp : ((cfg0.win 8).blk t).view.emb (ix3 0 ⟨n.val % 512, Nat.mod_lt _ (by decide)⟩ e) = ix3 b n e := by
    blk_ext [e8]
  have hL : ((cfg0.win 8).blk t).view.read (Elt Ideal) ((dats m 0 c).arrAt 8 cfg0.N) (ix3 0 ⟨n.val % 512, Nat.mod_lt _ (by decide)⟩ e)
      = (dats m 0 c).arrAt 8 cfg0.N (ix3 b n e) := congrArg ((dats m 0 c).arrAt 8 cfg0.N) hp
  rw [hL] at h
  refine h.trans ?_
  refine (plainBlk_at _ _ _ 2 ⟨n.val % 512, Nat.mod_lt _ (by decide)⟩ e).trans ?_
  rw [P_at m c t _ _ _ (Nat.mod_lt _ (by decide))]
  have eb : t.val / 32 = b.val := by omega
  have en : 512 * (31 - t.val % 32) + n.val % 512 = n.val := by omega
  simp only [eb, en]

theorem g_at (b : Fin 2) (n : Fin 16384) (e : Fin 1024) : (dats m 0 c).arrAt 9 cfg0.N (ix3 b n e) = projOf (xA m c) (nA m c) (wA m c) b n 3 e := by
  have ht : b.val * 32 + (31 - n.val / 512) < 64 := by omega
  obtain ⟨t, tv⟩ : ∃ t : Fin cfg0.N, t.val = b.val * 32 + (31 - n.val / 512) := ⟨⟨b.val * 32 + (31 - n.val / 512), lt_of_lt_of_eq ht N_0.symm⟩, rfl⟩
  have h := congrFun (Value.blocks9 m c t (flushes t).2.2.2.1) (ix3 0 ⟨n.val % 512, Nat.mod_lt _ (by decide)⟩ e)
  have hb : (outsAt0 m c t.val t.isLt).2.2.2.1 = pBlk (iblk m c 1 t) (iblk m c 2 t) (iblk m c 3 t) 3 := (at_all m c t.val t.isLt).g
  rw [Value.flushed9, hb] at h
  obtain ⟨e0, e1, e2, e3, e4, e5, e6, e7, e8, e9, e10, e11, e12, e13⟩ := idx t
  have hp : ((cfg0.win 9).blk t).view.emb (ix3 0 ⟨n.val % 512, Nat.mod_lt _ (by decide)⟩ e) = ix3 b n e := by
    blk_ext [e9]
  have hL : ((cfg0.win 9).blk t).view.read (Elt Ideal) ((dats m 0 c).arrAt 9 cfg0.N) (ix3 0 ⟨n.val % 512, Nat.mod_lt _ (by decide)⟩ e)
      = (dats m 0 c).arrAt 9 cfg0.N (ix3 b n e) := congrArg ((dats m 0 c).arrAt 9 cfg0.N) hp
  rw [hL] at h
  refine h.trans ?_
  refine (plainBlk_at _ _ _ 3 ⟨n.val % 512, Nat.mod_lt _ (by decide)⟩ e).trans ?_
  rw [P_at m c t _ _ _ (Nat.mod_lt _ (by decide))]
  have eb : t.val / 32 = b.val := by omega
  have en : 512 * (31 - t.val % 32) + n.val % 512 = n.val := by omega
  simp only [eb, en]

theorem r_at (b : Fin 2) (n : Fin 16384) (e : Fin 1024) : (dats m 0 c).arrAt 11 cfg0.N (ix3 b n e) = projOf (xA m c) (nA m c) (wA m c) b n 5 e := by
  have ht : b.val * 32 + (31 - n.val / 512) < 64 := by omega
  obtain ⟨t, tv⟩ : ∃ t : Fin cfg0.N, t.val = b.val * 32 + (31 - n.val / 512) := ⟨⟨b.val * 32 + (31 - n.val / 512), lt_of_lt_of_eq ht N_0.symm⟩, rfl⟩
  have h := congrFun (Value.blocks11 m c t (flushes t).2.2.2.2.2.1) (ix3 0 ⟨n.val % 512, Nat.mod_lt _ (by decide)⟩ e)
  have hb : (outsAt0 m c t.val t.isLt).2.2.2.2.2.1 = pBlk (iblk m c 1 t) (iblk m c 2 t) (iblk m c 3 t) 5 := (at_all m c t.val t.isLt).r
  rw [Value.flushed11, hb] at h
  obtain ⟨e0, e1, e2, e3, e4, e5, e6, e7, e8, e9, e10, e11, e12, e13⟩ := idx t
  have hp : ((cfg0.win 11).blk t).view.emb (ix3 0 ⟨n.val % 512, Nat.mod_lt _ (by decide)⟩ e) = ix3 b n e := by
    blk_ext [e11]
  have hL : ((cfg0.win 11).blk t).view.read (Elt Ideal) ((dats m 0 c).arrAt 11 cfg0.N) (ix3 0 ⟨n.val % 512, Nat.mod_lt _ (by decide)⟩ e)
      = (dats m 0 c).arrAt 11 cfg0.N (ix3 b n e) := congrArg ((dats m 0 c).arrAt 11 cfg0.N) hp
  rw [hL] at h
  refine h.trans ?_
  refine (plainBlk_at _ _ _ 5 ⟨n.val % 512, Nat.mod_lt _ (by decide)⟩ e).trans ?_
  rw [P_at m c t _ _ _ (Nat.mod_lt _ (by decide))]
  have eb : t.val / 32 = b.val := by omega
  have en : 512 * (31 - t.val % 32) + n.val % 512 = n.val := by omega
  simp only [eb, en]

theorem f_at (b : Fin 2) (n : Fin 16384) (e : Fin 1024) : (dats m 0 c).arrAt 12 cfg0.N (ix3 b n e) = projOf (xA m c) (nA m c) (wA m c) b n 6 e := by
  have ht : b.val * 32 + (31 - n.val / 512) < 64 := by omega
  obtain ⟨t, tv⟩ : ∃ t : Fin cfg0.N, t.val = b.val * 32 + (31 - n.val / 512) := ⟨⟨b.val * 32 + (31 - n.val / 512), lt_of_lt_of_eq ht N_0.symm⟩, rfl⟩
  have h := congrFun (Value.blocks12 m c t (flushes t).2.2.2.2.2.2.1) (ix3 0 ⟨n.val % 512, Nat.mod_lt _ (by decide)⟩ e)
  have hb : (outsAt0 m c t.val t.isLt).2.2.2.2.2.2.1 = pBlk (iblk m c 1 t) (iblk m c 2 t) (iblk m c 3 t) 6 := (at_all m c t.val t.isLt).f
  rw [Value.flushed12, hb] at h
  obtain ⟨e0, e1, e2, e3, e4, e5, e6, e7, e8, e9, e10, e11, e12, e13⟩ := idx t
  have hp : ((cfg0.win 12).blk t).view.emb (ix3 0 ⟨n.val % 512, Nat.mod_lt _ (by decide)⟩ e) = ix3 b n e := by
    blk_ext [e12]
  have hL : ((cfg0.win 12).blk t).view.read (Elt Ideal) ((dats m 0 c).arrAt 12 cfg0.N) (ix3 0 ⟨n.val % 512, Nat.mod_lt _ (by decide)⟩ e)
      = (dats m 0 c).arrAt 12 cfg0.N (ix3 b n e) := congrArg ((dats m 0 c).arrAt 12 cfg0.N) hp
  rw [hL] at h
  refine h.trans ?_
  refine (plainBlk_at _ _ _ 6 ⟨n.val % 512, Nat.mod_lt _ (by decide)⟩ e).trans ?_
  rw [P_at m c t _ _ _ (Nat.mod_lt _ (by decide))]
  have eb : t.val / 32 = b.val := by omega
  have en : 512 * (31 - t.val % 32) + n.val % 512 = n.val := by omega
  simp only [eb, en]

theorem z_at (b : Fin 2) (n : Fin 16384) (e : Fin 1024) : (dats m 0 c).arrAt 10 cfg0.N (ix3 b n e) = projOf (xA m c) (nA m c) (wA m c) b (256 * (n.val / 256) + 128 * (n.val % 2) + n.val % 256 / 2) 4 e := by
  have ht : b.val * 32 + (31 - n.val / 512) < 64 := by omega
  obtain ⟨t, tv⟩ : ∃ t : Fin cfg0.N, t.val = b.val * 32 + (31 - n.val / 512) := ⟨⟨b.val * 32 + (31 - n.val / 512), lt_of_lt_of_eq ht N_0.symm⟩, rfl⟩
  have h := congrFun (Value.blocks10 m c t (flushes t).2.2.2.2.1) (ix3 0 ⟨n.val % 512, Nat.mod_lt _ (by decide)⟩ e)
  have hb : (outsAt0 m c t.val t.isLt).2.2.2.2.1 = zBlk (iblk m c 1 t) (iblk m c 2 t) (iblk m c 3 t) := (at_all m c t.val t.isLt).z
  rw [Value.flushed10, hb] at h
  obtain ⟨e0, e1, e2, e3, e4, e5, e6, e7, e8, e9, e10, e11, e12, e13⟩ := idx t
  have hp : ((cfg0.win 10).blk t).view.emb (ix3 0 ⟨n.val % 512, Nat.mod_lt _ (by decide)⟩ e) = ix3 b n e := by
    blk_ext [e10]
  have hL : ((cfg0.win 10).blk t).view.read (Elt Ideal) ((dats m 0 c).arrAt 10 cfg0.N) (ix3 0 ⟨n.val % 512, Nat.mod_lt _ (by decide)⟩ e)
      = (dats m 0 c).arrAt 10 cfg0.N (ix3 b n e) := congrArg ((dats m 0 c).arrAt 10 cfg0.N) hp
  rw [hL] at h
  refine h.trans ?_
  refine (zBlk_at _ _ _ ⟨n.val % 512, Nat.mod_lt _ (by decide)⟩ e).trans ?_
  rw [P_at m c t _ _ _ (by dsimp only; omega)]
  have eb : t.val / 32 = b.val := by omega
  have en : 512 * (31 - t.val % 32) + (256 * (n.val % 512 / 256) + 128 * (n.val % 512 % 2) + n.val % 512 % 256 / 2)
      = 256 * (n.val / 256) + 128 * (n.val % 2) + n.val % 256 / 2 := by omega
  simp only [eb, en]

variable (hk : ∀ b i e, IsReal (rotOf (xA m c) (nA m c) (wA m c) (cA m c) (sA m c) b i 1 e))
  (hv : ∀ b i e, IsReal (projOf (xA m c) (nA m c) (wA m c) b i 2 e))

include hk hv in
theorem b_at (b : Fin 2) (j : Fin 64) (h : Fin 4) (d e : Fin 256) : (dats m 0 c).arrAt 13 cfg0.N (ix5 b j h d e)
    = ((bSpec m c b h (j.val + 1) d e : ℝ) : EReal) := by
  have ht : b.val * 32 + (31 - j.val / 2) < 64 := by omega
  obtain ⟨t, tv⟩ : ∃ t : Fin cfg0.N, t.val = b.val * 32 + (31 - j.val / 2) := ⟨⟨b.val * 32 + (31 - j.val / 2), lt_of_lt_of_eq ht N_0.symm⟩, rfl⟩
  have hh := congrFun (Value.blocks13 m c t (flushes t).2.2.2.2.2.2.2) (ix5 0 ⟨j.val % 2, Nat.mod_lt _ (by decide)⟩ h d e)
  have hb : (outsAt0 m c t.val t.isLt).2.2.2.2.2.2.2.1 = behindOut (before m c t) (Z m c) (G m c) (kBlk (iblk m c 1 t) (iblk m c 2 t) (iblk m c 3 t) (iblk m c 4 t) (iblk m c 5 t)) (pBlk (iblk m c 1 t) (iblk m c 2 t) (iblk m c 3 t) 2) := (at_all m c t.val t.isLt).b
  rw [Value.flushed13, hb] at hh
  obtain ⟨e0, e1, e2, e3, e4, e5, e6, e7, e8, e9, e10, e11, e12, e13⟩ := idx t
  have hp : ((cfg0.win 13).blk t).view.emb (ix5 0 ⟨j.val % 2, Nat.mod_lt _ (by decide)⟩ h d e) = ix5 b j h d e := by
    blk_ext [e13]
  have hL : ((cfg0.win 13).blk t).view.read (Elt Ideal) ((dats m 0 c).arrAt 13 cfg0.N) (ix5 0 ⟨j.val % 2, Nat.mod_lt _ (by decide)⟩ h d e)
      = (dats m 0 c).arrAt 13 cfg0.N (ix5 b j h d e) := congrArg ((dats m 0 c).arrAt 13 cfg0.N) hp
  rw [hL] at hh
  refine hh.trans ?_
  refine (shown_at (stN (before m c t h) (kBlk (iblk m c 1 t) (iblk m c 2 t) (iblk m c 3 t) (iblk m c 4 t) (iblk m c 5 t)) (pBlk (iblk m c 1 t) (iblk m c 2 t) (iblk m c 3 t) 2) (Z m c h) (G m c h) h (1 - j.val % 2)) d e).trans ?_
  have st := stN_holds m c hk hv t h h.isLt _ (before_holds m c hk hv t.val t.isLt h h.isLt) (1 - j.val % 2) (by omega) d e
  refine st.trans ?_
  rw [show t.val / 32 = b.val by omega, show 64 - 2 * (t.val % 32) - (1 - j.val % 2) = j.val + 1 by omega]

end Cert.InProjIdeal.Inp
end
-- ==== Proof.InFinite.lean ====
/-
What the projection's precondition says: its arrays hold real numbers.  So the keys and values are real.
-/
module

public import proofs.«01_k».proof.Pre_finite_in
public import proofs.«01_k».proof.Proof.Gen.Pre_finite_in
public import proofs.«01_k».proof.Proof.InState
public import proofs.«01_k».proof.Proof.Finite

@[expose] public section

set_option maxRecDepth 16384

noncomputable section

namespace Cert.Pre_finite_in.Inp

open Cert.Pre_finite_in Idealize.ShloMosaic Cert.InRow

open Cert.Pre_finite.Ret (real_of_word and_one)
open Cert.InProjIdeal.Inp (projOf rotOf)

instance : Subsingleton S_.Idx := ⟨fun a b => funext fun i => i.elim0⟩

theorem real (x : Vec Ideal S2x16384x1024 .f32) (n : Vec Ideal S1x1024 .f32) (w : Vec Ideal S1024x7168 .bf16) (C S : Vec Ideal S16384x128 .f32)
    (a : Vec Ideal S4 .f32) (h : fn (F := Ideal) x n w C S a = fun _ => 1#1) :
    (∀ i, IsReal (x i)) ∧ (∀ i, IsReal (n i)) ∧ (∀ i, IsReal (w i)) ∧ (∀ i, IsReal (C i)) ∧ ∀ i, IsReal (S i) := by
  have h := congrFun h ix0
  simp only [fn, fn_part1] at h
  obtain ⟨h, hS⟩ := and_one _ _ h
  obtain ⟨h, hC⟩ := and_one _ _ h
  obtain ⟨h, hw⟩ := and_one _ _ h
  obtain ⟨hx, hn⟩ := and_one _ _ h
  exact ⟨fun i => ⟨_, real_of_word _ (Host.reduce_andi_all _ _ _ _ _ hx i)⟩, fun i => ⟨_, real_of_word _ (Host.reduce_andi_all _ _ _ _ _ hn i)⟩,
    fun i => ⟨_, real_of_word _ (Host.reduce_andi_all _ _ _ _ _ hw i)⟩, fun i => ⟨_, real_of_word _ (Host.reduce_andi_all _ _ _ _ _ hC i)⟩,
    fun i => ⟨_, real_of_word _ (Host.reduce_andi_all _ _ _ _ _ hS i)⟩⟩

theorem projOf_real (x : Vec Ideal Cert.InProjIdeal.S2x16384x1024 .f32) (n : Vec Ideal Cert.InProjIdeal.S1x1024 .f32) (w : Vec Ideal Cert.InProjIdeal.S1024x7168 .bf16)
    (hx : ∀ i, IsReal (x i)) (hn : ∀ i, IsReal (n i)) (hw : ∀ i, IsReal (w i)) (b i j e : ℕ) : IsReal (projOf x n w b i j e) :=
  proj_real _ _ _ (fun _ => hx _) (fun _ => hn _) (fun _ => hw _)

theorem rotOf_real (x : Vec Ideal Cert.InProjIdeal.S2x16384x1024 .f32) (n : Vec Ideal Cert.InProjIdeal.S1x1024 .f32) (w : Vec Ideal Cert.InProjIdeal.S1024x7168 .bf16)
    (C S : Vec Ideal Cert.InProjIdeal.S16384x128 .f32)
    (hx : ∀ i, IsReal (x i)) (hn : ∀ i, IsReal (n i)) (hw : ∀ i, IsReal (w i)) (hC : ∀ i, IsReal (C i)) (hS : ∀ i, IsReal (S i)) (b i j e : ℕ) :
    IsReal (rotOf x n w C S b i j e) :=
  rot_real _ _ _ _ (projOf_real x n w hx hn hw b i j) (fun _ => hC _) (fun _ => hS _)

end Cert.Pre_finite_in.Inp
end
-- ==== Proof.InRef.lean ====
/-
What the projection's reference computes, read at an index: the same functions of its arrays as the kernel's.
-/
module

public import proofs.«01_k».proof.Proof.Gen.ReferenceInIdeal.Run
public import proofs.«01_k».proof.Proof.InState
public import proofs.«01_k».proof.Proof.RefValue
public import Idealize.ShloMosaic.Lib.Pointwise

@[expose] public section

set_option maxRecDepth 16384

noncomputable section

namespace Cert.ReferenceInIdeal.Inp

open Cert.ReferenceInIdeal Cert.ReferenceInIdeal.Gen Idealize.ShloMosaic Idealize.ShloMosaic.TcCoe Idealize.SL.Sem Cert.Ret Cert.InRow

open Cert.InProjIdeal.Inp (projOf rotOf behindOf)
open Cert.KernelIdeal.Ret (sitofp_ofNat exp_lg_of toInt_ofNat sel_true sel_false)
open Cert.ReferenceIdeal.Ret (sub_of_le sge_of)

/-- The normed tokens against the weights. -/
def projV (x : FVec Ideal S2x16384x1024 .f32) (n : FVec Ideal S1x1024 .f32) (w : FVec Ideal S1024x7168 .bf16) : FVec Ideal S2x16384x7168 .f32 :=
  (Host.dotGeneral dot_S2x16384x1024_S1024x7168_S2x16384x7168_2_0_01_1_n_n none (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![1, 2] bcast_S1x1024_S1x1x1024_1_2 n))) (extf .f32 w bitsLt_bf16_f32))
def part0 (p : FVec Ideal S2x16384x7168 .f32) : FVec Ideal S2x16384x1024 .f32 :=
  (extractStridedSlice S2x16384x1024 ![0, 0, 0] p slices_S2x16384x7168_S2x16384x1024_0_0_0)
def part1 (p : FVec Ideal S2x16384x7168 .f32) : FVec Ideal S2x16384x1024 .f32 :=
  (extractStridedSlice S2x16384x1024 ![0, 0, 1024] p slices_S2x16384x7168_S2x16384x1024_0_0_1024)
def part2 (p : FVec Ideal S2x16384x7168 .f32) : FVec Ideal S2x16384x1024 .f32 :=
  (extractStridedSlice S2x16384x1024 ![0, 0, 2048] p slices_S2x16384x7168_S2x16384x1024_0_0_2048)
def part3 (p : FVec Ideal S2x16384x7168 .f32) : FVec Ideal S2x16384x1024 .f32 :=
  (extractStridedSlice S2x16384x1024 ![0, 0, 3072] p slices_S2x16384x7168_S2x16384x1024_0_0_3072)
def part4 (p : FVec Ideal S2x16384x7168 .f32) : FVec Ideal S2x16384x1024 .f32 :=
  (extractStridedSlice S2x16384x1024 ![0, 0, 4096] p slices_S2x16384x7168_S2x16384x1024_0_0_4096)
def part5 (p : FVec Ideal S2x16384x7168 .f32) : FVec Ideal S2x16384x1024 .f32 :=
  (extractStridedSlice S2x16384x1024 ![0, 0, 5120] p slices_S2x16384x7168_S2x16384x1024_0_0_5120)
def part6 (p : FVec Ideal S2x16384x7168 .f32) : FVec Ideal S2x16384x1024 .f32 :=
  (extractStridedSlice S2x16384x1024 ![0, 0, 6144] p slices_S2x16384x7168_S2x16384x1024_0_0_6144)
/-- The rotation, by heads. -/
def rotV (p : FVec Ideal S2x16384x1024 .f32) (C S : FVec Ideal S16384x128 .f32) : FVec Ideal S2x16384x4x256 .f32 :=
  (concatenate S2x16384x4x256 3 [⟨S2x16384x4x128, (subf (mulf (extractStridedSlice S2x16384x4x128 ![0, 0, 0, 0] (shapeCast _ p shapeCasts_S2x16384x1024_S2x16384x4x256) slices_S2x16384x4x256_S2x16384x4x128_0_0_0_0) (broadcastInDim S2x16384x4x128 ![0, 1, 2, 3] bcast_S1x16384x1x128_S2x16384x4x128_0_1_2_3 (broadcastInDim S1x16384x1x128 ![1, 2, 3] bcast_S16384x1x128_S1x16384x1x128_1_2_3 (broadcastInDim S16384x1x128 ![0, 2] bcast_S16384x128_S16384x1x128_0_2 C)))) (mulf (extractStridedSlice S2x16384x4x128 ![0, 0, 0, 128] (shapeCast _ p shapeCasts_S2x16384x1024_S2x16384x4x256) slices_S2x16384x4x256_S2x16384x4x128_0_0_0_128) (broadcastInDim S2x16384x4x128 ![0, 1, 2, 3] bcast_S1x16384x1x128_S2x16384x4x128_0_1_2_3 (broadcastInDim S1x16384x1x128 ![1, 2, 3] bcast_S16384x1x128_S1x16384x1x128_1_2_3 (broadcastInDim S16384x1x128 ![0, 2] bcast_S16384x128_S16384x1x128_0_2 S)))))⟩, ⟨S2x16384x4x128, (addf (mulf (extractStridedSlice S2x16384x4x128 ![0, 0, 0, 128] (shapeCast _ p shapeCasts_S2x16384x1024_S2x16384x4x256) slices_S2x16384x4x256_S2x16384x4x128_0_0_0_128) (broadcastInDim S2x16384x4x128 ![0, 1, 2, 3] bcast_S1x16384x1x128_S2x16384x4x128_0_1_2_3 (broadcastInDim S1x16384x1x128 ![1, 2, 3] bcast_S16384x1x128_S1x16384x1x128_1_2_3 (broadcastInDim S16384x1x128 ![0, 2] bcast_S16384x128_S16384x1x128_0_2 C)))) (mulf (extractStridedSlice S2x16384x4x128 ![0, 0, 0, 0] (shapeCast _ p shapeCasts_S2x16384x1024_S2x16384x4x256) slices_S2x16384x4x256_S2x16384x4x128_0_0_0_0) (broadcastInDim S2x16384x4x128 ![0, 1, 2, 3] bcast_S1x16384x1x128_S2x16384x4x128_0_1_2_3 (broadcastInDim S1x16384x1x128 ![1, 2, 3] bcast_S16384x1x128_S1x16384x1x128_1_2_3 (broadcastInDim S16384x1x128 ![0, 2] bcast_S16384x128_S16384x1x128_0_2 S)))))⟩] concatenates_S2x16384x4x128_S2x16384x4x128_S2x16384x4x256_d3)
/-- The logarithms of the decay rates, and the weights of all positions for all chunks. -/
def lsp (d : FVec Ideal S4 .f32) : FVec Ideal S4 .f32 :=
  (Host.negf (select (cmpf .une (subf (Host.negf d) (broadcastInDim S4 ![] bcast_S_S4 (constant S_ .f32 0x00000000#32))) (subf (Host.negf d) (broadcastInDim S4 ![] bcast_S_S4 (constant S_ .f32 0x00000000#32)))) (addf (Host.negf d) (broadcastInDim S4 ![] bcast_S_S4 (constant S_ .f32 0x00000000#32))) (addf (maximumf (Host.negf d) (broadcastInDim S4 ![] bcast_S_S4 (constant S_ .f32 0x00000000#32))) (Host.log1p (Host.exp (Host.negf (Host.absf (subf (Host.negf d) (broadcastInDim S4 ![] bcast_S_S4 (constant S_ .f32 0x00000000#32))))))))))
def decayV (l : FVec Ideal S4 .f32) : FVec Ideal S4x64x16384 .f32 :=
  (select (broadcastInDim S4x64x16384 ![1, 2] bcast_S64x16384_S4x64x16384_1_2 (cmpi .sge (iotaInDim S64x16384 32 1) (muli (broadcastInDim S64x16384 ![] bcast_S_S64x16384 (constantI S_ 32 256#32)) (addi (iotaInDim S64x16384 32 0) (broadcastInDim S64x16384 ![] bcast_S_S64x16384 (constantI S_ 32 1#32)))))) (Host.exp (mulf (broadcastInDim S4x64x16384 ![0, 1, 2] bcast_S4x1x1_S4x64x16384_0_1_2 (broadcastInDim S4x1x1 ![0] bcast_S4_S4x1x1_0 l)) (broadcastInDim S4x64x16384 ![0, 1, 2] bcast_S1x64x16384_S4x64x16384_0_1_2 (broadcastInDim S1x64x16384 ![1, 2] bcast_S64x16384_S1x64x16384_1_2 (sitofp .f32 (maxsi (subi (iotaInDim S64x16384 32 1) (muli (broadcastInDim S64x16384 ![] bcast_S_S64x16384 (constantI S_ 32 256#32)) (addi (iotaInDim S64x16384 32 0) (broadcastInDim S64x16384 ![] bcast_S_S64x16384 (constantI S_ 32 1#32))))) (broadcastInDim S64x16384 ![] bcast_S_S64x16384 (constantI S_ 32 0#32)))))))) (broadcastInDim S4x64x16384 ![] bcast_S_S4x64x16384 (id (constant S_ .f32 0x00000000#32))))
/-- Decayed keys against values. -/
def sumV (k v : FVec Ideal S2x16384x4x256 .f32) (u : FVec Ideal S4x64x16384 .f32) : FVec Ideal S2x4x64x256x256 .f32 :=
  (Host.dotGeneral dot_S2x4x64x16384x256_S2x4x16384x256_S2x4x64x256x256_3_2_24_3_01_01 none (mulf (broadcastInDim S2x4x64x16384x256 ![0, 1, 2, 3, 4] bcast_S2x4x1x16384x256_S2x4x64x16384x256_0_1_2_3_4 (broadcastInDim S2x4x1x16384x256 ![0, 1, 3, 4] bcast_S2x4x16384x256_S2x4x1x16384x256_0_1_3_4 (transpose S2x4x16384x256 [0, 2, 1, 3] k transposes_S2x16384x4x256_S2x4x16384x256_0_2_1_3))) (broadcastInDim S2x4x64x16384x256 ![0, 1, 2, 3, 4] bcast_S1x4x64x16384x1_S2x4x64x16384x256_0_1_2_3_4 (broadcastInDim S1x4x64x16384x1 ![1, 2, 3] bcast_S4x64x16384_S1x4x64x16384x1_1_2_3 u))) (transpose S2x4x16384x256 [0, 2, 1, 3] v transposes_S2x16384x4x256_S2x4x16384x256_0_2_1_3))

theorem projV_at (x : FVec Ideal S2x16384x1024 .f32) (n : FVec Ideal S1x1024 .f32) (w : FVec Ideal S1024x7168 .bf16) (b : Fin 2) (i : Fin 16384) (e : Fin 7168) :
    projV x n w (ix3 b i e) = proj (fun k => x (ix3 b i k)) (fun k => n (ix2 0 k)) (fun k => w (ix2 k e)) := by
  simp only [proj, normed]
  pointwise [projV]

theorem part0_at (x : FVec Ideal S2x16384x1024 .f32) (n : FVec Ideal S1x1024 .f32) (w : FVec Ideal S1024x7168 .bf16) (b : Fin 2) (i : Fin 16384) (e : Fin 1024) :
    part0 (projV x n w) (ix3 b i e) = projOf x n w b i 0 e := by
  pointwise [part0]
  refine (projV_at x n w b i _).trans ?_
  unfold projOf colAt
  have hb : (⟨b.val % 2, Nat.mod_lt _ (by decide)⟩ : Fin 2) = b := Fin.ext (Nat.mod_eq_of_lt b.isLt)
  have hi : (⟨i.val % 16384, Nat.mod_lt _ (by decide)⟩ : Fin 16384) = i := Fin.ext (Nat.mod_eq_of_lt i.isLt)
  rw [hb, hi]
  refine congrArg (proj _ _) (funext fun k => congrArg w ?_)
  congr 1
  apply Fin.ext
  dsimp only
  omega

theorem part1_at (x : FVec Ideal S2x16384x1024 .f32) (n : FVec Ideal S1x1024 .f32) (w : FVec Ideal S1024x7168 .bf16) (b : Fin 2) (i : Fin 16384) (e : Fin 1024) :
    part1 (projV x n w) (ix3 b i e) = projOf x n w b i 1 e := by
  pointwise [part1]
  refine (projV_at x n w b i _).trans ?_
  unfold projOf colAt
  have hb : (⟨b.val % 2, Nat.mod_lt _ (by decide)⟩ : Fin 2) = b := Fin.ext (Nat.mod_eq_of_lt b.isLt)
  have hi : (⟨i.val % 16384, Nat.mod_lt _ (by decide)⟩ : Fin 16384) = i := Fin.ext (Nat.mod_eq_of_lt i.isLt)
  rw [hb, hi]
  refine congrArg (proj _ _) (funext fun k => congrArg w ?_)
  congr 1
  apply Fin.ext
  dsimp only
  omega

theorem part2_at (x : FVec Ideal S2x16384x1024 .f32) (n : FVec Ideal S1x1024 .f32) (w : FVec Ideal S1024x7168 .bf16) (b : Fin 2) (i : Fin 16384) (e : Fin 1024) :
    part2 (projV x n w) (ix3 b i e) = projOf x n w b i 2 e := by
  pointwise [part2]
  refine (projV_at x n w b i _).trans ?_
  unfold projOf colAt
  have hb : (⟨b.val % 2, Nat.mod_lt _ (by decide)⟩ : Fin 2) = b := Fin.ext (Nat.mod_eq_of_lt b.isLt)
  have hi : (⟨i.val % 16384, Nat.mod_lt _ (by decide)⟩ : Fin 16384) = i := Fin.ext (Nat.mod_eq_of_lt i.isLt)
  rw [hb, hi]
  refine congrArg (proj _ _) (funext fun k => congrArg w ?_)
  congr 1
  apply Fin.ext
  dsimp only
  omega

theorem part3_at (x : FVec Ideal S2x16384x1024 .f32) (n : FVec Ideal S1x1024 .f32) (w : FVec Ideal S1024x7168 .bf16) (b : Fin 2) (i : Fin 16384) (e : Fin 1024) :
    part3 (projV x n w) (ix3 b i e) = projOf x n w b i 3 e := by
  pointwise [part3]
  refine (projV_at x n w b i _).trans ?_
  unfold projOf colAt
  have hb : (⟨b.val % 2, Nat.mod_lt _ (by decide)⟩ : Fin 2) = b := Fin.ext (Nat.mod_eq_of_lt b.isLt)
  have hi : (⟨i.val % 16384, Nat.mod_lt _ (by decide)⟩ : Fin 16384) = i := Fin.ext (Nat.mod_eq_of_lt i.isLt)
  rw [hb, hi]
  refine congrArg (proj _ _) (funext fun k => congrArg w ?_)
  congr 1
  apply Fin.ext
  dsimp only
  omega

theorem part4_at (x : FVec Ideal S2x16384x1024 .f32) (n : FVec Ideal S1x1024 .f32) (w : FVec Ideal S1024x7168 .bf16) (b : Fin 2) (i : Fin 16384) (e : Fin 1024) :
    part4 (projV x n w) (ix3 b i e) = projOf x n w b i 4 e := by
  pointwise [part4]
  refine (projV_at x n w b i _).trans ?_
  unfold projOf colAt
  have hb : (⟨b.val % 2, Nat.mod_lt _ (by decide)⟩ : Fin 2) = b := Fin.ext (Nat.mod_eq_of_lt b.isLt)
  have hi : (⟨i.val % 16384, Nat.mod_lt _ (by decide)⟩ : Fin 16384) = i := Fin.ext (Nat.mod_eq_of_lt i.isLt)
  rw [hb, hi]
  refine congrArg (proj _ _) (funext fun k => congrArg w ?_)
  congr 1
  apply Fin.ext
  dsimp only
  omega

theorem part5_at (x : FVec Ideal S2x16384x1024 .f32) (n : FVec Ideal S1x1024 .f32) (w : FVec Ideal S1024x7168 .bf16) (b : Fin 2) (i : Fin 16384) (e : Fin 1024) :
    part5 (projV x n w) (ix3 b i e) = projOf x n w b i 5 e := by
  pointwise [part5]
  refine (projV_at x n w b i _).trans ?_
  unfold projOf colAt
  have hb : (⟨b.val % 2, Nat.mod_lt _ (by decide)⟩ : Fin 2) = b := Fin.ext (Nat.mod_eq_of_lt b.isLt)
  have hi : (⟨i.val % 16384, Nat.mod_lt _ (by decide)⟩ : Fin 16384) = i := Fin.ext (Nat.mod_eq_of_lt i.isLt)
  rw [hb, hi]
  refine congrArg (proj _ _) (funext fun k => congrArg w ?_)
  congr 1
  apply Fin.ext
  dsimp only
  omega

theorem part6_at (x : FVec Ideal S2x16384x1024 .f32) (n : FVec Ideal S1x1024 .f32) (w : FVec Ideal S1024x7168 .bf16) (b : Fin 2) (i : Fin 16384) (e : Fin 1024) :
    part6 (projV x n w) (ix3 b i e) = projOf x n w b i 6 e := by
  pointwise [part6]
  refine (projV_at x n w b i _).trans ?_
  unfold projOf colAt
  have hb : (⟨b.val % 2, Nat.mod_lt _ (by decide)⟩ : Fin 2) = b := Fin.ext (Nat.mod_eq_of_lt b.isLt)
  have hi : (⟨i.val % 16384, Nat.mod_lt _ (by decide)⟩ : Fin 16384) = i := Fin.ext (Nat.mod_eq_of_lt i.isLt)
  rw [hb, hi]
  refine congrArg (proj _ _) (funext fun k => congrArg w ?_)
  congr 1
  apply Fin.ext
  dsimp only
  omega

theorem lines_sub (f : ℕ → EReal) (C S : Fin 128 → EReal) {a a' b b' : ℕ} {k k' : Fin 128} (ha : a = a') (hb : b = b') (hk : k = k') :
    f a * C k - f b * S k = f a' * C k' - f b' * S k' := by
  rw [ha, hb, hk]

theorem lines_add (f : ℕ → EReal) (C S : Fin 128 → EReal) {a a' b b' : ℕ} {k k' : Fin 128} (ha : a = a') (hb : b = b') (hk : k = k') :
    f a * C k + f b * S k = f a' * C k' + f b' * S k' := by
  rw [ha, hb, hk]

theorem rotV_at (p : FVec Ideal S2x16384x1024 .f32) (C S : FVec Ideal S16384x128 .f32) (f : ℕ → EReal) (b : Fin 2) (i : Fin 16384) (h : Fin 4) (e : Fin 256)
    (hf : ∀ o : Fin 1024, p (ix3 b i o) = f o) :
    rotV p C S (ix4 b i h e) = rot f (wide fun k => C (ix2 i k)) (wide fun k => S (ix2 i k)) (256 * h.val + e.val) := by
  have he := e.isLt
  have hh := h.isLt
  unfold rot wide
  by_cases hc : e.val < 128
  · rw [if_pos (by omega)]
    pointwise [rotV]
    simp only [hc, dite_true, hf]
    exact lines_sub f (fun k => C (ix2 i k)) (fun k => S (ix2 i k)) (by omega) (by omega) (Fin.ext (by dsimp only; omega))
  · rw [if_neg (by omega)]
    pointwise [rotV]
    simp only [hc, dite_false, hf]
    exact lines_add f (fun k => C (ix2 i k)) (fun k => S (ix2 i k)) (by omega) (by omega) (Fin.ext (by dsimp only; omega))

theorem lsp_at (d : FVec Ideal S4 .f32) (h : Fin 4) : lsp d (ix1 h) = lg (d (ix1 h)) := by
  pointwise [lsp]
  simp only [ne_eq, not_true, if_false]
  exact lg_softplus _

theorem end_of (j : ℕ) (hj : j < 64) : IntOp.muli (256#32 : BitVec 32) (IntOp.addi (BitVec.ofNat 32 j) 1#32) = BitVec.ofNat 32 (256 * (j + 1)) := by
  simp only [IntOp.muli, IntOp.addi]
  apply BitVec.eq_of_toNat_eq
  simp only [BitVec.toNat_mul, BitVec.toNat_add, BitVec.toNat_ofNat]
  omega

theorem ge_of (n k : ℕ) (hn : n < 32768) (hk : k < 32768) :
    IntOp.cmpi CmpIPredicate.sge (BitVec.ofNat 32 n) (BitVec.ofNat 32 k) = BitVec.ofBool (decide (k ≤ n)) := by
  simp only [IntOp.cmpi, BitVec.sle, toInt_ofNat _ (show n < 2147483648 by omega), toInt_ofNat _ (show k < 2147483648 by omega)]; simp

theorem max_of (n : ℕ) (hn : n < 32768) : IntOp.maxsi (BitVec.ofNat 32 n) 0#32 = BitVec.ofNat 32 n := by
  simp only [IntOp.maxsi, BitVec.sle, BitVec.slt, toInt_ofNat _ (show n < 2147483648 by omega)]
  simp
  intro h
  rw [h]

theorem decayV_at (l : FVec Ideal S4 .f32) (h : Fin 4) (j : Fin 64) (n : Fin 16384) (a : EReal) (ha : l (ix1 h) = lg a) :
    decayV l (ix3 h j n) = (((if 256 * (j.val + 1) ≤ n.val then gam a ^ (n.val - 256 * (j.val + 1)) else 0 : ℝ)) : EReal) := by
  pointwise [decayV]
  rw [ha, end_of j j.2, ge_of n _ (by omega) (by omega)]
  by_cases hkn : 256 * (j.val + 1) ≤ n.val
  · rw [if_pos hkn, decide_eq_true hkn, sel_true, IntOp.subi, sub_of_le n _ hkn n.2, max_of _ (by omega)]
    exact exp_lg_of _ _ _ (sitofp_ofNat _ (by omega))
  · rw [if_neg hkn, decide_eq_false hkn, sel_false]
    show Ideal.ofBits FTy.f32 0#32 = _
    simp [Ideal.ofBits, Ideal.ieee]

theorem sumV_at (k v : FVec Ideal S2x16384x4x256 .f32) (u : FVec Ideal S4x64x16384 .f32) (b : Fin 2) (h : Fin 4) (j : Fin 64) (d e : Fin 256) :
    sumV k v u (ix5 b h j d e) = ∑ m, k (ix4 b m h d) * u (ix3 h j m) * v (ix4 b m h e) := by
  pointwise [sumV]

/-- Heads side by side again, scaled or not. -/
def flat (p : FVec Ideal S2x16384x4x256 .f32) : Vec Ideal S2x16384x1024 .bf16 :=
  truncf .bf16 (shapeCast _ p shapeCasts_S2x16384x4x256_S2x16384x1024) bitsLt_bf16_f32
def scaled (p : FVec Ideal S2x16384x4x256 .f32) : FVec Ideal S2x16384x4x256 .f32 :=
  (mulf p (broadcastInDim S2x16384x4x256 ![] bcast_S_S2x16384x4x256 (constant S_ .f32 0x3D800000#32)))
def split4 (p : FVec Ideal S2x16384x1024 .f32) : FVec Ideal S2x16384x4x256 .f32 :=
  shapeCast _ p shapeCasts_S2x16384x1024_S2x16384x4x256
def chunks (p : FVec Ideal S2x4x64x256x256 .f32) : Vec Ideal S2x64x4x256x256 .bf16 :=
  truncf .bf16 (transpose S2x64x4x256x256 [0, 2, 1, 3, 4] p transposes_S2x4x64x256x256_S2x64x4x256x256_0_2_1_3_4) bitsLt_bf16_f32

theorem flat_at (p : FVec Ideal S2x16384x4x256 .f32) (b : Fin 2) (i : Fin 16384) (e : Fin 1024) :
    flat p (ix3 b i e) = p (ix4 b i ⟨e.val / 256, by omega⟩ ⟨e.val % 256, Nat.mod_lt _ (by decide)⟩) := by
  pointwise [flat]
theorem scaled_at (p : FVec Ideal S2x16384x4x256 .f32) (b : Fin 2) (i : Fin 16384) (h : Fin 4) (e : Fin 256) :
    scaled p (ix4 b i h e) = p (ix4 b i h e) * Ideal.ofBits FTy.f32 0x3D800000#32 := by
  pointwise [scaled]
theorem split4_at (p : FVec Ideal S2x16384x1024 .f32) (b : Fin 2) (i : Fin 16384) (h : Fin 4) (e : Fin 256) :
    split4 p (ix4 b i h e) = p (ix3 b i ⟨h.val * 256 + e.val, by omega⟩) := by
  pointwise [split4]
theorem chunks_at (p : FVec Ideal S2x4x64x256x256 .f32) (b : Fin 2) (j : Fin 64) (h : Fin 4) (d e : Fin 256) :
    chunks p (ix5 b j h d e) = p (ix5 b h j d e) := by
  pointwise [chunks]

def pairs (p : FVec Ideal S2x16384x1024 .f32) : FVec Ideal S2x16384x1024 .f32 :=
  extf .f32 (truncf .bf16 (shapeCast _ (transpose S2x64x128x2x1024 [0, 1, 3, 2, 4] (shapeCast _ p shapeCasts_S2x16384x1024_S2x64x2x128x1024) transposes_S2x64x2x128x1024_S2x64x128x2x1024_0_1_3_2_4) shapeCasts_S2x64x128x2x1024_S2x16384x1024) bitsLt_bf16_f32) bitsLt_bf16_f32
theorem pairs_at (p : FVec Ideal S2x16384x1024 .f32) (b : Fin 2) (i : Fin 16384) (e : Fin 1024) :
    pairs p (ix3 b i e) = p (ix3 b ⟨256 * (i.val / 256) + 128 * (i.val % 2) + i.val % 256 / 2, by omega⟩ e) := by
  pointwise [pairs]
  refine congrArg p ?_
  congr 1 <;> apply Fin.ext <;> dsimp only <;> omega

def qV (x : FVec Ideal S2x16384x1024 .f32) (n : FVec Ideal S1x1024 .f32) (w : FVec Ideal S1024x7168 .bf16) (C S : FVec Ideal S16384x128 .f32) : Vec Ideal S2x16384x1024 .bf16 :=
  flat (scaled (rotV (part0 (projV x n w)) C S))
def kV (x : FVec Ideal S2x16384x1024 .f32) (n : FVec Ideal S1x1024 .f32) (w : FVec Ideal S1024x7168 .bf16) (C S : FVec Ideal S16384x128 .f32) : Vec Ideal S2x16384x1024 .bf16 :=
  flat (rotV (part1 (projV x n w)) C S)
def vV (x : FVec Ideal S2x16384x1024 .f32) (n : FVec Ideal S1x1024 .f32) (w : FVec Ideal S1024x7168 .bf16) : Vec Ideal S2x16384x1024 .bf16 :=
  flat (split4 (part2 (projV x n w)))
def gV (x : FVec Ideal S2x16384x1024 .f32) (n : FVec Ideal S1x1024 .f32) (w : FVec Ideal S1024x7168 .bf16) : Vec Ideal S2x16384x1024 .bf16 :=
  truncf .bf16 (part3 (projV x n w)) bitsLt_bf16_f32
def rV (x : FVec Ideal S2x16384x1024 .f32) (n : FVec Ideal S1x1024 .f32) (w : FVec Ideal S1024x7168 .bf16) : Vec Ideal S2x16384x1024 .bf16 :=
  truncf .bf16 (part5 (projV x n w)) bitsLt_bf16_f32
def fV (x : FVec Ideal S2x16384x1024 .f32) (n : FVec Ideal S1x1024 .f32) (w : FVec Ideal S1024x7168 .bf16) : Vec Ideal S2x16384x1024 .bf16 :=
  truncf .bf16 (part6 (projV x n w)) bitsLt_bf16_f32
def sbV (x : FVec Ideal S2x16384x1024 .f32) (n : FVec Ideal S1x1024 .f32) (w : FVec Ideal S1024x7168 .bf16) (C S : FVec Ideal S16384x128 .f32) (d : FVec Ideal S4 .f32) : Vec Ideal S2x64x4x256x256 .bf16 :=
  chunks (sumV (rotV (part1 (projV x n w)) C S) (split4 (part2 (projV x n w))) (decayV (lsp d)))
def zV (x : FVec Ideal S2x16384x1024 .f32) (n : FVec Ideal S1x1024 .f32) (w : FVec Ideal S1024x7168 .bf16) : FVec Ideal S2x16384x1024 .f32 :=
  pairs (part4 (projV x n w))

theorem rot0_at (x : FVec Ideal S2x16384x1024 .f32) (n : FVec Ideal S1x1024 .f32) (w : FVec Ideal S1024x7168 .bf16) (C S : FVec Ideal S16384x128 .f32) (b : Fin 2) (i : Fin 16384) (h : Fin 4) (e : Fin 256) :
    rotV (part0 (projV x n w)) C S (ix4 b i h e) = rotOf x n w C S b i 0 (256 * h.val + e.val) := by
  refine (rotV_at _ C S (projOf x n w b i 0) b i h e fun o => part0_at x n w b i o).trans ?_
  unfold rotOf
  have hi : (⟨i.val % 16384, Nat.mod_lt _ (by decide)⟩ : Fin 16384) = i := Fin.ext (Nat.mod_eq_of_lt i.isLt)
  rw [hi]

theorem rot1_at (x : FVec Ideal S2x16384x1024 .f32) (n : FVec Ideal S1x1024 .f32) (w : FVec Ideal S1024x7168 .bf16) (C S : FVec Ideal S16384x128 .f32) (b : Fin 2) (i : Fin 16384) (h : Fin 4) (e : Fin 256) :
    rotV (part1 (projV x n w)) C S (ix4 b i h e) = rotOf x n w C S b i 1 (256 * h.val + e.val) := by
  refine (rotV_at _ C S (projOf x n w b i 1) b i h e fun o => part1_at x n w b i o).trans ?_
  unfold rotOf
  have hi : (⟨i.val % 16384, Nat.mod_lt _ (by decide)⟩ : Fin 16384) = i := Fin.ext (Nat.mod_eq_of_lt i.isLt)
  rw [hi]

theorem qV_at (x : FVec Ideal S2x16384x1024 .f32) (n : FVec Ideal S1x1024 .f32) (w : FVec Ideal S1024x7168 .bf16) (C S : FVec Ideal S16384x128 .f32) (b : Fin 2) (i : Fin 16384) (e : Fin 1024) : qV x n w C S (ix3 b i e) = rotOf x n w C S b i 0 e * Ideal.ofBits FTy.f32 0x3D800000#32 := by
  unfold qV
  refine (flat_at _ _ _ _).trans ((scaled_at _ _ _ _ _).trans ?_)
  refine congrArg (fun y : EReal => y * Ideal.ofBits FTy.f32 0x3D800000#32) ((rot0_at x n w C S b i _ _).trans ?_)
  exact congrArg (rotOf x n w C S b i 0) (by dsimp only; omega)

theorem kV_at (x : FVec Ideal S2x16384x1024 .f32) (n : FVec Ideal S1x1024 .f32) (w : FVec Ideal S1024x7168 .bf16) (C S : FVec Ideal S16384x128 .f32) (b : Fin 2) (i : Fin 16384) (e : Fin 1024) : kV x n w C S (ix3 b i e) = rotOf x n w C S b i 1 e := by
  unfold kV
  refine (flat_at _ _ _ _).trans ((rot1_at x n w C S b i _ _).trans ?_)
  exact congrArg (rotOf x n w C S b i 1) (by dsimp only; omega)

theorem vV_at (x : FVec Ideal S2x16384x1024 .f32) (n : FVec Ideal S1x1024 .f32) (w : FVec Ideal S1024x7168 .bf16) (b : Fin 2) (i : Fin 16384) (e : Fin 1024) : vV x n w (ix3 b i e) = projOf x n w b i 2 e := by
  unfold vV
  refine (flat_at _ _ _ _).trans ((split4_at _ _ _ _ _).trans ((part2_at x n w b i _).trans ?_))
  exact congrArg (projOf x n w b i 2) (by dsimp only; omega)

theorem gV_at (x : FVec Ideal S2x16384x1024 .f32) (n : FVec Ideal S1x1024 .f32) (w : FVec Ideal S1024x7168 .bf16) (b : Fin 2) (i : Fin 16384) (e : Fin 1024) : gV x n w (ix3 b i e) = projOf x n w b i 3 e := by
  exact part3_at x n w b i e

theorem rV_at (x : FVec Ideal S2x16384x1024 .f32) (n : FVec Ideal S1x1024 .f32) (w : FVec Ideal S1024x7168 .bf16) (b : Fin 2) (i : Fin 16384) (e : Fin 1024) : rV x n w (ix3 b i e) = projOf x n w b i 5 e := by
  exact part5_at x n w b i e

theorem fV_at (x : FVec Ideal S2x16384x1024 .f32) (n : FVec Ideal S1x1024 .f32) (w : FVec Ideal S1024x7168 .bf16) (b : Fin 2) (i : Fin 16384) (e : Fin 1024) : fV x n w (ix3 b i e) = projOf x n w b i 6 e := by
  exact part6_at x n w b i e

theorem zV_at (x : FVec Ideal S2x16384x1024 .f32) (n : FVec Ideal S1x1024 .f32) (w : FVec Ideal S1024x7168 .bf16) (b : Fin 2) (i : Fin 16384) (e : Fin 1024) :
    zV x n w (ix3 b i e) = projOf x n w b (256 * (i.val / 256) + 128 * (i.val % 2) + i.val % 256 / 2) 4 e := by
  have h := i.isLt
  refine (pairs_at _ _ _ _).trans ((part4_at x n w b _ _).trans ?_)
  refine congrArg₂ (fun s t => projOf x n w b s 4 t) ?_ ?_ <;> dsimp only <;> omega

theorem heads2_at (x : FVec Ideal S2x16384x1024 .f32) (n : FVec Ideal S1x1024 .f32) (w : FVec Ideal S1024x7168 .bf16) (b : Fin 2) (i : Fin 16384) (h : Fin 4) (e : Fin 256) :
    split4 (part2 (projV x n w)) (ix4 b i h e) = projOf x n w b i 2 (256 * h.val + e.val) := by
  refine (split4_at _ _ _ _ _).trans ((part2_at x n w b i _).trans ?_)
  exact congrArg (projOf x n w b i 2) (by dsimp only; omega)

/-- What lies behind a chunk, over the reals. -/
theorem sbV_at (x : FVec Ideal S2x16384x1024 .f32) (n : FVec Ideal S1x1024 .f32) (w : FVec Ideal S1024x7168 .bf16) (C S : FVec Ideal S16384x128 .f32) (a : FVec Ideal S4 .f32) (hk : ∀ b i e : ℕ, IsReal (rotOf x n w C S b i 1 e)) (hv : ∀ b i e : ℕ, IsReal (projOf x n w b i 2 e))
    (b : Fin 2) (j : Fin 64) (h : Fin 4) (d e : Fin 256) :
    sbV x n w C S a (ix5 b j h d e) = ((behindOf x n w C S a b h (j.val + 1) d e : ℝ) : EReal) := by
  unfold sbV
  refine (chunks_at _ _ _ _ _ _).trans ((sumV_at _ _ _ b h j d e).trans ?_)
  have hp : lsp a (ix1 h) = lg (Cert.InProjIdeal.Inp.par (F := Ideal) a h) := by
    rw [lsp_at]; unfold Cert.InProjIdeal.Inp.par; simp only [Nat.mod_eq_of_lt h.2, Fin.eta]
  have e1 : ∀ m : Fin 16384, rotV (part1 (projV x n w)) C S (ix4 b m h d) = (((rotOf x n w C S b m 1 (256 * h.val + d.val)).toReal : ℝ) : EReal) :=
    fun m => (rot1_at x n w C S b m h d).trans (hk _ _ _).eq
  have e2 : ∀ m : Fin 16384, split4 (part2 (projV x n w)) (ix4 b m h e)
      = (((projOf x n w b m 2 (256 * h.val + e.val)).toReal : ℝ) : EReal) :=
    fun m => (heads2_at x n w b m h e).trans (hv _ _ _).eq
  simp only [e1, e2, decayV_at _ _ _ _ _ hp, ← EReal.coe_mul, ← coe_sum]
  refine congrArg Real.toEReal ?_
  rw [behindOf, ← behind_all _ _ _ _ _ (show j.val + 1 ≤ 64 by omega), Finset.sum_range]
end Cert.ReferenceInIdeal.Inp
end
-- ==== Proof.InEqual.lean ====
/-
The projection's results, kernel against reference: the same arrays of the same arguments.
-/
module

public import proofs.«01_k».proof.Proof.InOut
public import proofs.«01_k».proof.Proof.InFinite
public import proofs.«01_k».proof.Proof.InRef

@[expose] public section

set_option maxRecDepth 16384

noncomputable section

namespace Cert.InProjIdeal.Inp

open Cert.InProjIdeal Cert.InProjIdeal.Gen Idealize.ShloMosaic Idealize.ShloMosaic.TcCoe Idealize.SL.Sem Cert.Ret Cert.InRow

open Cert.ReferenceInIdeal.Inp (qV kV vV gV zV rV fV sbV)

variable (m : (ℓ : Loc nD τ sig) → Buf (Elt Ideal) ℓ) (c : Dev nD)

theorem q_eq : qV (xA m c) (nA m c) (wA m c) (cA m c) (sA m c) = (dats m 0 c).arrAt 6 cfg0.N := funext fun i => by
  rw [← ix3_eta i]
  exact (Cert.ReferenceInIdeal.Inp.qV_at (xA m c) (nA m c) (wA m c) (cA m c) (sA m c) _ _ _).trans (q_at m c _ _ _).symm
theorem k_eq : kV (xA m c) (nA m c) (wA m c) (cA m c) (sA m c) = (dats m 0 c).arrAt 7 cfg0.N := funext fun i => by
  rw [← ix3_eta i]
  exact (Cert.ReferenceInIdeal.Inp.kV_at (xA m c) (nA m c) (wA m c) (cA m c) (sA m c) _ _ _).trans (k_at m c _ _ _).symm
theorem v_eq : vV (xA m c) (nA m c) (wA m c) = (dats m 0 c).arrAt 8 cfg0.N := funext fun i => by
  rw [← ix3_eta i]
  exact (Cert.ReferenceInIdeal.Inp.vV_at (xA m c) (nA m c) (wA m c) _ _ _).trans (v_at m c _ _ _).symm
theorem g_eq : gV (xA m c) (nA m c) (wA m c) = (dats m 0 c).arrAt 9 cfg0.N := funext fun i => by
  rw [← ix3_eta i]
  exact (Cert.ReferenceInIdeal.Inp.gV_at (xA m c) (nA m c) (wA m c) _ _ _).trans (g_at m c _ _ _).symm
theorem z_eq : zV (xA m c) (nA m c) (wA m c) = (dats m 0 c).arrAt 10 cfg0.N := funext fun i => by
  rw [← ix3_eta i]
  exact (Cert.ReferenceInIdeal.Inp.zV_at (xA m c) (nA m c) (wA m c) _ _ _).trans (z_at m c _ _ _).symm
theorem r_eq : rV (xA m c) (nA m c) (wA m c) = (dats m 0 c).arrAt 11 cfg0.N := funext fun i => by
  rw [← ix3_eta i]
  exact (Cert.ReferenceInIdeal.Inp.rV_at (xA m c) (nA m c) (wA m c) _ _ _).trans (r_at m c _ _ _).symm
theorem f_eq : fV (xA m c) (nA m c) (wA m c) = (dats m 0 c).arrAt 12 cfg0.N := funext fun i => by
  rw [← ix3_eta i]
  exact (Cert.ReferenceInIdeal.Inp.fV_at (xA m c) (nA m c) (wA m c) _ _ _).trans (f_at m c _ _ _).symm

/-- The states need the keys and values to be real. -/
theorem b_eq (hk : ∀ b i e : ℕ, IsReal (rotOf (xA m c) (nA m c) (wA m c) (cA m c) (sA m c) b i 1 e)) (hv : ∀ b i e : ℕ, IsReal (projOf (xA m c) (nA m c) (wA m c) b i 2 e)) :
    sbV (xA m c) (nA m c) (wA m c) (cA m c) (sA m c) (dA m c) = (dats m 0 c).arrAt 13 cfg0.N := funext fun i => by
  rw [← ix5_eta i]
  exact (Cert.ReferenceInIdeal.Inp.sbV_at (xA m c) (nA m c) (wA m c) (cA m c) (sA m c) (dA m c) hk hv _ _ _ _ _).trans (b_at m c hk hv _ _ _ _ _).symm

end Cert.InProjIdeal.Inp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.ReferenceTailIdeal
public import proofs.«01_k».proof.Proof.Gen.ReferenceTailIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.ReferenceInIdeal
public import proofs.«01_k».proof.Proof.Gen.ReferenceInIdeal.Run
public import proofs.«01_k».proof.Proof.Gen.Pre_finite_in
public import proofs.«01_k».proof.Proof.Freq
public import proofs.«01_k».proof.Proof.Finite
public import proofs.«01_k».proof.Proof.TailRef
public import proofs.«01_k».proof.Proof.InEqual
public import Idealize.ShloMosaic.Adequacy
public import Idealize.ShloMosaic.Init

@[expose] public section

noncomputable section

namespace Cert.Proof

open Idealize.ShloMosaic Idealize.SL.Sem Idealize.ShloMosaic.StableHlo Cert.Kernel

/-- The reference declares no semaphore; its arguments stay. -/
theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run m ρ)

/-- Retention and the position transform's second stage: kernel and reference end with the same arrays. -/
theorem algebraic : Cert.algebraic_KernelIdeal_ReferenceIdeal_pre_finite := by
  intro m ρ m' ρ' hpre hagree
  refine ⟨fun c => Cert.KernelIdeal.Value.G8 m c, fun c => Cert.KernelIdeal.Value.G9 m c, Cert.KernelIdeal.Value.run m ρ,
    (θ_run Cert.ReferenceIdeal.defs _ _).mono (fun r h c => ?_) (Cert.ReferenceIdeal.Value.run m' ρ')⟩
  obtain ⟨a0, a1, a2, a3, a4, a5, a6, a7⟩ := hagree c
  obtain ⟨hq, hk, hv, hs⟩ := Cert.Pre_finite.Ret.real _ _ _ _ _ _ _ _ (hpre c)
  refine ⟨(h c).1.trans (funext fun i => ?_), ((h c).2.1.trans (funext fun i => ?_)), (h c).2.2⟩
  · rw [← ix3_eta i]
    refine (Cert.ReferenceIdeal.Ret.ref_ret_at m' c _ _ _ _ _ _ a0 a1 a2 a3 a6 a7 hq hk hv hs _ _ _).trans
      (Cert.KernelIdeal.Ret.ret_at m c hq hk hv hs _ _ _).symm
  · rw [← ix4_eta i]
    refine (congrFun (congrArg₂ Cert.ReferenceIdeal.Ret.refF a4 a5) _).trans ?_
    exact (Cert.ReferenceIdeal.Ret.refF_at _ _ _ _ _ _).trans (Cert.ReferenceIdeal.Ret.ker_freq_at m c _ _ _ _).symm

theorem frame_ref_tail : Cert.quiescent_ReferenceTailIdeal := fun m ρ _ =>
  (θ_run Cert.ReferenceTailIdeal.defs _ _).mono (fun r h => ⟨fun c => (h c).2, Idealize.ShloMosaic.sem_eq_zero_of_no_sems (by decide) r.2⟩)
    (Cert.ReferenceTailIdeal.Value.run m ρ)

/-- The layer's end: kernel and reference end with the same array. -/
theorem algebraic_tail : Cert.algebraic_TailIdeal_ReferenceTailIdeal := by
  intro m ρ m' ρ' hpre hagree
  refine ⟨fun c => (Cert.TailIdeal.Gen.dats m 0 c).arrAt 16 Cert.TailIdeal.cfg0.N, Cert.TailIdeal.Value.run_blocks m ρ,
    (θ_run Cert.ReferenceTailIdeal.defs _ _).mono (fun r h c => ?_) (Cert.ReferenceTailIdeal.Value.run m' ρ')⟩
  obtain ⟨a0, a1, a2, a3, a4, a5, a6, a7, a8, a9, a10, a11, a12, a13, a14, a15⟩ := hagree c
  have h0 : Cert.ReferenceTailIdeal.Tail.B0 (launchContents m' c) = Cert.TailIdeal.Tail.A0 m c := a0
  have h1 : Cert.ReferenceTailIdeal.Tail.B1 (launchContents m' c) = Cert.TailIdeal.Tail.A1 m c := a1
  have h2 : Cert.ReferenceTailIdeal.Tail.B2 (launchContents m' c) = Cert.TailIdeal.Tail.A2 m c := a2
  have h3 : Cert.ReferenceTailIdeal.Tail.B3 (launchContents m' c) = Cert.TailIdeal.Tail.A3 m c := a3
  have h4 : Cert.ReferenceTailIdeal.Tail.B4 (launchContents m' c) = Cert.TailIdeal.Tail.A4 m c := a4
  have h5 : Cert.ReferenceTailIdeal.Tail.B5 (launchContents m' c) = Cert.TailIdeal.Tail.A5 m c := a5
  have h6 : Cert.ReferenceTailIdeal.Tail.B6 (launchContents m' c) = Cert.TailIdeal.Tail.A6 m c := a6
  have h7 : Cert.ReferenceTailIdeal.Tail.B7 (launchContents m' c) = Cert.TailIdeal.Tail.A7 m c := a7
  have h8 : Cert.ReferenceTailIdeal.Tail.B8 (launchContents m' c) = Cert.TailIdeal.Tail.A8 m c := a8
  have h9 : Cert.ReferenceTailIdeal.Tail.B9 (launchContents m' c) = Cert.TailIdeal.Tail.A9 m c := a9
  have h10 : Cert.ReferenceTailIdeal.Tail.B10 (launchContents m' c) = Cert.TailIdeal.Tail.A10 m c := a10
  have h11 : Cert.ReferenceTailIdeal.Tail.B11 (launchContents m' c) = Cert.TailIdeal.Tail.A11 m c := a11
  have h12 : Cert.ReferenceTailIdeal.Tail.B12 (launchContents m' c) = Cert.TailIdeal.Tail.A12 m c := a12
  have h13 : Cert.ReferenceTailIdeal.Tail.B13 (launchContents m' c) = Cert.TailIdeal.Tail.A13 m c := a13
  have h14 : Cert.ReferenceTailIdeal.Tail.B14 (launchContents m' c) = Cert.TailIdeal.Tail.A14 m c := a14
  have h15 : Cert.ReferenceTailIdeal.Tail.B15 (launchContents m' c) = Cert.TailIdeal.Tail.A15 m c := a15
  refine ⟨(h c).1.trans (funext fun i => ?_), (h c).2⟩
  rw [← ix3_eta i]
  refine (Cert.ReferenceTailIdeal.Tail.result_at (launchContents m' c) _ _ _).trans ?_
  rw [h0, h1, h2, h3, h4, h5, h6, h7, h8, h9, h10, h11, h12, h13, h14, h15]
  exact (Cert.TailIdeal.Tail.out_at m c _ _ _).symm

theorem frame_ref_in : Cert.quiescent_ReferenceInIdeal := fun m ρ _ =>
  (θ_run Cert.ReferenceInIdeal.defs _ _).mono (fun r h => ⟨fun c => (h c).2.2.2.2.2.2.2.2, Idealize.ShloMosaic.sem_eq_zero_of_no_sems (by decide) r.2⟩)
    (Cert.ReferenceInIdeal.Value.run m ρ)

/-- The projections and the chunk states: kernel and reference end with the same eight arrays. -/
theorem algebraic_in : Cert.algebraic_InProjIdeal_ReferenceInIdeal_pre_finite_in := by
  intro m ρ m' ρ' hpre hagree
  refine ⟨fun c => (Cert.InProjIdeal.Gen.dats m 0 c).arrAt 6 Cert.InProjIdeal.cfg0.N, fun c => (Cert.InProjIdeal.Gen.dats m 0 c).arrAt 7 Cert.InProjIdeal.cfg0.N, fun c => (Cert.InProjIdeal.Gen.dats m 0 c).arrAt 8 Cert.InProjIdeal.cfg0.N, fun c => (Cert.InProjIdeal.Gen.dats m 0 c).arrAt 9 Cert.InProjIdeal.cfg0.N, fun c => (Cert.InProjIdeal.Gen.dats m 0 c).arrAt 10 Cert.InProjIdeal.cfg0.N, fun c => (Cert.InProjIdeal.Gen.dats m 0 c).arrAt 11 Cert.InProjIdeal.cfg0.N, fun c => (Cert.InProjIdeal.Gen.dats m 0 c).arrAt 12 Cert.InProjIdeal.cfg0.N, fun c => (Cert.InProjIdeal.Gen.dats m 0 c).arrAt 13 Cert.InProjIdeal.cfg0.N,
    Cert.InProjIdeal.Value.run_blocks m ρ, (θ_run Cert.ReferenceInIdeal.defs _ _).mono (fun r h c => ?_) (Cert.ReferenceInIdeal.Value.run m' ρ')⟩
  obtain ⟨a0, a1, a2, a3, a4, a5⟩ := hagree c
  obtain ⟨hx, hn, hw, hC, hS⟩ := Cert.Pre_finite_in.Inp.real _ _ _ _ _ _ (hpre c)
  have hk := fun b i e => Cert.Pre_finite_in.Inp.rotOf_real _ _ _ _ _ hx hn hw hC hS b i 1 e
  have hv := fun b i e => Cert.Pre_finite_in.Inp.projOf_real _ _ _ hx hn hw b i 2 e
  have h0 : m' ((c.tc : Thread Cert.ReferenceInIdeal.nD Cert.ReferenceInIdeal.τ).loc Cert.ReferenceInIdeal.main_arg0) = Cert.InProjIdeal.Inp.xA m c := a0
  have h1 : m' ((c.tc : Thread Cert.ReferenceInIdeal.nD Cert.ReferenceInIdeal.τ).loc Cert.ReferenceInIdeal.main_arg1) = Cert.InProjIdeal.Inp.nA m c := a1
  have h2 : m' ((c.tc : Thread Cert.ReferenceInIdeal.nD Cert.ReferenceInIdeal.τ).loc Cert.ReferenceInIdeal.main_arg2) = Cert.InProjIdeal.Inp.wA m c := a2
  have h3 : m' ((c.tc : Thread Cert.ReferenceInIdeal.nD Cert.ReferenceInIdeal.τ).loc Cert.ReferenceInIdeal.main_arg3) = Cert.InProjIdeal.Inp.cA m c := a3
  have h4 : m' ((c.tc : Thread Cert.ReferenceInIdeal.nD Cert.ReferenceInIdeal.τ).loc Cert.ReferenceInIdeal.main_arg4) = Cert.InProjIdeal.Inp.sA m c := a4
  have h5 : m' ((c.tc : Thread Cert.ReferenceInIdeal.nD Cert.ReferenceInIdeal.τ).loc Cert.ReferenceInIdeal.main_arg5) = Cert.InProjIdeal.Inp.dA m c := a5
  obtain ⟨r0, r1, r2, r3, r4, r5, r6, r7, rest⟩ := h c
  refine ⟨r0.trans ?_, r1.trans ?_, r2.trans ?_, r3.trans ?_, r4.trans ?_, r5.trans ?_, r6.trans ?_, r7.trans ?_, rest⟩
  · refine Eq.trans (show _ = Cert.ReferenceInIdeal.Inp.qV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg4)) from rfl) ?_
    rw [h0, h1, h2, h3, h4]
    exact Cert.InProjIdeal.Inp.q_eq m c
  · refine Eq.trans (show _ = Cert.ReferenceInIdeal.Inp.kV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg4)) from rfl) ?_
    rw [h0, h1, h2, h3, h4]
    exact Cert.InProjIdeal.Inp.k_eq m c
  · refine Eq.trans (show _ = Cert.ReferenceInIdeal.Inp.vV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) from rfl) ?_
    rw [h0, h1, h2]
    exact Cert.InProjIdeal.Inp.v_eq m c
  · refine Eq.trans (show _ = Cert.ReferenceInIdeal.Inp.gV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) from rfl) ?_
    rw [h0, h1, h2]
    exact Cert.InProjIdeal.Inp.g_eq m c
  · refine Eq.trans (show _ = Cert.ReferenceInIdeal.Inp.zV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) from rfl) ?_
    rw [h0, h1, h2]
    exact Cert.InProjIdeal.Inp.z_eq m c
  · refine Eq.trans (show _ = Cert.ReferenceInIdeal.Inp.rV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) from rfl) ?_
    rw [h0, h1, h2]
    exact Cert.InProjIdeal.Inp.r_eq m c
  · refine Eq.trans (show _ = Cert.ReferenceInIdeal.Inp.fV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) from rfl) ?_
    rw [h0, h1, h2]
    exact Cert.InProjIdeal.Inp.f_eq m c
  · refine Eq.trans (show _ = Cert.ReferenceInIdeal.Inp.sbV (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg4)) (m' ((c.tc : Thread Cert.ReferenceInIdeal.nD Cert.ReferenceInIdeal.τ).loc Cert.ReferenceInIdeal.main_arg5)) from rfl) ?_
    rw [h0, h1, h2, h3, h4, h5]
    exact Cert.InProjIdeal.Inp.b_eq m c hk hv

theorem claim : Cert.Claim := ⟨Cert.Kernel.Gen.facts, Cert.KernelIdeal.Gen.facts, Cert.ReferenceIdeal.Gen.facts,
  Cert.Tail.Gen.facts, Cert.TailIdeal.Gen.facts, Cert.ReferenceTailIdeal.Gen.facts,
  Cert.InProj.Gen.facts, Cert.InProjIdeal.Gen.facts, Cert.ReferenceInIdeal.Gen.facts, Cert.Pre_finite.Gen.facts, Cert.Pre_finite_in.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Tail.Gen.frame m ρ,
  fun m ρ _ => Cert.TailIdeal.Gen.frame m ρ,
  frame_ref_tail,
  fun m ρ _ => Cert.InProj.Gen.frame m ρ,
  fun m ρ _ => Cert.InProjIdeal.Gen.frame m ρ,
  fun m ρ _ => Cert.InProjIdeal.Gen.frame m ρ,
  frame_ref_in,
  fun m ρ _ => frame_ref_in m ρ trivial,
  trivial,
  algebraic,
  trivial,
  algebraic_tail,
  trivial,
  algebraic_in⟩

end Cert.Proof

end
